-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x8x128 : S_.BroadcastsInDim S1x1024x8x128 (![] : Fin 0 → Fin S1x1024x8x128.rank)

variable [Facts]

def fn {F : FTy → Type} [FloatOps F] (main_arg0 : FVec F S1x1024x1024 .bf16) (main_arg1 : FVec F S1024x4096 .bf16) (main_arg2 : FVec F S1x1024x8x128 .bf16) (main_arg3 : FVec F S1x1024x8x128 .bf16) (main_arg4 : FVec F S4096x1024 .bf16) : IVec S1x1024x1024 1 × IVec S1024x4096 1 × IVec S1x1024x8x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S1x1024x8x128 .f32 := (extf .f32 · bitsLt_bf16_f32) main_arg2
  let main_v9 : FVec F S1x1024x8x128 .f32 := Host.absf main_v8
  let main_cst_1 : FVec F S_ .f32 := constant S_ .f32 0x7F800000#32
  let main_v10 : FVec F S1x1024x8x128 .f32 := broadcastInDim S1x1024x8x128 ![] bcast_S_S1x1024x8x128 main_cst_1
  let main_v11 : IVec S1x1024x8x128 1 := cmpf .olt main_v9 main_v10
  (main_v3, main_v7, main_v11)
-- ==== Pre_finite_scores_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x32x128 : S_.BroadcastsInDim S1x1024x32x128 (![] : Fin 0 → Fin S1x1024x32x128.rank)

variable [Facts]

def fn {F : FTy → Type} [FloatOps F] (main_arg0 : FVec F S1x1024x1024 .bf16) (main_arg1 : FVec F S1024x4096 .bf16) (main_arg2 : FVec F S1x1024x32x128 .bf16) (main_arg3 : FVec F S1x1024x32x128 .bf16) (main_arg4 : FVec F S4096x1024 .bf16) : IVec S1x1024x1024 1 × IVec S1024x4096 1 × IVec S1x1024x32x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S1x1024x32x128 .f32 := (extf .f32 · bitsLt_bf16_f32) main_arg2
  let main_v9 : FVec F S1x1024x32x128 .f32 := Host.absf main_v8
  let main_cst_1 : FVec F S_ .f32 := constant S_ .f32 0x7F800000#32
  let main_v10 : FVec F S1x1024x32x128 .f32 := broadcastInDim S1x1024x32x128 ![] bcast_S_S1x1024x32x128 main_cst_1
  let main_v11 : IVec S1x1024x32x128 1 := cmpf .olt main_v9 main_v10
  (main_v3, main_v7, main_v11)
-- ==== Kernel.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩
abbrev S1024x1024 : Shape := ⟨2, ![1024, 1024]⟩
abbrev S1024x8x128 : Shape := ⟨3, ![1024, 8, 128]⟩
abbrev S4x256x1024 : Shape := ⟨3, ![4, 256, 1024]⟩
abbrev S4x3x64x1024 : Shape := ⟨4, ![4, 3, 64, 1024]⟩
abbrev S4x64x1024 : Shape := ⟨3, ![4, 64, 1024]⟩
abbrev S4x3 : Shape := ⟨2, ![4, 3]⟩
abbrev S256x256 : Shape := ⟨2, ![256, 256]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128x1024 : Shape := ⟨2, ![128, 1024]⟩
abbrev S1x256x1024 : Shape := ⟨3, ![1, 256, 1024]⟩
abbrev S1x1 : Shape := ⟨2, ![1, 1]⟩
abbrev S1x1x64x1024 : Shape := ⟨4, ![1, 1, 64, 1024]⟩
abbrev S64x1024 : Shape := ⟨2, ![64, 1024]⟩
abbrev S1x64x1024 : Shape := ⟨3, ![1, 64, 1024]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S1024x128 : Shape := ⟨2, ![1024, 128]⟩

abbrev nBuf : Space → Nat
  | .hbm => 35
  | .vmem => 10
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x8x128, .bf16⟩
  | .hbm, ⟨3, _⟩ => ⟨S1x1024x8x128, .bf16⟩
  | .hbm, ⟨4, _⟩ => ⟨S4096x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .bf16⟩
  | .hbm, ⟨30, _⟩ => ⟨S1024x8x128, .bf16⟩
  | .hbm, ⟨31, _⟩ => ⟨S1024x1024, .bf16⟩
  | .hbm, ⟨32, _⟩ => ⟨S1024x8x128, .bf16⟩
  | .hbm, ⟨33, _⟩ => ⟨S1024x1024, .bf16⟩
  | .hbm, ⟨34, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .f32⟩
  | .local _ .vmem, ⟨6, _⟩ => ⟨S4x256x1024, .bf16⟩
  | .local _ .vmem, ⟨7, _⟩ => ⟨S4x3x64x1024, .bf16⟩
  | .local _ .vmem, ⟨8, _⟩ => ⟨S4x64x1024, .bf16⟩
  | .local _ .vmem, ⟨9, _⟩ => ⟨S4x3x64x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_124 : BitVec 32) : Fin 3 → Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v263 : BitVec 32 := Scalar.addi v2 c1_i32_124
  let c4_i32_125 : BitVec 32 := 4#32
  let c0_i32_126 : BitVec 32 := 0#32
  let v264 : BitVec 1 := Scalar.cmpi .eq c4_i32_125 c0_i32_126
  let c1_i32_127 : BitVec 32 := 1#32
  let v265 : BitVec 32 := Scalar.select v264 c1_i32_127 c4_i32_125
  let v266 : BitVec 32 := Scalar.remsi v263 v265
  let c0_i32_129 : BitVec 32 := 0#32
  let v268 : BitVec 1 := Scalar.cmpi .slt v266 c0_i32_129
  let c0_i32_130 : BitVec 32 := 0#32
  let v269 : BitVec 1 := Scalar.cmpi .slt v265 c0_i32_130
  let v270 : BitVec 1 := Scalar.xori v268 v269
  let c0_i32_128 : BitVec 32 := 0#32
  let v267 : BitVec 1 := Scalar.cmpi .ne v266 c0_i32_128
  let v271 : BitVec 1 := Scalar.andi v270 v267
  let v272 : BitVec 32 := Scalar.addi v266 v265
  let v273 : BitVec 32 := Scalar.select v271 v272 v266
  let c64_i32_131 : BitVec 32 := 64#32
  let v274 : BitVec 32 := Scalar.muli v273 c64_i32_131
  let c0_i32_143 : BitVec 32 := 0#32
  ![0, v274.toNat, 0]
def k0_dev4 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v263 : BitVec 32 := Scalar.addi v2 c1_i32_124
  let c4_i32_125 : BitVec 32 := 4#32
  let c0_i32_126 : BitVec 32 := 0#32
  let v264 : BitVec 1 := Scalar.cmpi .eq c4_i32_125 c0_i32_126
  let c1_i32_127 : BitVec 32 := 1#32
  let v265 : BitVec 32 := Scalar.select v264 c1_i32_127 c4_i32_125
  let v266 : BitVec 32 := Scalar.remsi v263 v265
  let c0_i32_129 : BitVec 32 := 0#32
  let v268 : BitVec 1 := Scalar.cmpi .slt v266 c0_i32_129
  let c0_i32_130 : BitVec 32 := 0#32
  let v269 : BitVec 1 := Scalar.cmpi .slt v265 c0_i32_130
  let v270 : BitVec 1 := Scalar.xori v268 v269
  let c0_i32_128 : BitVec 32 := 0#32
  let v267 : BitVec 1 := Scalar.cmpi .ne v266 c0_i32_128
  let v271 : BitVec 1 := Scalar.andi v270 v267
  let v272 : BitVec 32 := Scalar.addi v266 v265
  let v273 : BitVec 32 := Scalar.select v271 v272 v266
  let c1_i32_139 : BitVec 32 := 1#32
  let v275 : BitVec 32 := Scalar.muli v273 c1_i32_139
  let v276 : BitVec 32 := Scalar.addi c0_i32_140 v275
  v276.toNat
def k0_dev5 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_144 : BitVec 32 := 2#32
  let v285 : BitVec 32 := Scalar.addi v2 c2_i32_144
  let c4_i32_145 : BitVec 32 := 4#32
  let c0_i32_146 : BitVec 32 := 0#32
  let v286 : BitVec 1 := Scalar.cmpi .eq c4_i32_145 c0_i32_146
  let c1_i32_147 : BitVec 32 := 1#32
  let v287 : BitVec 32 := Scalar.select v286 c1_i32_147 c4_i32_145
  let v288 : BitVec 32 := Scalar.remsi v285 v287
  let c0_i32_149 : BitVec 32 := 0#32
  let v290 : BitVec 1 := Scalar.cmpi .slt v288 c0_i32_149
  let c0_i32_150 : BitVec 32 := 0#32
  let v291 : BitVec 1 := Scalar.cmpi .slt v287 c0_i32_150
  let v292 : BitVec 1 := Scalar.xori v290 v291
  let c0_i32_148 : BitVec 32 := 0#32
  let v289 : BitVec 1 := Scalar.cmpi .ne v288 c0_i32_148
  let v293 : BitVec 1 := Scalar.andi v292 v289
  let v294 : BitVec 32 := Scalar.addi v288 v287
  let v295 : BitVec 32 := Scalar.select v293 v294 v288
  let c1_i32_159 : BitVec 32 := 1#32
  let v297 : BitVec 32 := Scalar.muli v295 c1_i32_159
  let v298 : BitVec 32 := Scalar.addi c0_i32_160 v297
  v298.toNat
def k0_dev6 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_164 : BitVec 32 := 3#32
  let v307 : BitVec 32 := Scalar.addi v2 c3_i32_164
  let c4_i32_165 : BitVec 32 := 4#32
  let c0_i32_166 : BitVec 32 := 0#32
  let v308 : BitVec 1 := Scalar.cmpi .eq c4_i32_165 c0_i32_166
  let c1_i32_167 : BitVec 32 := 1#32
  let v309 : BitVec 32 := Scalar.select v308 c1_i32_167 c4_i32_165
  let v310 : BitVec 32 := Scalar.remsi v307 v309
  let c0_i32_169 : BitVec 32 := 0#32
  let v312 : BitVec 1 := Scalar.cmpi .slt v310 c0_i32_169
  let c0_i32_170 : BitVec 32 := 0#32
  let v313 : BitVec 1 := Scalar.cmpi .slt v309 c0_i32_170
  let v314 : BitVec 1 := Scalar.xori v312 v313
  let c0_i32_168 : BitVec 32 := 0#32
  let v311 : BitVec 1 := Scalar.cmpi .ne v310 c0_i32_168
  let v315 : BitVec 1 := Scalar.andi v314 v311
  let v316 : BitVec 32 := Scalar.addi v310 v309
  let v317 : BitVec 32 := Scalar.select v315 v316 v310
  let c1_i32_179 : BitVec 32 := 1#32
  let v319 : BitVec 32 := Scalar.muli v317 c1_i32_179
  let v320 : BitVec 32 := Scalar.addi c0_i32_180 v319
  v320.toNat
def k0_off2 (d0 : Dev nD) (c1_i32_268 : BitVec 32) : Fin 3 → Nat :=
  let c1_i32_276 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v489 : BitVec 32 := Scalar.addi v2 c1_i32_268
  let c4_i32_269 : BitVec 32 := 4#32
  let c0_i32_270 : BitVec 32 := 0#32
  let v490 : BitVec 1 := Scalar.cmpi .eq c4_i32_269 c0_i32_270
  let c1_i32_271 : BitVec 32 := 1#32
  let v491 : BitVec 32 := Scalar.select v490 c1_i32_271 c4_i32_269
  let v492 : BitVec 32 := Scalar.remsi v489 v491
  let c0_i32_273 : BitVec 32 := 0#32
  let v494 : BitVec 1 := Scalar.cmpi .slt v492 c0_i32_273
  let c0_i32_274 : BitVec 32 := 0#32
  let v495 : BitVec 1 := Scalar.cmpi .slt v491 c0_i32_274
  let v496 : BitVec 1 := Scalar.xori v494 v495
  let c0_i32_272 : BitVec 32 := 0#32
  let v493 : BitVec 1 := Scalar.cmpi .ne v492 c0_i32_272
  let v497 : BitVec 1 := Scalar.andi v496 v493
  let v498 : BitVec 32 := Scalar.addi v492 v491
  let v499 : BitVec 32 := Scalar.select v497 v498 v492
  let c64_i32_275 : BitVec 32 := 64#32
  let v500 : BitVec 32 := Scalar.muli v499 c64_i32_275
  let c0_i32_287 : BitVec 32 := 0#32
  ![1, v500.toNat, 0]
def k0_dev7 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_268 : BitVec 32 := 1#32
  let v489 : BitVec 32 := Scalar.addi v2 c1_i32_268
  let c4_i32_269 : BitVec 32 := 4#32
  let c0_i32_270 : BitVec 32 := 0#32
  let v490 : BitVec 1 := Scalar.cmpi .eq c4_i32_269 c0_i32_270
  let c1_i32_271 : BitVec 32 := 1#32
  let v491 : BitVec 32 := Scalar.select v490 c1_i32_271 c4_i32_269
  let v492 : BitVec 32 := Scalar.remsi v489 v491
  let c0_i32_273 : BitVec 32 := 0#32
  let v494 : BitVec 1 := Scalar.cmpi .slt v492 c0_i32_273
  let c0_i32_274 : BitVec 32 := 0#32
  let v495 : BitVec 1 := Scalar.cmpi .slt v491 c0_i32_274
  let v496 : BitVec 1 := Scalar.xori v494 v495
  let c0_i32_272 : BitVec 32 := 0#32
  let v493 : BitVec 1 := Scalar.cmpi .ne v492 c0_i32_272
  let v497 : BitVec 1 := Scalar.andi v496 v493
  let v498 : BitVec 32 := Scalar.addi v492 v491
  let v499 : BitVec 32 := Scalar.select v497 v498 v492
  let c1_i32_283 : BitVec 32 := 1#32
  let v501 : BitVec 32 := Scalar.muli v499 c1_i32_283
  let v502 : BitVec 32 := Scalar.addi c0_i32_284 v501
  v502.toNat
def k0_dev8 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_288 : BitVec 32 := 2#32
  let v511 : BitVec 32 := Scalar.addi v2 c2_i32_288
  let c4_i32_289 : BitVec 32 := 4#32
  let c0_i32_290 : BitVec 32 := 0#32
  let v512 : BitVec 1 := Scalar.cmpi .eq c4_i32_289 c0_i32_290
  let c1_i32_291 : BitVec 32 := 1#32
  let v513 : BitVec 32 := Scalar.select v512 c1_i32_291 c4_i32_289
  let v514 : BitVec 32 := Scalar.remsi v511 v513
  let c0_i32_293 : BitVec 32 := 0#32
  let v516 : BitVec 1 := Scalar.cmpi .slt v514 c0_i32_293
  let c0_i32_294 : BitVec 32 := 0#32
  let v517 : BitVec 1 := Scalar.cmpi .slt v513 c0_i32_294
  let v518 : BitVec 1 := Scalar.xori v516 v517
  let c0_i32_292 : BitVec 32 := 0#32
  let v515 : BitVec 1 := Scalar.cmpi .ne v514 c0_i32_292
  let v519 : BitVec 1 := Scalar.andi v518 v515
  let v520 : BitVec 32 := Scalar.addi v514 v513
  let v521 : BitVec 32 := Scalar.select v519 v520 v514
  let c1_i32_303 : BitVec 32 := 1#32
  let v523 : BitVec 32 := Scalar.muli v521 c1_i32_303
  let v524 : BitVec 32 := Scalar.addi c0_i32_304 v523
  v524.toNat
def k0_dev9 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_308 : BitVec 32 := 3#32
  let v533 : BitVec 32 := Scalar.addi v2 c3_i32_308
  let c4_i32_309 : BitVec 32 := 4#32
  let c0_i32_310 : BitVec 32 := 0#32
  let v534 : BitVec 1 := Scalar.cmpi .eq c4_i32_309 c0_i32_310
  let c1_i32_311 : BitVec 32 := 1#32
  let v535 : BitVec 32 := Scalar.select v534 c1_i32_311 c4_i32_309
  let v536 : BitVec 32 := Scalar.remsi v533 v535
  let c0_i32_313 : BitVec 32 := 0#32
  let v538 : BitVec 1 := Scalar.cmpi .slt v536 c0_i32_313
  let c0_i32_314 : BitVec 32 := 0#32
  let v539 : BitVec 1 := Scalar.cmpi .slt v535 c0_i32_314
  let v540 : BitVec 1 := Scalar.xori v538 v539
  let c0_i32_312 : BitVec 32 := 0#32
  let v537 : BitVec 1 := Scalar.cmpi .ne v536 c0_i32_312
  let v541 : BitVec 1 := Scalar.andi v540 v537
  let v542 : BitVec 32 := Scalar.addi v536 v535
  let v543 : BitVec 32 := Scalar.select v541 v542 v536
  let c1_i32_323 : BitVec 32 := 1#32
  let v545 : BitVec 32 := Scalar.muli v543 c1_i32_323
  let v546 : BitVec 32 := Scalar.addi c0_i32_324 v545
  v546.toNat
def k0_off3 (d0 : Dev nD) : Fin 3 → Nat :=
  let c0_329 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_328 : BitVec 32 := 64#32
  let v555 : BitVec 32 := Scalar.muli v2 c64_i32_328
  let v556 : Index := Scalar.indexCast v555
  let c0_330 : Index := 0#32
  ![0, v556.toNat, 0]
def k0_off4 (d0 : Dev nD) (c0_i32_385 : BitVec 32) : Fin 3 → Nat :=
  let c0_386 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_384 : BitVec 32 := 64#32
  let v596 : BitVec 32 := Scalar.muli v2 c64_i32_384
  let v597 : BitVec 32 := Scalar.addi c0_i32_385 v596
  let v598 : Index := Scalar.indexCast v597
  let c0_387 : Index := 0#32
  ![0, v598.toNat, 0]
def k0_dev10 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_391 : BitVec 32 := 1#32
  let v606 : BitVec 32 := Scalar.addi v2 c1_i32_391
  let c4_i32_392 : BitVec 32 := 4#32
  let c0_i32_393 : BitVec 32 := 0#32
  let v607 : BitVec 1 := Scalar.cmpi .eq c4_i32_392 c0_i32_393
  let c1_i32_394 : BitVec 32 := 1#32
  let v608 : BitVec 32 := Scalar.select v607 c1_i32_394 c4_i32_392
  let v609 : BitVec 32 := Scalar.remsi v606 v608
  let c0_i32_396 : BitVec 32 := 0#32
  let v611 : BitVec 1 := Scalar.cmpi .slt v609 c0_i32_396
  let c0_i32_397 : BitVec 32 := 0#32
  let v612 : BitVec 1 := Scalar.cmpi .slt v608 c0_i32_397
  let v613 : BitVec 1 := Scalar.xori v611 v612
  let c0_i32_395 : BitVec 32 := 0#32
  let v610 : BitVec 1 := Scalar.cmpi .ne v609 c0_i32_395
  let v614 : BitVec 1 := Scalar.andi v613 v610
  let v615 : BitVec 32 := Scalar.addi v609 v608
  let v616 : BitVec 32 := Scalar.select v614 v615 v609
  let c1_i32_405 : BitVec 32 := 1#32
  let v617 : BitVec 32 := Scalar.muli v616 c1_i32_405
  let v618 : BitVec 32 := Scalar.addi c0_i32_406 v617
  v618.toNat
def k0_dev11 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_411 : BitVec 32 := 2#32
  let v627 : BitVec 32 := Scalar.addi v2 c2_i32_411
  let c4_i32_412 : BitVec 32 := 4#32
  let c0_i32_413 : BitVec 32 := 0#32
  let v628 : BitVec 1 := Scalar.cmpi .eq c4_i32_412 c0_i32_413
  let c1_i32_414 : BitVec 32 := 1#32
  let v629 : BitVec 32 := Scalar.select v628 c1_i32_414 c4_i32_412
  let v630 : BitVec 32 := Scalar.remsi v627 v629
  let c0_i32_416 : BitVec 32 := 0#32
  let v632 : BitVec 1 := Scalar.cmpi .slt v630 c0_i32_416
  let c0_i32_417 : BitVec 32 := 0#32
  let v633 : BitVec 1 := Scalar.cmpi .slt v629 c0_i32_417
  let v634 : BitVec 1 := Scalar.xori v632 v633
  let c0_i32_415 : BitVec 32 := 0#32
  let v631 : BitVec 1 := Scalar.cmpi .ne v630 c0_i32_415
  let v635 : BitVec 1 := Scalar.andi v634 v631
  let v636 : BitVec 32 := Scalar.addi v630 v629
  let v637 : BitVec 32 := Scalar.select v635 v636 v630
  let c1_i32_425 : BitVec 32 := 1#32
  let v638 : BitVec 32 := Scalar.muli v637 c1_i32_425
  let v639 : BitVec 32 := Scalar.addi c0_i32_426 v638
  v639.toNat
def k0_dev12 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_431 : BitVec 32 := 3#32
  let v648 : BitVec 32 := Scalar.addi v2 c3_i32_431
  let c4_i32_432 : BitVec 32 := 4#32
  let c0_i32_433 : BitVec 32 := 0#32
  let v649 : BitVec 1 := Scalar.cmpi .eq c4_i32_432 c0_i32_433
  let c1_i32_434 : BitVec 32 := 1#32
  let v650 : BitVec 32 := Scalar.select v649 c1_i32_434 c4_i32_432
  let v651 : BitVec 32 := Scalar.remsi v648 v650
  let c0_i32_436 : BitVec 32 := 0#32
  let v653 : BitVec 1 := Scalar.cmpi .slt v651 c0_i32_436
  let c0_i32_437 : BitVec 32 := 0#32
  let v654 : BitVec 1 := Scalar.cmpi .slt v650 c0_i32_437
  let v655 : BitVec 1 := Scalar.xori v653 v654
  let c0_i32_435 : BitVec 32 := 0#32
  let v652 : BitVec 1 := Scalar.cmpi .ne v651 c0_i32_435
  let v656 : BitVec 1 := Scalar.andi v655 v652
  let v657 : BitVec 32 := Scalar.addi v651 v650
  let v658 : BitVec 32 := Scalar.select v656 v657 v651
  let c1_i32_445 : BitVec 32 := 1#32
  let v659 : BitVec 32 := Scalar.muli v658 c1_i32_445
  let v660 : BitVec 32 := Scalar.addi c0_i32_446 v659
  v660.toNat
def k0_off5 (d0 : Dev nD) (c1_i32_536 : BitVec 32) : Fin 3 → Nat :=
  let c2_i32_544 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v829 : BitVec 32 := Scalar.addi v2 c1_i32_536
  let c4_i32_537 : BitVec 32 := 4#32
  let c0_i32_538 : BitVec 32 := 0#32
  let v830 : BitVec 1 := Scalar.cmpi .eq c4_i32_537 c0_i32_538
  let c1_i32_539 : BitVec 32 := 1#32
  let v831 : BitVec 32 := Scalar.select v830 c1_i32_539 c4_i32_537
  let v832 : BitVec 32 := Scalar.remsi v829 v831
  let c0_i32_541 : BitVec 32 := 0#32
  let v834 : BitVec 1 := Scalar.cmpi .slt v832 c0_i32_541
  let c0_i32_542 : BitVec 32 := 0#32
  let v835 : BitVec 1 := Scalar.cmpi .slt v831 c0_i32_542
  let v836 : BitVec 1 := Scalar.xori v834 v835
  let c0_i32_540 : BitVec 32 := 0#32
  let v833 : BitVec 1 := Scalar.cmpi .ne v832 c0_i32_540
  let v837 : BitVec 1 := Scalar.andi v836 v833
  let v838 : BitVec 32 := Scalar.addi v832 v831
  let v839 : BitVec 32 := Scalar.select v837 v838 v832
  let c64_i32_543 : BitVec 32 := 64#32
  let v840 : BitVec 32 := Scalar.muli v839 c64_i32_543
  let c0_i32_555 : BitVec 32 := 0#32
  ![2, v840.toNat, 0]
def k0_dev13 (d0 : Dev nD) : Nat :=
  let c0_i32_552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_536 : BitVec 32 := 1#32
  let v829 : BitVec 32 := Scalar.addi v2 c1_i32_536
  let c4_i32_537 : BitVec 32 := 4#32
  let c0_i32_538 : BitVec 32 := 0#32
  let v830 : BitVec 1 := Scalar.cmpi .eq c4_i32_537 c0_i32_538
  let c1_i32_539 : BitVec 32 := 1#32
  let v831 : BitVec 32 := Scalar.select v830 c1_i32_539 c4_i32_537
  let v832 : BitVec 32 := Scalar.remsi v829 v831
  let c0_i32_541 : BitVec 32 := 0#32
  let v834 : BitVec 1 := Scalar.cmpi .slt v832 c0_i32_541
  let c0_i32_542 : BitVec 32 := 0#32
  let v835 : BitVec 1 := Scalar.cmpi .slt v831 c0_i32_542
  let v836 : BitVec 1 := Scalar.xori v834 v835
  let c0_i32_540 : BitVec 32 := 0#32
  let v833 : BitVec 1 := Scalar.cmpi .ne v832 c0_i32_540
  let v837 : BitVec 1 := Scalar.andi v836 v833
  let v838 : BitVec 32 := Scalar.addi v832 v831
  let v839 : BitVec 32 := Scalar.select v837 v838 v832
  let c1_i32_551 : BitVec 32 := 1#32
  let v841 : BitVec 32 := Scalar.muli v839 c1_i32_551
  let v842 : BitVec 32 := Scalar.addi c0_i32_552 v841
  v842.toNat
def k0_dev14 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_556 : BitVec 32 := 2#32
  let v851 : BitVec 32 := Scalar.addi v2 c2_i32_556
  let c4_i32_557 : BitVec 32 := 4#32
  let c0_i32_558 : BitVec 32 := 0#32
  let v852 : BitVec 1 := Scalar.cmpi .eq c4_i32_557 c0_i32_558
  let c1_i32_559 : BitVec 32 := 1#32
  let v853 : BitVec 32 := Scalar.select v852 c1_i32_559 c4_i32_557
  let v854 : BitVec 32 := Scalar.remsi v851 v853
  let c0_i32_561 : BitVec 32 := 0#32
  let v856 : BitVec 1 := Scalar.cmpi .slt v854 c0_i32_561
  let c0_i32_562 : BitVec 32 := 0#32
  let v857 : BitVec 1 := Scalar.cmpi .slt v853 c0_i32_562
  let v858 : BitVec 1 := Scalar.xori v856 v857
  let c0_i32_560 : BitVec 32 := 0#32
  let v855 : BitVec 1 := Scalar.cmpi .ne v854 c0_i32_560
  let v859 : BitVec 1 := Scalar.andi v858 v855
  let v860 : BitVec 32 := Scalar.addi v854 v853
  let v861 : BitVec 32 := Scalar.select v859 v860 v854
  let c1_i32_571 : BitVec 32 := 1#32
  let v863 : BitVec 32 := Scalar.muli v861 c1_i32_571
  let v864 : BitVec 32 := Scalar.addi c0_i32_572 v863
  v864.toNat
def k0_dev15 (d0 : Dev nD) : Nat :=
  let c0_i32_592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_576 : BitVec 32 := 3#32
  let v873 : BitVec 32 := Scalar.addi v2 c3_i32_576
  let c4_i32_577 : BitVec 32 := 4#32
  let c0_i32_578 : BitVec 32 := 0#32
  let v874 : BitVec 1 := Scalar.cmpi .eq c4_i32_577 c0_i32_578
  let c1_i32_579 : BitVec 32 := 1#32
  let v875 : BitVec 32 := Scalar.select v874 c1_i32_579 c4_i32_577
  let v876 : BitVec 32 := Scalar.remsi v873 v875
  let c0_i32_581 : BitVec 32 := 0#32
  let v878 : BitVec 1 := Scalar.cmpi .slt v876 c0_i32_581
  let c0_i32_582 : BitVec 32 := 0#32
  let v879 : BitVec 1 := Scalar.cmpi .slt v875 c0_i32_582
  let v880 : BitVec 1 := Scalar.xori v878 v879
  let c0_i32_580 : BitVec 32 := 0#32
  let v877 : BitVec 1 := Scalar.cmpi .ne v876 c0_i32_580
  let v881 : BitVec 1 := Scalar.andi v880 v877
  let v882 : BitVec 32 := Scalar.addi v876 v875
  let v883 : BitVec 32 := Scalar.select v881 v882 v876
  let c1_i32_591 : BitVec 32 := 1#32
  let v885 : BitVec 32 := Scalar.muli v883 c1_i32_591
  let v886 : BitVec 32 := Scalar.addi c0_i32_592 v885
  v886.toNat
def k0_off6 (d0 : Dev nD) : Fin 3 → Nat :=
  let c1_597 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_596 : BitVec 32 := 64#32
  let v895 : BitVec 32 := Scalar.muli v2 c64_i32_596
  let v896 : Index := Scalar.indexCast v895
  let c0_598 : Index := 0#32
  ![1, v896.toNat, 0]
def k0_dev16 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_659 : BitVec 32 := 1#32
  let v946 : BitVec 32 := Scalar.addi v2 c1_i32_659
  let c4_i32_660 : BitVec 32 := 4#32
  let c0_i32_661 : BitVec 32 := 0#32
  let v947 : BitVec 1 := Scalar.cmpi .eq c4_i32_660 c0_i32_661
  let c1_i32_662 : BitVec 32 := 1#32
  let v948 : BitVec 32 := Scalar.select v947 c1_i32_662 c4_i32_660
  let v949 : BitVec 32 := Scalar.remsi v946 v948
  let c0_i32_664 : BitVec 32 := 0#32
  let v951 : BitVec 1 := Scalar.cmpi .slt v949 c0_i32_664
  let c0_i32_665 : BitVec 32 := 0#32
  let v952 : BitVec 1 := Scalar.cmpi .slt v948 c0_i32_665
  let v953 : BitVec 1 := Scalar.xori v951 v952
  let c0_i32_663 : BitVec 32 := 0#32
  let v950 : BitVec 1 := Scalar.cmpi .ne v949 c0_i32_663
  let v954 : BitVec 1 := Scalar.andi v953 v950
  let v955 : BitVec 32 := Scalar.addi v949 v948
  let v956 : BitVec 32 := Scalar.select v954 v955 v949
  let c1_i32_673 : BitVec 32 := 1#32
  let v957 : BitVec 32 := Scalar.muli v956 c1_i32_673
  let v958 : BitVec 32 := Scalar.addi c0_i32_674 v957
  v958.toNat
def k0_dev17 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_679 : BitVec 32 := 2#32
  let v967 : BitVec 32 := Scalar.addi v2 c2_i32_679
  let c4_i32_680 : BitVec 32 := 4#32
  let c0_i32_681 : BitVec 32 := 0#32
  let v968 : BitVec 1 := Scalar.cmpi .eq c4_i32_680 c0_i32_681
  let c1_i32_682 : BitVec 32 := 1#32
  let v969 : BitVec 32 := Scalar.select v968 c1_i32_682 c4_i32_680
  let v970 : BitVec 32 := Scalar.remsi v967 v969
  let c0_i32_684 : BitVec 32 := 0#32
  let v972 : BitVec 1 := Scalar.cmpi .slt v970 c0_i32_684
  let c0_i32_685 : BitVec 32 := 0#32
  let v973 : BitVec 1 := Scalar.cmpi .slt v969 c0_i32_685
  let v974 : BitVec 1 := Scalar.xori v972 v973
  let c0_i32_683 : BitVec 32 := 0#32
  let v971 : BitVec 1 := Scalar.cmpi .ne v970 c0_i32_683
  let v975 : BitVec 1 := Scalar.andi v974 v971
  let v976 : BitVec 32 := Scalar.addi v970 v969
  let v977 : BitVec 32 := Scalar.select v975 v976 v970
  let c1_i32_693 : BitVec 32 := 1#32
  let v978 : BitVec 32 := Scalar.muli v977 c1_i32_693
  let v979 : BitVec 32 := Scalar.addi c0_i32_694 v978
  v979.toNat
def k0_dev18 (d0 : Dev nD) : Nat :=
  let c0_i32_714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_699 : BitVec 32 := 3#32
  let v988 : BitVec 32 := Scalar.addi v2 c3_i32_699
  let c4_i32_700 : BitVec 32 := 4#32
  let c0_i32_701 : BitVec 32 := 0#32
  let v989 : BitVec 1 := Scalar.cmpi .eq c4_i32_700 c0_i32_701
  let c1_i32_702 : BitVec 32 := 1#32
  let v990 : BitVec 32 := Scalar.select v989 c1_i32_702 c4_i32_700
  let v991 : BitVec 32 := Scalar.remsi v988 v990
  let c0_i32_704 : BitVec 32 := 0#32
  let v993 : BitVec 1 := Scalar.cmpi .slt v991 c0_i32_704
  let c0_i32_705 : BitVec 32 := 0#32
  let v994 : BitVec 1 := Scalar.cmpi .slt v990 c0_i32_705
  let v995 : BitVec 1 := Scalar.xori v993 v994
  let c0_i32_703 : BitVec 32 := 0#32
  let v992 : BitVec 1 := Scalar.cmpi .ne v991 c0_i32_703
  let v996 : BitVec 1 := Scalar.andi v995 v992
  let v997 : BitVec 32 := Scalar.addi v991 v990
  let v998 : BitVec 32 := Scalar.select v996 v997 v991
  let c1_i32_713 : BitVec 32 := 1#32
  let v999 : BitVec 32 := Scalar.muli v998 c1_i32_713
  let v1000 : BitVec 32 := Scalar.addi c0_i32_714 v999
  v1000.toNat
def k0_off7 (d0 : Dev nD) (c1_i32_803 : BitVec 32) : Fin 3 → Nat :=
  let c3_i32_811 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1169 : BitVec 32 := Scalar.addi v2 c1_i32_803
  let c4_i32_804 : BitVec 32 := 4#32
  let c0_i32_805 : BitVec 32 := 0#32
  let v1170 : BitVec 1 := Scalar.cmpi .eq c4_i32_804 c0_i32_805
  let c1_i32_806 : BitVec 32 := 1#32
  let v1171 : BitVec 32 := Scalar.select v1170 c1_i32_806 c4_i32_804
  let v1172 : BitVec 32 := Scalar.remsi v1169 v1171
  let c0_i32_808 : BitVec 32 := 0#32
  let v1174 : BitVec 1 := Scalar.cmpi .slt v1172 c0_i32_808
  let c0_i32_809 : BitVec 32 := 0#32
  let v1175 : BitVec 1 := Scalar.cmpi .slt v1171 c0_i32_809
  let v1176 : BitVec 1 := Scalar.xori v1174 v1175
  let c0_i32_807 : BitVec 32 := 0#32
  let v1173 : BitVec 1 := Scalar.cmpi .ne v1172 c0_i32_807
  let v1177 : BitVec 1 := Scalar.andi v1176 v1173
  let v1178 : BitVec 32 := Scalar.addi v1172 v1171
  let v1179 : BitVec 32 := Scalar.select v1177 v1178 v1172
  let c64_i32_810 : BitVec 32 := 64#32
  let v1180 : BitVec 32 := Scalar.muli v1179 c64_i32_810
  let c0_i32_822 : BitVec 32 := 0#32
  ![3, v1180.toNat, 0]
def k0_dev19 (d0 : Dev nD) : Nat :=
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_803 : BitVec 32 := 1#32
  let v1169 : BitVec 32 := Scalar.addi v2 c1_i32_803
  let c4_i32_804 : BitVec 32 := 4#32
  let c0_i32_805 : BitVec 32 := 0#32
  let v1170 : BitVec 1 := Scalar.cmpi .eq c4_i32_804 c0_i32_805
  let c1_i32_806 : BitVec 32 := 1#32
  let v1171 : BitVec 32 := Scalar.select v1170 c1_i32_806 c4_i32_804
  let v1172 : BitVec 32 := Scalar.remsi v1169 v1171
  let c0_i32_808 : BitVec 32 := 0#32
  let v1174 : BitVec 1 := Scalar.cmpi .slt v1172 c0_i32_808
  let c0_i32_809 : BitVec 32 := 0#32
  let v1175 : BitVec 1 := Scalar.cmpi .slt v1171 c0_i32_809
  let v1176 : BitVec 1 := Scalar.xori v1174 v1175
  let c0_i32_807 : BitVec 32 := 0#32
  let v1173 : BitVec 1 := Scalar.cmpi .ne v1172 c0_i32_807
  let v1177 : BitVec 1 := Scalar.andi v1176 v1173
  let v1178 : BitVec 32 := Scalar.addi v1172 v1171
  let v1179 : BitVec 32 := Scalar.select v1177 v1178 v1172
  let c1_i32_818 : BitVec 32 := 1#32
  let v1181 : BitVec 32 := Scalar.muli v1179 c1_i32_818
  let v1182 : BitVec 32 := Scalar.addi c0_i32_819 v1181
  v1182.toNat
def k0_dev20 (d0 : Dev nD) : Nat :=
  let c0_i32_839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_823 : BitVec 32 := 2#32
  let v1191 : BitVec 32 := Scalar.addi v2 c2_i32_823
  let c4_i32_824 : BitVec 32 := 4#32
  let c0_i32_825 : BitVec 32 := 0#32
  let v1192 : BitVec 1 := Scalar.cmpi .eq c4_i32_824 c0_i32_825
  let c1_i32_826 : BitVec 32 := 1#32
  let v1193 : BitVec 32 := Scalar.select v1192 c1_i32_826 c4_i32_824
  let v1194 : BitVec 32 := Scalar.remsi v1191 v1193
  let c0_i32_828 : BitVec 32 := 0#32
  let v1196 : BitVec 1 := Scalar.cmpi .slt v1194 c0_i32_828
  let c0_i32_829 : BitVec 32 := 0#32
  let v1197 : BitVec 1 := Scalar.cmpi .slt v1193 c0_i32_829
  let v1198 : BitVec 1 := Scalar.xori v1196 v1197
  let c0_i32_827 : BitVec 32 := 0#32
  let v1195 : BitVec 1 := Scalar.cmpi .ne v1194 c0_i32_827
  let v1199 : BitVec 1 := Scalar.andi v1198 v1195
  let v1200 : BitVec 32 := Scalar.addi v1194 v1193
  let v1201 : BitVec 32 := Scalar.select v1199 v1200 v1194
  let c1_i32_838 : BitVec 32 := 1#32
  let v1203 : BitVec 32 := Scalar.muli v1201 c1_i32_838
  let v1204 : BitVec 32 := Scalar.addi c0_i32_839 v1203
  v1204.toNat
def k0_dev21 (d0 : Dev nD) : Nat :=
  let c0_i32_859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_843 : BitVec 32 := 3#32
  let v1213 : BitVec 32 := Scalar.addi v2 c3_i32_843
  let c4_i32_844 : BitVec 32 := 4#32
  let c0_i32_845 : BitVec 32 := 0#32
  let v1214 : BitVec 1 := Scalar.cmpi .eq c4_i32_844 c0_i32_845
  let c1_i32_846 : BitVec 32 := 1#32
  let v1215 : BitVec 32 := Scalar.select v1214 c1_i32_846 c4_i32_844
  let v1216 : BitVec 32 := Scalar.remsi v1213 v1215
  let c0_i32_848 : BitVec 32 := 0#32
  let v1218 : BitVec 1 := Scalar.cmpi .slt v1216 c0_i32_848
  let c0_i32_849 : BitVec 32 := 0#32
  let v1219 : BitVec 1 := Scalar.cmpi .slt v1215 c0_i32_849
  let v1220 : BitVec 1 := Scalar.xori v1218 v1219
  let c0_i32_847 : BitVec 32 := 0#32
  let v1217 : BitVec 1 := Scalar.cmpi .ne v1216 c0_i32_847
  let v1221 : BitVec 1 := Scalar.andi v1220 v1217
  let v1222 : BitVec 32 := Scalar.addi v1216 v1215
  let v1223 : BitVec 32 := Scalar.select v1221 v1222 v1216
  let c1_i32_858 : BitVec 32 := 1#32
  let v1225 : BitVec 32 := Scalar.muli v1223 c1_i32_858
  let v1226 : BitVec 32 := Scalar.addi c0_i32_859 v1225
  v1226.toNat
def k0_off8 (d0 : Dev nD) : Fin 3 → Nat :=
  let c2_864 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_863 : BitVec 32 := 64#32
  let v1235 : BitVec 32 := Scalar.muli v2 c64_i32_863
  let v1236 : Index := Scalar.indexCast v1235
  let c0_865 : Index := 0#32
  ![2, v1236.toNat, 0]
def k0_dev22 (d0 : Dev nD) : Nat :=
  let c0_i32_941 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_926 : BitVec 32 := 1#32
  let v1286 : BitVec 32 := Scalar.addi v2 c1_i32_926
  let c4_i32_927 : BitVec 32 := 4#32
  let c0_i32_928 : BitVec 32 := 0#32
  let v1287 : BitVec 1 := Scalar.cmpi .eq c4_i32_927 c0_i32_928
  let c1_i32_929 : BitVec 32 := 1#32
  let v1288 : BitVec 32 := Scalar.select v1287 c1_i32_929 c4_i32_927
  let v1289 : BitVec 32 := Scalar.remsi v1286 v1288
  let c0_i32_931 : BitVec 32 := 0#32
  let v1291 : BitVec 1 := Scalar.cmpi .slt v1289 c0_i32_931
  let c0_i32_932 : BitVec 32 := 0#32
  let v1292 : BitVec 1 := Scalar.cmpi .slt v1288 c0_i32_932
  let v1293 : BitVec 1 := Scalar.xori v1291 v1292
  let c0_i32_930 : BitVec 32 := 0#32
  let v1290 : BitVec 1 := Scalar.cmpi .ne v1289 c0_i32_930
  let v1294 : BitVec 1 := Scalar.andi v1293 v1290
  let v1295 : BitVec 32 := Scalar.addi v1289 v1288
  let v1296 : BitVec 32 := Scalar.select v1294 v1295 v1289
  let c1_i32_940 : BitVec 32 := 1#32
  let v1297 : BitVec 32 := Scalar.muli v1296 c1_i32_940
  let v1298 : BitVec 32 := Scalar.addi c0_i32_941 v1297
  v1298.toNat
def k0_dev23 (d0 : Dev nD) : Nat :=
  let c0_i32_961 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_946 : BitVec 32 := 2#32
  let v1307 : BitVec 32 := Scalar.addi v2 c2_i32_946
  let c4_i32_947 : BitVec 32 := 4#32
  let c0_i32_948 : BitVec 32 := 0#32
  let v1308 : BitVec 1 := Scalar.cmpi .eq c4_i32_947 c0_i32_948
  let c1_i32_949 : BitVec 32 := 1#32
  let v1309 : BitVec 32 := Scalar.select v1308 c1_i32_949 c4_i32_947
  let v1310 : BitVec 32 := Scalar.remsi v1307 v1309
  let c0_i32_951 : BitVec 32 := 0#32
  let v1312 : BitVec 1 := Scalar.cmpi .slt v1310 c0_i32_951
  let c0_i32_952 : BitVec 32 := 0#32
  let v1313 : BitVec 1 := Scalar.cmpi .slt v1309 c0_i32_952
  let v1314 : BitVec 1 := Scalar.xori v1312 v1313
  let c0_i32_950 : BitVec 32 := 0#32
  let v1311 : BitVec 1 := Scalar.cmpi .ne v1310 c0_i32_950
  let v1315 : BitVec 1 := Scalar.andi v1314 v1311
  let v1316 : BitVec 32 := Scalar.addi v1310 v1309
  let v1317 : BitVec 32 := Scalar.select v1315 v1316 v1310
  let c1_i32_960 : BitVec 32 := 1#32
  let v1318 : BitVec 32 := Scalar.muli v1317 c1_i32_960
  let v1319 : BitVec 32 := Scalar.addi c0_i32_961 v1318
  v1319.toNat
def k0_dev24 (d0 : Dev nD) : Nat :=
  let c0_i32_981 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_966 : BitVec 32 := 3#32
  let v1328 : BitVec 32 := Scalar.addi v2 c3_i32_966
  let c4_i32_967 : BitVec 32 := 4#32
  let c0_i32_968 : BitVec 32 := 0#32
  let v1329 : BitVec 1 := Scalar.cmpi .eq c4_i32_967 c0_i32_968
  let c1_i32_969 : BitVec 32 := 1#32
  let v1330 : BitVec 32 := Scalar.select v1329 c1_i32_969 c4_i32_967
  let v1331 : BitVec 32 := Scalar.remsi v1328 v1330
  let c0_i32_971 : BitVec 32 := 0#32
  let v1333 : BitVec 1 := Scalar.cmpi .slt v1331 c0_i32_971
  let c0_i32_972 : BitVec 32 := 0#32
  let v1334 : BitVec 1 := Scalar.cmpi .slt v1330 c0_i32_972
  let v1335 : BitVec 1 := Scalar.xori v1333 v1334
  let c0_i32_970 : BitVec 32 := 0#32
  let v1332 : BitVec 1 := Scalar.cmpi .ne v1331 c0_i32_970
  let v1336 : BitVec 1 := Scalar.andi v1335 v1332
  let v1337 : BitVec 32 := Scalar.addi v1331 v1330
  let v1338 : BitVec 32 := Scalar.select v1336 v1337 v1331
  let c1_i32_980 : BitVec 32 := 1#32
  let v1339 : BitVec 32 := Scalar.muli v1338 c1_i32_980
  let v1340 : BitVec 32 := Scalar.addi c0_i32_981 v1339
  v1340.toNat
def k0_off9 (d0 : Dev nD) : Fin 3 → Nat :=
  let c3_987 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_986 : BitVec 32 := 64#32
  let v1349 : BitVec 32 := Scalar.muli v2 c64_i32_986
  let v1350 : Index := Scalar.indexCast v1349
  let c0_988 : Index := 0#32
  ![3, v1350.toNat, 0]
def k0_dev25 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1049 : BitVec 32 := 1#32
  let v1400 : BitVec 32 := Scalar.addi v2 c1_i32_1049
  let c4_i32_1050 : BitVec 32 := 4#32
  let c0_i32_1051 : BitVec 32 := 0#32
  let v1401 : BitVec 1 := Scalar.cmpi .eq c4_i32_1050 c0_i32_1051
  let c1_i32_1052 : BitVec 32 := 1#32
  let v1402 : BitVec 32 := Scalar.select v1401 c1_i32_1052 c4_i32_1050
  let v1403 : BitVec 32 := Scalar.remsi v1400 v1402
  let c0_i32_1054 : BitVec 32 := 0#32
  let v1405 : BitVec 1 := Scalar.cmpi .slt v1403 c0_i32_1054
  let c0_i32_1055 : BitVec 32 := 0#32
  let v1406 : BitVec 1 := Scalar.cmpi .slt v1402 c0_i32_1055
  let v1407 : BitVec 1 := Scalar.xori v1405 v1406
  let c0_i32_1053 : BitVec 32 := 0#32
  let v1404 : BitVec 1 := Scalar.cmpi .ne v1403 c0_i32_1053
  let v1408 : BitVec 1 := Scalar.andi v1407 v1404
  let v1409 : BitVec 32 := Scalar.addi v1403 v1402
  let v1410 : BitVec 32 := Scalar.select v1408 v1409 v1403
  let c1_i32_1063 : BitVec 32 := 1#32
  let v1411 : BitVec 32 := Scalar.muli v1410 c1_i32_1063
  let v1412 : BitVec 32 := Scalar.addi c0_i32_1064 v1411
  v1412.toNat
def k0_dev26 (d0 : Dev nD) : Nat :=
  let c0_i32_1084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1069 : BitVec 32 := 2#32
  let v1421 : BitVec 32 := Scalar.addi v2 c2_i32_1069
  let c4_i32_1070 : BitVec 32 := 4#32
  let c0_i32_1071 : BitVec 32 := 0#32
  let v1422 : BitVec 1 := Scalar.cmpi .eq c4_i32_1070 c0_i32_1071
  let c1_i32_1072 : BitVec 32 := 1#32
  let v1423 : BitVec 32 := Scalar.select v1422 c1_i32_1072 c4_i32_1070
  let v1424 : BitVec 32 := Scalar.remsi v1421 v1423
  let c0_i32_1074 : BitVec 32 := 0#32
  let v1426 : BitVec 1 := Scalar.cmpi .slt v1424 c0_i32_1074
  let c0_i32_1075 : BitVec 32 := 0#32
  let v1427 : BitVec 1 := Scalar.cmpi .slt v1423 c0_i32_1075
  let v1428 : BitVec 1 := Scalar.xori v1426 v1427
  let c0_i32_1073 : BitVec 32 := 0#32
  let v1425 : BitVec 1 := Scalar.cmpi .ne v1424 c0_i32_1073
  let v1429 : BitVec 1 := Scalar.andi v1428 v1425
  let v1430 : BitVec 32 := Scalar.addi v1424 v1423
  let v1431 : BitVec 32 := Scalar.select v1429 v1430 v1424
  let c1_i32_1083 : BitVec 32 := 1#32
  let v1432 : BitVec 32 := Scalar.muli v1431 c1_i32_1083
  let v1433 : BitVec 32 := Scalar.addi c0_i32_1084 v1432
  v1433.toNat
def k0_dev27 (d0 : Dev nD) : Nat :=
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1089 : BitVec 32 := 3#32
  let v1442 : BitVec 32 := Scalar.addi v2 c3_i32_1089
  let c4_i32_1090 : BitVec 32 := 4#32
  let c0_i32_1091 : BitVec 32 := 0#32
  let v1443 : BitVec 1 := Scalar.cmpi .eq c4_i32_1090 c0_i32_1091
  let c1_i32_1092 : BitVec 32 := 1#32
  let v1444 : BitVec 32 := Scalar.select v1443 c1_i32_1092 c4_i32_1090
  let v1445 : BitVec 32 := Scalar.remsi v1442 v1444
  let c0_i32_1094 : BitVec 32 := 0#32
  let v1447 : BitVec 1 := Scalar.cmpi .slt v1445 c0_i32_1094
  let c0_i32_1095 : BitVec 32 := 0#32
  let v1448 : BitVec 1 := Scalar.cmpi .slt v1444 c0_i32_1095
  let v1449 : BitVec 1 := Scalar.xori v1447 v1448
  let c0_i32_1093 : BitVec 32 := 0#32
  let v1446 : BitVec 1 := Scalar.cmpi .ne v1445 c0_i32_1093
  let v1450 : BitVec 1 := Scalar.andi v1449 v1446
  let v1451 : BitVec 32 := Scalar.addi v1445 v1444
  let v1452 : BitVec 32 := Scalar.select v1450 v1451 v1445
  let c1_i32_1103 : BitVec 32 := 1#32
  let v1453 : BitVec 32 := Scalar.muli v1452 c1_i32_1103
  let v1454 : BitVec 32 := Scalar.addi c0_i32_1104 v1453
  v1454.toNat
def k0_off10 (d0 : Dev nD) (c0_i32_1132 : BitVec 32) (c0_i32_1123 : BitVec 32) : Fin 3 → Nat :=
  let c0_1137 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1471 : BitVec 32 := Scalar.addi v2 c0_i32_1123
  let c1_i32_1124 : BitVec 32 := 1#32
  let v1472 : BitVec 32 := Scalar.addi v1471 c1_i32_1124
  let c4_i32_1125 : BitVec 32 := 4#32
  let c0_i32_1126 : BitVec 32 := 0#32
  let v1473 : BitVec 1 := Scalar.cmpi .eq c4_i32_1125 c0_i32_1126
  let c1_i32_1127 : BitVec 32 := 1#32
  let v1474 : BitVec 32 := Scalar.select v1473 c1_i32_1127 c4_i32_1125
  let v1475 : BitVec 32 := Scalar.remsi v1472 v1474
  let c0_i32_1129 : BitVec 32 := 0#32
  let v1477 : BitVec 1 := Scalar.cmpi .slt v1475 c0_i32_1129
  let c0_i32_1130 : BitVec 32 := 0#32
  let v1478 : BitVec 1 := Scalar.cmpi .slt v1474 c0_i32_1130
  let v1479 : BitVec 1 := Scalar.xori v1477 v1478
  let c0_i32_1128 : BitVec 32 := 0#32
  let v1476 : BitVec 1 := Scalar.cmpi .ne v1475 c0_i32_1128
  let v1480 : BitVec 1 := Scalar.andi v1479 v1476
  let v1481 : BitVec 32 := Scalar.addi v1475 v1474
  let v1482 : BitVec 32 := Scalar.select v1480 v1481 v1475
  let c64_i32_1131 : BitVec 32 := 64#32
  let v1483 : BitVec 32 := Scalar.muli v1482 c64_i32_1131
  let v1484 : BitVec 32 := Scalar.addi c0_i32_1132 v1483
  let v1488 : Index := Scalar.indexCast v1484
  let c0_1138 : Index := 0#32
  ![0, v1488.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 94
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x32x128, .bf16⟩
  | .hbm, ⟨3, _⟩ => ⟨S1x1024x32x128, .bf16⟩
  | .hbm, ⟨4, _⟩ => ⟨S4096x1024, .bf16⟩
  | .hbm, ⟨5, _⟩ => ⟨S1x1024x1024, .f32⟩
  | .hbm, ⟨6, _⟩ => ⟨S1024x4096, .f32⟩
  | .hbm, ⟨7, _⟩ => ⟨S1x1024x32x128, .f32⟩
  | .hbm, ⟨8, _⟩ => ⟨S1x1024x32x128, .f32⟩
  | .hbm, ⟨9, _⟩ => ⟨S4096x1024, .f32⟩
  | .hbm, ⟨10, _⟩ => ⟨S1x1024x4096, .f32⟩
  | .hbm, ⟨11, _⟩ => ⟨S1x1024x32x128, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1x1024, .i32⟩
  | .hbm, ⟨52, _⟩ => ⟨S1024x1024, .i32⟩
  | .hbm, ⟨53, _⟩ => ⟨S1024x1024, .i32⟩
  | .hbm, ⟨54, _⟩ => ⟨S1024x1024, .i1⟩
  | .hbm, ⟨55, _⟩ => ⟨S1x32x1024x1024, .f32⟩
  | .hbm, ⟨56, _⟩ => ⟨S_, .f32⟩
  | .hbm, ⟨57, _⟩ => ⟨S1x32x1024x1024, .f32⟩
  | .hbm, ⟨58, _⟩ => ⟨S1x32x1024x1024, .f32⟩
  | .hbm, ⟨59, _⟩ => ⟨S1x1x1024x1024, .i1⟩
  | .hbm, ⟨60, _⟩ => ⟨S_, .f32⟩
  | .hbm, ⟨61, _⟩ => ⟨S_, .f32⟩
  | .hbm, ⟨62, _⟩ => ⟨S1x32x1024x1024, .i1⟩
  | .hbm, ⟨63, _⟩ => ⟨S1x32x1024x1024, .f32⟩
  | .hbm, ⟨64, _⟩ => ⟨S1x32x1024x1024, .f32⟩
  | .hbm, ⟨65, _⟩ => ⟨S_, .f32⟩
  | .hbm, ⟨66, _⟩ => ⟨S1x32x1024, .f32⟩
  | .hbm, ⟨67, _⟩ => ⟨S1x32x1024x1, .f32⟩
  | .hbm, ⟨68, _⟩ => ⟨S1x32x1024x1024, .f32⟩
  | .hbm, ⟨69, _⟩ => ⟨S1x32x1024x1024, .f32⟩
  | .hbm, ⟨70, _⟩ => ⟨S1x32x1024x1024, .f32⟩
  | .hbm, ⟨71, _⟩ => ⟨S_, .i1⟩
  | .hbm, ⟨72, _⟩ => ⟨S1024, .i1⟩
  | .hbm, ⟨73, _⟩ => ⟨S1x1x1024x1, .i1⟩
  | .hbm, ⟨74, _⟩ => ⟨S_, .f32⟩
  | .hbm, ⟨75, _⟩ => ⟨S1x32x1024, .f32⟩
  | .hbm, ⟨76, _⟩ => ⟨S1x32x1024x1, .f32⟩
  | .hbm, ⟨77, _⟩ => ⟨S_, .f32⟩
  | .hbm, ⟨78, _⟩ => ⟨S_, .f32⟩
  | .hbm, ⟨79, _⟩ => ⟨S1x32x1024x1, .i1⟩
  | .hbm, ⟨80, _⟩ => ⟨S1x32x1024x1, .f32⟩
  | .hbm, ⟨81, _⟩ => ⟨S1x32x1024x1, .f32⟩
  | .hbm, ⟨82, _⟩ => ⟨S1x32x1024x1024, .f32⟩
  | .hbm, ⟨83, _⟩ => ⟨S1x32x1024x1024, .f32⟩
  | .hbm, ⟨84, _⟩ => ⟨S1x1x1024x1, .i1⟩
  | .hbm, ⟨85, _⟩ => ⟨S_, .f32⟩
  | .hbm, ⟨86, _⟩ => ⟨S_, .f32⟩
  | .hbm, ⟨87, _⟩ => ⟨S1x32x1024x1024, .i1⟩
  | .hbm, ⟨88, _⟩ => ⟨S1x32x1024x1024, .f32⟩
  | .hbm, ⟨89, _⟩ => ⟨S1x32x1024x1024, .f32⟩
  | .hbm, ⟨90, _⟩ => ⟨S1x32x128x1024, .f32⟩
  | .hbm, ⟨91, _⟩ => ⟨S1x1024x32x128, .f32⟩
  | .hbm, ⟨92, _⟩ => ⟨S1x1024x4096, .f32⟩
  | .hbm, ⟨93, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]

def κ : String → Option EReal := fun
  | "mask" => some ⊥
  | _ => none
-- ==== Proof.Spec.lean ====
/-
  The values the kernel computes, named apart from the program text.

  Device `d` holds its own columns of `Wq`, its own heads of `K` and `V` and its own rows of `Wo`. From those and
  the shared `x` it computes, chunk by chunk of 256 query rows, a partial product: the attention context of its
  eight heads through its rows of `Wo`. The result is the sum of the four devices' partial products. Each device
  sums the 64 rows of every chunk it is responsible for, and every device gathers the sums.
-/
module

public import proofs.«01_k».proof.Proof.Gen.KernelIdeal.Skeleton
public import Idealize.ShloMosaic.Lib.ValueLayout

@[expose] public section

noncomputable section

namespace Cert.KernelIdeal.Own

open Idealize.ShloMosaic Idealize.ShloMosaic.TcCoe Idealize.ShloMosaic.ValueIdx
open Cert.KernelIdeal Cert.KernelIdeal.Gen

variable {F : FTy → Type} [FloatOps F] [Named F]

/-- What one device's kernel is given: `x`, its columns of `Wq`, its heads of `K` and `V` (a row per position, a
    block of 128 columns per head), its rows of `Wo`. -/
structure Ins (F : FTy → Type) where
  /-- The tokens. -/
  x : Vec F S1024x1024 .bf16
  /-- The device's columns of the query projection. -/
  wq : Vec F S1024x1024 .bf16
  /-- The device's heads of the keys. -/
  k : Vec F S1024x1024 .bf16
  /-- The device's heads of the values. -/
  v : Vec F S1024x1024 .bf16
  /-- The device's rows of the output projection. -/
  wo : Vec F S1024x1024 .bf16

/-- A rectangle of a staged 1024×1024 buffer, as a load returns it. -/
abbrev ld (M : Memref sig .tc .vmem S1024x1024 .bf16) (f : M.view.ty.Contents (Elt F)) (off size : Fin 2 → ℕ)
    (inb : ∀ a, off a + size a ≤ S1024x1024.size a) :=
  M.view.readAt (Elt F) (Rect.unit (s := S1024x1024) off size inb).toLoadRect f

/-- The five staging buffers the kernel reads. -/
abbrev mX : Memref sig .tc .vmem S1024x1024 .bf16 := Memref.whole cc0_stg0_0
abbrev mQ : Memref sig .tc .vmem S1024x1024 .bf16 := Memref.whole cc0_stg1_0
abbrev mK : Memref sig .tc .vmem S1024x1024 .bf16 := Memref.whole cc0_stg2_0
abbrev mV : Memref sig .tc .vmem S1024x1024 .bf16 := Memref.whole cc0_stg3_0
abbrev mW : Memref sig .tc .vmem S1024x1024 .bf16 := Memref.whole cc0_stg4_0

/-- The scaled queries of the device's heads. -/
def qOf (I : Ins F) : FVec F S1024x1024 .bf16 :=
  k0_pay1 (ld mX I.x ![0, 0] S1024x1024.size inb_S1024x1024_S1024x1024_0_0) (ld mQ I.wq ![0, 0] S1024x1024.size inb_S1024x1024_S1024x1024_0_0)

/-- What is added to the scores of a diagonal 256×256 block: nothing where the key's block of 64 is not after the
    query's, the mask's value elsewhere. -/
def maskV : FVec F S256x256 .f32 := k0_pay5 (F := F) k0_pay2 k0_pay3 k0_pay4

/-- Head `h`'s context: the weighted sum of the values over the sum of the weights, a weight the exponential of the
    biased score. -/
def headCtx {m : ℕ} (dk : DotDims S256x128 ⟨2, ![m, 128]⟩ ⟨2, ![256, m]⟩) (dv : DotDims ⟨2, ![256, m]⟩ ⟨2, ![m, 128]⟩ S256x128)
    (red : (⟨2, ![256, m]⟩ : Shape).Reduces [1] S256) (cast : (⟨2, ![m, 128]⟩ : Shape).ShapeCasts ⟨2, ![m, 128]⟩)
    (bias : FVec F ⟨2, ![256, m]⟩ .f32) (qh : FVec F S256x128 .bf16) (kh vh : Vec F ⟨2, ![m, 128]⟩ .bf16) : FVec F S256x128 .bf16 :=
  let e : FVec F ⟨2, ![256, m]⟩ .f32 := exp (addf (matmul dk none qh (shapeCast ⟨2, ![m, 128]⟩ kh cast) (constant ⟨2, ![256, m]⟩ .f32 0x00000000#32)) bias)
  truncf .bf16 (divf (matmul dv none (truncf .bf16 e bitsLt_bf16_f32) (shapeCast ⟨2, ![m, 128]⟩ vh cast) (constant S256x128 .f32 0x00000000#32))
    (broadcastTo S256x128 (shapeCast S256x1 (multiReduction .add [1] S256 e 0x00000000#32 red (.inl rfl) rfl) shapeCasts_S256_S256x1)
      broadcasts_S256x1_S256x128)) bitsLt_bf16_f32

/-- Head `h`'s context through its rows of `Wo`, added to what the heads before gave. -/
def headStep (ctx : FVec F S256x128 .bf16) (w : Vec F S128x1024 .bf16) (acc : FVec F S256x1024 .f32) : FVec F S256x1024 .f32 :=
  addf acc (matmul dot_S256x128_S128x1024_S256x1024_1_0_0_1_n_n none ctx (shapeCast S128x1024 w shapeCasts_S128x1024_S128x1024)
    (constant S256x1024 .f32 0x00000000#32))

theorem inbK (n : ℕ) (hn : n ≤ 1024) (h : Fin 8) : ∀ a : Fin 2, (![0, 128 * h.val] : Fin 2 → ℕ) a + (![n, 128] : Fin 2 → ℕ) a ≤ S1024x1024.size a := by
  intro a; fin_cases a <;> simp [S1024x1024] <;> omega
theorem inbW (h : Fin 8) : ∀ a : Fin 2, (![128 * h.val, 0] : Fin 2 → ℕ) a + S128x1024.size a ≤ S1024x1024.size a := by
  intro a; fin_cases a <;> simp [S1024x1024, S128x1024] <;> omega
theorem slQ (h : Fin 8) : S256x1024.Slices ![0, 128 * h.val] S256x128 := by
  fin_cases h
  exacts [slices_S256x1024_o0_0_S256x128, slices_S256x1024_o0_128_S256x128, slices_S256x1024_o0_256_S256x128, slices_S256x1024_o0_384_S256x128,
    slices_S256x1024_o0_512_S256x128, slices_S256x1024_o0_640_S256x128, slices_S256x1024_o0_768_S256x128, slices_S256x1024_o0_896_S256x128]

/-- The first `n` heads' contexts through their rows of `Wo`, summed in order from zero; the chunk reads `m` keys and
    its queries are `qc`. -/
def heads (I : Ins F) (m : ℕ) (hm : m ≤ 1024) (dk : DotDims S256x128 ⟨2, ![m, 128]⟩ ⟨2, ![256, m]⟩) (dv : DotDims ⟨2, ![256, m]⟩ ⟨2, ![m, 128]⟩ S256x128)
    (red : (⟨2, ![256, m]⟩ : Shape).Reduces [1] S256) (cast : (⟨2, ![m, 128]⟩ : Shape).ShapeCasts ⟨2, ![m, 128]⟩)
    (bias : FVec F ⟨2, ![256, m]⟩ .f32) (qc : FVec F S256x1024 .bf16) : (n : ℕ) → n ≤ 8 → FVec F S256x1024 .f32
  | 0, _ => broadcast S256x1024 (Scalar.ofBits .f32 0x00000000#32)
  | h + 1, hh => headStep
      (headCtx dk dv red cast bias (extractStridedSlice S256x128 ![0, 128 * h] qc (slQ ⟨h, hh⟩))
        (ld mK I.k ![0, 128 * h] ![m, 128] (inbK m hm ⟨h, hh⟩)) (ld mV I.v ![0, 128 * h] ![m, 128] (inbK m hm ⟨h, hh⟩)))
      (ld mW I.wo ![128 * h, 0] S128x1024.size (inbW ⟨h, hh⟩))
      (heads I m hm dk dv red cast bias qc h (Nat.le_of_succ_le hh))

/-- A chunk's partial product, rounded, as it is stored. -/
def chunkOut (acc : FVec F S256x1024 .f32) : FVec F S1x256x1024 .bf16 :=
  shapeCast S1x256x1024 (truncf .bf16 acc bitsLt_bf16_f32) shapeCasts_S256x1024_S1x256x1024

/-- The bias of a chunk after the first: nothing on the keys before the chunk, the mask on the chunk's own. -/
abbrev zeros (s : Shape) : FVec F s .f32 := broadcast s (Scalar.ofBits .f32 0x00000000#32)

/-- Chunk 0: 256 keys. -/
def part0 (I : Ins F) : FVec F S1x256x1024 .bf16 :=
  chunkOut (heads I 256 (by decide) dot_S256x128_S256x128_S256x256_1_1_0_0_n_n dot_S256x256_S256x128_S256x128_1_0_0_1_n_n reduces_S256x256_S256
    shapeCasts_S256x128_S256x128 maskV (extractStridedSlice S256x1024 ![0, 0] (qOf I) slices_S1024x1024_o0_0_S256x1024) 8 (le_refl _))
/-- Chunk 1: 512 keys. -/
def part1 (I : Ins F) : FVec F S1x256x1024 .bf16 :=
  chunkOut (heads I 512 (by decide) dot_S256x128_S512x128_S256x512_1_1_0_0_n_n dot_S256x512_S512x128_S256x128_1_0_0_1_n_n reduces_S256x512_S256
    shapeCasts_S512x128_S512x128
    (concatenate S256x512 1 [⟨S256x256, zeros S256x256⟩, ⟨S256x256, maskV⟩] concatenates_S256x256_S256x256_S256x512_d1)
    (extractStridedSlice S256x1024 ![256, 0] (qOf I) slices_S1024x1024_o256_0_S256x1024) 8 (le_refl _))
/-- Chunk 2: 768 keys. -/
def part2 (I : Ins F) : FVec F S1x256x1024 .bf16 :=
  chunkOut (heads I 768 (by decide) dot_S256x128_S768x128_S256x768_1_1_0_0_n_n dot_S256x768_S768x128_S256x128_1_0_0_1_n_n reduces_S256x768_S256
    shapeCasts_S768x128_S768x128
    (concatenate S256x768 1 [⟨S256x512, zeros S256x512⟩, ⟨S256x256, maskV⟩] concatenates_S256x512_S256x256_S256x768_d1)
    (extractStridedSlice S256x1024 ![512, 0] (qOf I) slices_S1024x1024_o512_0_S256x1024) 8 (le_refl _))
/-- Chunk 3: all keys. -/
def part3 (I : Ins F) : FVec F S1x256x1024 .bf16 :=
  chunkOut (heads I 1024 (by decide) dot_S256x128_S1024x128_S256x1024_1_1_0_0_n_n dot_S256x1024_S1024x128_S256x128_1_0_0_1_n_n reduces_S256x1024_S256
    shapeCasts_S1024x128_S1024x128
    (concatenate S256x1024 1 [⟨S256x768, zeros S256x768⟩, ⟨S256x256, maskV⟩] concatenates_S256x768_S256x256_S256x1024_d1)
    (extractStridedSlice S256x1024 ![768, 0] (qOf I) slices_S1024x1024_o768_0_S256x1024) 8 (le_refl _))

/-- A device's partial product of chunk `ch`. -/
def part (I : Ins F) : Fin 4 → FVec F S1x256x1024 .bf16
  | 0 => part0 I
  | 1 => part1 I
  | 2 => part2 I
  | 3 => part3 I

/-- Block `p` of 64 rows of a chunk's partial product. -/
def rowsOf (I : Ins F) (ch p : Fin 4) : FVec F S64x1024 .bf16 := fun x =>
  part I ch (ix3 (0 : Fin 1) (⟨64 * p.val + (x 0).val, by have h : (x 0).val < 64 := (x 0).isLt; have := p.isLt; omega⟩ : Fin 256) (x 1 : Fin 1024))

/-- The device `k` after `c`, round the four. -/
def nxt (k : ℕ) (c : Dev nD) : Dev nD := Fin.ofNat 4 (c.val + k)

/-- The sum, over the four devices, of block `c` of their partial products of chunk `ch`: device `c`'s own first,
    then the devices after it in order. -/
def redF (X : Dev nD → Ins F) (c : Dev nD) (ch : Fin 4) : FVec F S64x1024 .f32 :=
  addf (addf (addf (extf .f32 (rowsOf (X c) ch c) bitsLt_bf16_f32) (extf .f32 (rowsOf (X (nxt 1 c)) ch c) bitsLt_bf16_f32))
    (extf .f32 (rowsOf (X (nxt 2 c)) ch c) bitsLt_bf16_f32)) (extf .f32 (rowsOf (X (nxt 3 c)) ch c) bitsLt_bf16_f32)

/-- The sum, rounded for its way to the other devices. -/
def redB (X : Dev nD → Ins F) (c : Dev nD) (ch : Fin 4) : FVec F S64x1024 .bf16 := truncf .bf16 (redF X c ch) bitsLt_bf16_f32

/-- What the result of device `c` holds of chunk `ch` in block `p`: its own sum as computed, another's as received. -/
def outB (X : Dev nD → Ins F) (c : Dev nD) (ch p : Fin 4) : FVec F S64x1024 .f32 :=
  if p = c then redF X c ch else extf .f32 (redB X p ch) bitsLt_bf16_f32

/-! ## The buffers, whole -/

/-- The partial products, all chunks. -/
def partC (I : Ins F) : S4x256x1024.Idx → F .bf16 := fun i => part I (i 0 : Fin 4) (ix3 (0 : Fin 1) (i 1 : Fin 256) (i 2 : Fin 1024))
/-- What device `c` received of the others' partial products: slot `s` from the device `s + 1` after it. -/
def rsC (X : Dev nD → Ins F) (c : Dev nD) : S4x3x64x1024.Idx → F .bf16 := fun i =>
  rowsOf (X (nxt ((i 1).val + 1) c)) (i 0 : Fin 4) c (ix2 (i 2 : Fin 64) (i 3 : Fin 1024))
/-- The device's own sums, rounded. -/
def redC (X : Dev nD → Ins F) (c : Dev nD) : S4x64x1024.Idx → F .bf16 := fun i => redB X c (i 0 : Fin 4) (ix2 (i 1 : Fin 64) (i 2 : Fin 1024))
/-- What device `c` received of the others' sums. -/
def agC (X : Dev nD → Ins F) (c : Dev nD) : S4x3x64x1024.Idx → F .bf16 := fun i =>
  redB X (nxt ((i 1).val + 1) c) (i 0 : Fin 4) (ix2 (i 2 : Fin 64) (i 3 : Fin 1024))
/-- The result on device `c`. -/
def outC (X : Dev nD → Ins F) (c : Dev nD) : S1x1024x1024.Idx → F .f32 := fun i =>
  outB X c (⟨(i 1).val / 256, by have h : (i 1).val < 1024 := (i 1).isLt; omega⟩ : Fin 4) (⟨(i 1).val % 256 / 64, by omega⟩ : Fin 4)
    (ix2 (⟨(i 1).val % 64, by omega⟩ : Fin 64) (i 2 : Fin 1024))

end Cert.KernelIdeal.Own

end
-- ==== Proof.Protocol.lean ====
/- The conversation of the four devices: which semaphore each payment reaches, how much it is, at which place of the program,
   and what it hands over. -/
module

public import proofs.«01_k».proof.Proof.Spec
public import proofs.«01_k».proof.Proof.Gen.KernelIdeal.Points
public import proofs.«01_k».proof.Proof.Gen.KernelIdeal.Regions
public import Idealize.ShloMosaic.Lib.Pipeline.TalkSched
public import Idealize.ShloMosaic.Lib.Pipeline.TalkReads
public import Idealize.ShloMosaic.Lib.Transfers

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

/-! ## Semaphores and cells -/

/-- The barrier's semaphore. -/
abbrev sB : SemLoc sig := .reg (sig.barrier 0 rfl)
/-- Transfer semaphore `n` of the 54. -/
abbrev dS (n : ℕ) (h : n < 54 := by decide) : SemLoc sig := .dma (⟨n, h⟩ : Fin 54)
/-- The semaphores of the scatter's and the gather's copies: chunk `ch`, the sender's place `i` or the receiver's slot `s`. -/
def sRS (ch : Fin 4) (i : Fin 3) : SemLoc sig := dS (6 + 3 * ch.val + i.val) (by omega)
@[inherit_doc sRS] def sRR (ch : Fin 4) (s : Fin 3) : SemLoc sig := dS (18 + 3 * ch.val + s.val) (by omega)
@[inherit_doc sRS] def sGS (ch : Fin 4) (i : Fin 3) : SemLoc sig := dS (30 + 3 * ch.val + i.val) (by omega)
@[inherit_doc sRS] def sGR (ch : Fin 4) (s : Fin 3) : SemLoc sig := dS (42 + 3 * ch.val + s.val) (by omega)

/-- The kernel's own 48 transfer semaphores, in order. -/
def dorm (_ : Fin 1) : List (SemLoc sig) := (List.finRange 48).map fun k => dS (6 + k.val) (by omega)

/-- A device's cell at a semaphore. -/
abbrev cell (c : Dev nD) (sm : SemLoc sig) : GSem nD τ sig := ((c.tc : Thread nD τ), sm)

/-! ## The tables -/

/-- The credit of one copy of 64×1024 rounded numbers. -/
abbrev N : ℕ := 4096

/-- All payments of a device: the three barrier signals; each chunk's copies of the scatter, by what they pay at the
    receiver, then of the gather; the same by what they pay at the sender. (Offset of the paid device, semaphore number,
    round, index, units). -/
def shapeAll : List (ℕ × ℕ × ℕ × ℕ × ℕ) :=
  [(1, 0, 0, 1, 1), (2, 0, 0, 1, 1), (3, 0, 0, 1, 1)]
    ++ (List.range 12).map (fun k => (k % 3 + 1, 13 + 3 * (k / 3) + (2 - k % 3), 0, 2 + k / 3, N))
    ++ (List.range 12).map (fun k => (k % 3 + 1, 37 + 3 * (k / 3) + (2 - k % 3), 0, 6 + k / 3, N))
    ++ (List.range 12).map (fun k => (0, 1 + k, 0, 0, N))
    ++ (List.range 12).map (fun k => (0, 25 + k, 0, 0, N))

/-- The three copies of a chunk: the scatter's, the gather's. -/
def rs3 (ch : ℕ) : List (ℕ × ℕ × ℕ × ℕ × ℕ) := (List.range 3).map fun i => (i + 1, 13 + 3 * ch + (2 - i), 0, 2 + ch, N)
@[inherit_doc rs3] def ag3 (ch : ℕ) : List (ℕ × ℕ × ℕ × ℕ × ℕ) := (List.range 3).map fun i => (i + 1, 37 + 3 * ch + (2 - i), 0, 6 + ch, N)

/-- The payments to other devices, in the program's order. -/
def shapeDue : List (ℕ × ℕ × ℕ × ℕ × ℕ) :=
  [(1, 0, 0, 1, 1), (2, 0, 0, 1, 1), (3, 0, 0, 1, 1)] ++ rs3 0 ++ rs3 1 ++ ag3 0 ++ rs3 2 ++ ag3 1 ++ rs3 3 ++ ag3 2 ++ ag3 3

/-- The device `4 - p` after `c`, round the four: the inverse of `nxt p`. -/
def prv (p : ℕ) (c : Dev nD) : Dev nD := Fin.ofNat 4 (c.val + (4 - p % 4))

/-- The tables, by device (one launch). -/
def rowsA (c : Dev nD) (_ : Fin 1) : List Row := rowsS shapeAll nxt c
@[inherit_doc rowsA] def rowsD (c : Dev nD) (_ : Fin 1) : List Row := rowsS shapeDue nxt c

theorem prv_nxt (p : ℕ) (c : Dev nD) : prv p (nxt p c) = c := by
  apply Fin.ext
  have h : c.val < 4 := c.isLt
  show ((c.val + p) % 4 + (4 - p % 4)) % 4 = c.val
  omega
theorem nxt_prv (p : ℕ) (c : Dev nD) : nxt p (prv p c) = c := by
  apply Fin.ext
  have h : c.val < 4 := c.isLt
  show ((c.val + (4 - p % 4)) % 4 + p) % 4 = c.val
  omega
/-- The sender of slot `s` at `c` is the device `s + 1` after it. -/
theorem prv_rev (c : Dev nD) (s : Fin 3) : prv (s.rev.val + 1) c = nxt (s.val + 1) c := by revert c s; decide
theorem nxt_nxt_rev (c : Dev nD) (i : Fin 3) : nxt (i.rev.val + 1) (nxt (i.val + 1) c) = c := by revert c i; decide

def nR (_ : SemLoc sig) : ℕ := 1

set_option maxRecDepth 100000 in
theorem hsem : ((List.finRange 1).all fun j => (dorm j).all fun sm => decide (semKeyL dorm sm = j ∧ sm ≠ sB)) = true := by decide +kernel
set_option maxRecDepth 100000 in
theorem hrow : ((List.finRange nD).all fun c => (List.finRange 1).all fun j => (toksR (rowsA c j)).all fun r =>
    decide ((r.2.1 = 0 ∧ r.2.2.1 = j.val) ∨ (0 < r.2.1 ∧ r.2.1 ≤ (dorm j).length))) = true := by decide +kernel
set_option maxRecDepth 100000 in
theorem hok : rowsOk sB dorm rowsA nR = true := by decide +kernel

/-- The family of cells and tokens. -/
abbrev fam : Fam nD τ sig (Dev nD × ℕ) 1 := Fam.ofRows sB dorm rowsA hsem hrow

/-! ## Resources -/

abbrev UU : Type := UR sig nD τ × URounds (GSem nD τ sig) (Dev nD × ℕ)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD × ℕ)) (MT nD τ sig ℕ (Elt F) ℕ UU ℕ) := embR

/-! ## The pieces of the scratch buffers -/

abbrev mP : Memref sig .tc .vmem S4x256x1024 .bf16 := Memref.whole cc0_scratch0
abbrev mR : Memref sig .tc .vmem S4x3x64x1024 .bf16 := Memref.whole cc0_scratch1
abbrev mD : Memref sig .tc .vmem S4x64x1024 .bf16 := Memref.whole cc0_scratch2
abbrev mA : Memref sig .tc .vmem S4x3x64x1024 .bf16 := Memref.whole cc0_scratch3
abbrev mO : Memref sig .tc .vmem S1x1024x1024 .f32 := Memref.whole cc0_stg5_0

theorem inbP (ch p : Fin 4) : ∀ a, (![ch.val, 64 * p.val, 0] : Fin 3 → ℕ) a + S1x64x1024.size a ≤ S4x256x1024.size a := by
  revert ch p; decide
theorem inbC (ch : Fin 4) : ∀ a, (![ch.val, 0, 0] : Fin 3 → ℕ) a + S1x256x1024.size a ≤ S4x256x1024.size a := by revert ch; decide
theorem inbR (ch : Fin 4) (s : Fin 3) : ∀ a, (![ch.val, s.val, 0, 0] : Fin 4 → ℕ) a + S1x1x64x1024.size a ≤ S4x3x64x1024.size a := by
  revert ch s; decide
theorem inbD (ch : Fin 4) : ∀ a, (![ch.val, 0, 0] : Fin 3 → ℕ) a + S1x64x1024.size a ≤ S4x64x1024.size a := by revert ch; decide

/-- Block `p` of chunk `ch` of the partial products, as the copies name it. -/
abbrev bP (ch p : Fin 4) : Memref sig .tc .vmem S64x1024 .bf16 :=
  (mP.slice (Rect.unit (s := S4x256x1024) ![ch.val, 64 * p.val, 0] S1x64x1024.size (inbP ch p)) (fun _ => rfl)).squeeze S64x1024 squeezes_S1x64x1024_S64x1024
/-- Slot `s` of chunk `ch` of a landing buffer (the scatter's or the gather's). -/
abbrev bL (M : Memref sig .tc .vmem S4x3x64x1024 .bf16) (ch : Fin 4) (s : Fin 3) : Memref sig .tc .vmem S64x1024 .bf16 :=
  (M.slice (Rect.unit (s := S4x3x64x1024) ![ch.val, s.val, 0, 0] S1x1x64x1024.size (inbR ch s)) (fun _ => rfl)).squeeze S64x1024 squeezes_S1x1x64x1024_S64x1024
/-- Chunk `ch` of the sums. -/
abbrev bD (ch : Fin 4) : Memref sig .tc .vmem S64x1024 .bf16 :=
  (mD.slice (Rect.unit (s := S4x64x1024) ![ch.val, 0, 0] S1x64x1024.size (inbD ch)) (fun _ => rfl)).squeeze S64x1024 squeezes_S1x64x1024_S64x1024

/-- A piece of device `c`'s memory at share `q`, with the whole buffer's contents `f` (only those on the piece count). -/
abbrev pc (c : Dev nD) (M : Memref sig .tc .vmem S64x1024 .bf16) (q : PosShare TreeShare) (f : Buf (Elt F) (M.view.loc (c.tc : Thread nD τ))) : sProp 𝕄 :=
  M.view.loc (c.tc : Thread nD τ) ↦[M.view.set]{q} f

/-- The share of the sum that copy `i` of three reads. -/
abbrev sh (i : Fin 3) : PosShare TreeShare := Transfers.dealOf fullShare Finset.univ i

/-! ## What a payment hands over -/

/-- Device `d`'s landing slot `s` of chunk `ch`, scatter and gather, at whatever they hold, each ready to be paid into. -/
def slotR (d : Dev nD) (ch : Fin 4) (s : Fin 3) : sProp 𝕄 := iprop((∃ f, pc d (bL mR ch s) fullShare f) ∗ reached ER (cell d (sRR ch s)) 0)
@[inherit_doc slotR] def slotA (d : Dev nD) (ch : Fin 4) (s : Fin 3) : sProp 𝕄 := iprop((∃ f, pc d (bL mA ch s) fullShare f) ∗ reached ER (cell d (sGR ch s)) 0)

instance slotR_storable (d : Dev nD) (ch : Fin 4) (s : Fin 3) : BI.Storable (upEmb : UEmb _ 𝕄) (slotR (F := F) d ch s) := by unfold slotR; infer_instance
instance slotA_storable (d : Dev nD) (ch : Fin 4) (s : Fin 3) : BI.Storable (upEmb : UEmb _ 𝕄) (slotA (F := F) d ch s) := by unfold slotA; infer_instance

/-- Barrier signal: all the landing slots `s` of the signaller. -/
def handOver (d : Dev nD) (s : Fin 3) : sProp 𝕄 :=
  iprop((slotR d 0 s ∗ slotR d 1 s ∗ slotR d 2 s ∗ slotR d 3 s) ∗ (slotA d 0 s ∗ slotA d 1 s ∗ slotA d 2 s ∗ slotA d 3 s))

instance handOver_storable (d : Dev nD) (s : Fin 3) : BI.Storable (upEmb : UEmb _ 𝕄) (handOver (F := F) d s) := by unfold handOver; infer_instance

variable (X : Dev nD → Ins F)

/-- What lands at device `d`: slot `s` of chunk `ch`, of the scatter; of the gather. -/
def gotR (d : Dev nD) (ch : Fin 4) (s : Fin 3) : sProp 𝕄 := pc d (bL mR ch s) fullShare (rsC X d)
@[inherit_doc gotR] def gotA (d : Dev nD) (ch : Fin 4) (s : Fin 3) : sProp 𝕄 := pc d (bL mA ch s) fullShare (agC X d)
/-- Block `p` of chunk `ch` of device `d`'s partial products; a share of its sum. -/
def ownP (d : Dev nD) (ch p : Fin 4) : sProp 𝕄 := pc d (bP ch p) fullShare (partC (X d))
@[inherit_doc ownP] def ownD (d : Dev nD) (ch : Fin 4) (i : Fin 3) : sProp 𝕄 := pc d (bD ch) (sh i) (redC X d)

/-- Payment `k` of device `d`. -/
def payK (d : Dev nD) (k : ℕ) : sProp 𝕄 :=
  if k < 3 then handOver d (Fin.ofNat 3 k)
  else if k < 15 then gotR X (nxt ((k - 3) % 3 + 1) d) (Fin.ofNat 4 ((k - 3) / 3)) (Fin.ofNat 3 ((k - 3) % 3)).rev
  else if k < 27 then gotA X (nxt ((k - 15) % 3 + 1) d) (Fin.ofNat 4 ((k - 15) / 3)) (Fin.ofNat 3 ((k - 15) % 3)).rev
  else if k < 39 then ownP X d (Fin.ofNat 4 ((k - 27) / 3)) (nxt ((k - 27) % 3 + 1) d)
  else ownD X d (Fin.ofNat 4 ((k - 39) / 3)) (Fin.ofNat 3 ((k - 39) % 3))

def pay (_ : GSem nD τ sig) (_ : ℕ) (d : Dev nD × ℕ) : sProp 𝕄 := payK X d.1 d.2

instance pay_storable (g : GSem nD τ sig) (r : ℕ) (d : Dev nD × ℕ) : BI.Storable (upEmb : UEmb _ 𝕄) (pay X g r d) := by
  unfold pay payK gotR gotA ownP ownD
  (repeat' split) <;> infer_instance

/-- The schedule. -/
abbrev Rd : Schedule (GSem nD τ sig) (Dev nD × ℕ) 𝕄 := Sched.ofRows sB dorm rowsA nR hok (pay X)

/-! ## Each payment's facts -/

/-- Payment `k` of device `c` is a duty of the cell its row names, of the row's units. -/
theorem pays (c : Dev nD) {k : ℕ} {d : Dev nD} {n i u : ℕ} (hr : (rowsA c 0)[k]? = some (d.val, n, 0, i, u)) {sm : SemLoc sig}
    (hsm : (sB :: dorm 0).getD n sB = sm) :
    (c, k) ∈ (Rd X).duties (cell d sm) 0 ∧ (Rd X).amount (cell d sm) 0 (c, k) = u :=
  Sched.row_pays sB dorm hsem hrow nR hok (pay X) hr (by rw [cellN_val, hsm]) rfl

set_option maxRecDepth 100000 in
theorem row_bar : ∀ (c : Dev nD) (o : Fin 3), (rowsA c 0)[o.val]? = some ((nxt (o.val + 1) c).val, 0, 0, 1, 1) := by decide +kernel
set_option maxRecDepth 100000 in
theorem row_RR : ∀ (c : Dev nD) (ch : Fin 4) (i : Fin 3), (rowsA c 0)[3 + 3 * ch.val + i.val]?
    = some ((nxt (i.val + 1) c).val, 13 + 3 * ch.val + i.rev.val, 0, 2 + ch.val, N) := by decide +kernel
set_option maxRecDepth 100000 in
theorem row_GR : ∀ (c : Dev nD) (ch : Fin 4) (i : Fin 3), (rowsA c 0)[15 + 3 * ch.val + i.val]?
    = some ((nxt (i.val + 1) c).val, 37 + 3 * ch.val + i.rev.val, 0, 6 + ch.val, N) := by decide +kernel
set_option maxRecDepth 100000 in
theorem row_RS : ∀ (c : Dev nD) (ch : Fin 4) (i : Fin 3), (rowsA c 0)[27 + 3 * ch.val + i.val]?
    = some (c.val, 1 + 3 * ch.val + i.val, 0, 0, N) := by decide +kernel
set_option maxRecDepth 100000 in
theorem row_GS : ∀ (c : Dev nD) (ch : Fin 4) (i : Fin 3), (rowsA c 0)[39 + 3 * ch.val + i.val]?
    = some (c.val, 25 + 3 * ch.val + i.val, 0, 0, N) := by decide +kernel
set_option maxRecDepth 100000 in
theorem num_RS : ∀ (ch : Fin 4) (i : Fin 3), (sB :: dorm 0).getD (1 + 3 * ch.val + i.val) sB = sRS ch i := by decide +kernel
set_option maxRecDepth 100000 in
theorem num_RR : ∀ (ch : Fin 4) (i : Fin 3), (sB :: dorm 0).getD (13 + 3 * ch.val + i.val) sB = sRR ch i := by decide +kernel
set_option maxRecDepth 100000 in
theorem num_GS : ∀ (ch : Fin 4) (i : Fin 3), (sB :: dorm 0).getD (25 + 3 * ch.val + i.val) sB = sGS ch i := by decide +kernel
set_option maxRecDepth 100000 in
theorem num_GR : ∀ (ch : Fin 4) (i : Fin 3), (sB :: dorm 0).getD (37 + 3 * ch.val + i.val) sB = sGR ch i := by decide +kernel

theorem pays_bar (c : Dev nD) (o : Fin 3) : (c, o.val) ∈ (Rd X).duties (cell (nxt (o.val + 1) c) sB) 0
    ∧ (Rd X).amount (cell (nxt (o.val + 1) c) sB) 0 (c, o.val) = 1 := pays X c (row_bar c o) rfl
theorem pays_RR (c : Dev nD) (ch : Fin 4) (i : Fin 3) : (c, 3 + 3 * ch.val + i.val) ∈ (Rd X).duties (cell (nxt (i.val + 1) c) (sRR ch i.rev)) 0
    ∧ (Rd X).amount (cell (nxt (i.val + 1) c) (sRR ch i.rev)) 0 (c, 3 + 3 * ch.val + i.val) = N := pays X c (row_RR c ch i) (num_RR ch i.rev)
theorem pays_GR (c : Dev nD) (ch : Fin 4) (i : Fin 3) : (c, 15 + 3 * ch.val + i.val) ∈ (Rd X).duties (cell (nxt (i.val + 1) c) (sGR ch i.rev)) 0
    ∧ (Rd X).amount (cell (nxt (i.val + 1) c) (sGR ch i.rev)) 0 (c, 15 + 3 * ch.val + i.val) = N := pays X c (row_GR c ch i) (num_GR ch i.rev)
theorem pays_RS (c : Dev nD) (ch : Fin 4) (i : Fin 3) : (c, 27 + 3 * ch.val + i.val) ∈ (Rd X).duties (cell c (sRS ch i)) 0
    ∧ (Rd X).amount (cell c (sRS ch i)) 0 (c, 27 + 3 * ch.val + i.val) = N := pays X c (row_RS c ch i) (num_RS ch i)
theorem pays_GS (c : Dev nD) (ch : Fin 4) (i : Fin 3) : (c, 39 + 3 * ch.val + i.val) ∈ (Rd X).duties (cell c (sGS ch i)) 0
    ∧ (Rd X).amount (cell c (sGS ch i)) 0 (c, 39 + 3 * ch.val + i.val) = N := pays X c (row_GS c ch i) (num_GS ch i)

theorem payK_bar (d : Dev nD) (o : Fin 3) : payK X d o.val = handOver d o := by fin_cases o <;> rfl
theorem payK_RR (d : Dev nD) (ch : Fin 4) (i : Fin 3) : payK X d (3 + 3 * ch.val + i.val) = gotR X (nxt (i.val + 1) d) ch i.rev := by
  fin_cases ch <;> fin_cases i <;> rfl
theorem payK_GR (d : Dev nD) (ch : Fin 4) (i : Fin 3) : payK X d (15 + 3 * ch.val + i.val) = gotA X (nxt (i.val + 1) d) ch i.rev := by
  fin_cases ch <;> fin_cases i <;> rfl
theorem payK_RS (d : Dev nD) (ch : Fin 4) (i : Fin 3) : payK X d (27 + 3 * ch.val + i.val) = ownP X d ch (nxt (i.val + 1) d) := by
  fin_cases ch <;> fin_cases i <;> rfl
theorem payK_GS (d : Dev nD) (ch : Fin 4) (i : Fin 3) : payK X d (39 + 3 * ch.val + i.val) = ownD X d ch i := by
  fin_cases ch <;> fin_cases i <;> rfl

/-! ## What a wait takes -/

theorem in_perm (c : Dev nD) : (incoming rowsA 0 c).Perm (insS shapeAll prv c) :=
  incoming_perm_of_shape (peer := nxt) (fun _ => rfl) (fun _ _ c => ⟨prv_nxt _ c, nxt_prv _ c⟩) c

set_option maxRecDepth 100000 in
theorem mem_dorm : (∀ (ch : Fin 4) (i : Fin 3), sRS ch i ∈ dorm 0) ∧ (∀ (ch : Fin 4) (i : Fin 3), sRR ch i ∈ dorm 0)
    ∧ (∀ (ch : Fin 4) (i : Fin 3), sGS ch i ∈ dorm 0) ∧ ∀ (ch : Fin 4) (i : Fin 3), sGR ch i ∈ dorm 0 := by decide +kernel

/-- The rows of a cell, of a device's incoming payments: found by evaluation of the semaphore's number alone. -/
theorem wait_cell (c : Dev nD) (sm : SemLoc sig) (hj : launchN sB dorm (cell c sm) 0 = 0) {l : List (Dev nD × ℕ × Row)}
    (hl : forCell (nD := nD) sB dorm 0 sm 0 (insS shapeAll prv c) = l) :
    (Rd X).expect (cell c sm) 0 = (l.map fun x => x.2.2.2.2.2.2).sum
      ∧ bigSep ((Rd X).duties (cell c sm) 0 \ ∅) (fun d => (Rd X).payload (cell c sm) 0 d) = bigSepL (l.map fun x => (x.1, x.2.1)) fun d => payK X d.1 d.2 := by
  subst hl
  have h := Sched.wait_of sB dorm nR hok (pay X) c sm 0 hj (in_perm c)
  exact ⟨h.1, h.2 _⟩

/-- One payment alone. -/
theorem wait_one (c : Dev nD) (sm : SemLoc sig) (hj : sm ∈ dorm 0) {d : Dev nD} {k n i : ℕ}
    (hl : forCell (nD := nD) sB dorm 0 sm 0 (insS shapeAll prv c) = [(d, k, (c.val, n, 0, i, N))]) :
    (Rd X).expect (cell c sm) 0 = N ∧ bigSep ((Rd X).duties (cell c sm) 0 \ ∅) (fun d => (Rd X).payload (cell c sm) 0 d) = payK X d k :=
  wait_cell X c sm (launchN_dorm sB dorm hsem hj _ 0) hl

set_option maxRecDepth 100000 in
theorem in_bar : ∀ c : Dev nD, forCell (nD := nD) sB dorm 0 sB 0 (insS shapeAll prv c)
    = [(nxt 3 c, 0, (c.val, 0, 0, 1, 1)), (nxt 2 c, 1, (c.val, 0, 0, 1, 1)), (nxt 1 c, 2, (c.val, 0, 0, 1, 1))] := by decide +kernel
set_option maxRecDepth 100000 in
theorem in_RR : ∀ (c : Dev nD) (ch : Fin 4) (s : Fin 3), forCell (nD := nD) sB dorm 0 (sRR ch s) 0 (insS shapeAll prv c)
    = [(nxt (s.val + 1) c, 3 + 3 * ch.val + s.rev.val, (c.val, 13 + 3 * ch.val + s.val, 0, 2 + ch.val, N))] := by decide +kernel
set_option maxRecDepth 100000 in
theorem in_GR : ∀ (c : Dev nD) (ch : Fin 4) (s : Fin 3), forCell (nD := nD) sB dorm 0 (sGR ch s) 0 (insS shapeAll prv c)
    = [(nxt (s.val + 1) c, 15 + 3 * ch.val + s.rev.val, (c.val, 37 + 3 * ch.val + s.val, 0, 6 + ch.val, N))] := by decide +kernel
set_option maxRecDepth 100000 in
theorem in_RS : ∀ (c : Dev nD) (ch : Fin 4) (i : Fin 3), forCell (nD := nD) sB dorm 0 (sRS ch i) 0 (insS shapeAll prv c)
    = [(c, 27 + 3 * ch.val + i.val, (c.val, 1 + 3 * ch.val + i.val, 0, 0, N))] := by decide +kernel
set_option maxRecDepth 100000 in
theorem in_GS : ∀ (c : Dev nD) (ch : Fin 4) (i : Fin 3), forCell (nD := nD) sB dorm 0 (sGS ch i) 0 (insS shapeAll prv c)
    = [(c, 39 + 3 * ch.val + i.val, (c.val, 25 + 3 * ch.val + i.val, 0, 0, N))] := by decide +kernel

/-- The barrier: three units, and the other devices' landing slots for this one. -/
theorem wait_bar (c : Dev nD) : (Rd X).expect (cell c sB) 0 = 3
    ∧ bigSep ((Rd X).duties (cell c sB) 0 \ ∅) (fun d => (Rd X).payload (cell c sB) 0 d)
      = iprop(handOver (nxt 3 c) 0 ∗ handOver (nxt 2 c) 1 ∗ handOver (nxt 1 c) 2) :=
  wait_cell X c sB (launchN_bar sB dorm _ (by decide)) (in_bar c)
theorem wait_RR (c : Dev nD) (ch : Fin 4) (s : Fin 3) : (Rd X).expect (cell c (sRR ch s)) 0 = N
    ∧ bigSep ((Rd X).duties (cell c (sRR ch s)) 0 \ ∅) (fun d => (Rd X).payload (cell c (sRR ch s)) 0 d) = gotR X c ch s := by
  have h := wait_one X c _ (mem_dorm.2.1 ch s) (in_RR c ch s)
  rw [payK_RR, Fin.rev_rev, show nxt (s.rev.val + 1) (nxt (s.val + 1) c) = c from nxt_nxt_rev c s] at h
  exact h
theorem wait_GR (c : Dev nD) (ch : Fin 4) (s : Fin 3) : (Rd X).expect (cell c (sGR ch s)) 0 = N
    ∧ bigSep ((Rd X).duties (cell c (sGR ch s)) 0 \ ∅) (fun d => (Rd X).payload (cell c (sGR ch s)) 0 d) = gotA X c ch s := by
  have h := wait_one X c _ (mem_dorm.2.2.2 ch s) (in_GR c ch s)
  rw [payK_GR, Fin.rev_rev, show nxt (s.rev.val + 1) (nxt (s.val + 1) c) = c from nxt_nxt_rev c s] at h
  exact h
theorem wait_RS (c : Dev nD) (ch : Fin 4) (i : Fin 3) : (Rd X).expect (cell c (sRS ch i)) 0 = N
    ∧ bigSep ((Rd X).duties (cell c (sRS ch i)) 0 \ ∅) (fun d => (Rd X).payload (cell c (sRS ch i)) 0 d) = ownP X c ch (nxt (i.val + 1) c) := by
  have h := wait_one X c _ (mem_dorm.1 ch i) (in_RS c ch i)
  rw [payK_RS] at h
  exact h
theorem wait_GS (c : Dev nD) (ch : Fin 4) (i : Fin 3) : (Rd X).expect (cell c (sGS ch i)) 0 = N
    ∧ bigSep ((Rd X).duties (cell c (sGS ch i)) 0 \ ∅) (fun d => (Rd X).payload (cell c (sGS ch i)) 0 d) = ownD X c ch i := by
  have h := wait_one X c _ (mem_dorm.2.2.1 ch i) (in_GS c ch i)
  rw [payK_GS] at h
  exact h

/-! ## What is still owed -/

/-- What device `c` owes once its first `j` payments to the others are made. -/
def owed (c : Dev nD) (j : ℕ) : CellTallies nD τ sig ℕ := addL 0 (duesR sB (dorm 0) ((rowsD c 0).drop j))

theorem owed_step (c d : Dev nD) {j n i u : ℕ} (hr : (rowsD c 0)[j]? = some (d.val, n, 0, i, u)) {sm : SemLoc sig} (hsm : (sB :: dorm 0).getD n sB = sm) :
    owed c j = owed c (j + 1) + tallyAt (cell d sm) i u := by
  unfold owed
  rw [addL_duesR_drop 0 sB (dorm 0) hr]
  show _ + (payN sB (dorm 0) (d.val, n, i, u)).tally = _
  rw [payN_val, hsm]

/-- A wait at an index below everything still owed. -/
theorem mayWait (c : Dev nD) (j i : ℕ) (sm : SemLoc sig) (hi : i < 10) (h : ∀ x ∈ (rowsD c 0).drop j, i < x.2.2.2.1 ∧ x.2.2.2.1 < 10) :
    (levAts (SiteBlocks.L 10) SiteBlocks.lv : sProp 𝕄) ⊢ MayWait (c.tc : Thread nD τ) sm i (owed c j) :=
  mayWait_addL (N := 10) (e := 10) hi (le_refl _) (SiteBlocks.above_zero 10 10) c sm _ fun x hx => by
    simp only [duesR, List.mem_reverse, List.mem_map] at hx
    obtain ⟨r, hr, rfl⟩ := hx
    exact ⟨rfl, h r hr⟩

theorem owed_end (c : Dev nD) : owed c 27 = 0 := rfl

end Cert.KernelIdeal.Own

end
-- ==== Proof.Pieces.lean ====
/- The scratch buffers in pieces: which elements a piece has, a whole buffer as its pieces, and what a copy or a store
   leaves in a piece. -/
module

public import proofs.«01_k».proof.Proof.Protocol
public import Idealize.ShloMosaic.Lib.ValueLayout

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

/-! ## Indices -/

theorem eq_ix2 {a b : ℕ} (j : (⟨2, ![a, b]⟩ : Shape).Idx) : j = ix2 (j 0 : Fin a) (j 1 : Fin b) := by
  funext a; fin_cases a <;> rfl

theorem emb_bP (ch p : Fin 4) (j : S64x1024.Idx) : (bP ch p).view.emb j
    = (ix3 ch (⟨64 * p.val + (j 0).val, by have h : (j 0).val < 64 := (j 0).isLt; omega⟩ : Fin 256) (j 1 : Fin 1024) : S4x256x1024.Idx) := by
  refine (congrArg (bP ch p).view.emb (eq_ix2 j)).trans ((congrArg (Rect.unit (s := S4x256x1024) ![ch.val, 64 * p.val, 0] S1x64x1024.size (inbP ch p)).emb
    (reshapeEquiv_ix2_1ab (a := 64) (b := 1024) rfl (j 0 : Fin 64) (j 1 : Fin 1024))).trans ?_)
  funext a; fin_cases a <;> apply Fin.ext
  · show ch.val + 1 * 0 = ch.val; omega
  · show 64 * p.val + 1 * (j 0).val = 64 * p.val + (j 0).val; omega
  · show 0 + 1 * (j 1).val = (j 1).val; omega

theorem emb_bL {b : Ref sig .tc} (M : Memref sig .tc .vmem S4x3x64x1024 .bf16) (ch : Fin 4) (s : Fin 3) (j : S64x1024.Idx) : (bL M ch s).view.emb j
    = M.view.emb (ix4 ch s (j 0 : Fin 64) (j 1 : Fin 1024) : S4x3x64x1024.Idx) := by
  refine (congrArg (bL M ch s).view.emb (eq_ix2 j)).trans (congrArg M.view.emb ((congrArg (Rect.unit (s := S4x3x64x1024) ![ch.val, s.val, 0, 0] S1x1x64x1024.size (inbR ch s)).emb
    (reshapeEquiv_ix2_11ab (a := 64) (b := 1024) rfl (j 0 : Fin 64) (j 1 : Fin 1024))).trans ?_))
  funext a; fin_cases a <;> apply Fin.ext
  · show ch.val + 1 * 0 = ch.val; omega
  · show s.val + 1 * 0 = s.val; omega
  · show 0 + 1 * (j 0).val = (j 0).val; omega
  · show 0 + 1 * (j 1).val = (j 1).val; omega

theorem emb_bD (ch : Fin 4) (j : S64x1024.Idx) : (bD ch).view.emb j = (ix3 ch (j 0 : Fin 64) (j 1 : Fin 1024) : S4x64x1024.Idx) := by
  refine (congrArg (bD ch).view.emb (eq_ix2 j)).trans ((congrArg (Rect.unit (s := S4x64x1024) ![ch.val, 0, 0] S1x64x1024.size (inbD ch)).emb
    (reshapeEquiv_ix2_1ab (a := 64) (b := 1024) rfl (j 0 : Fin 64) (j 1 : Fin 1024))).trans ?_)
  funext a; fin_cases a <;> apply Fin.ext
  · show ch.val + 1 * 0 = ch.val; omega
  · show 0 + 1 * (j 0).val = (j 0).val; omega
  · show 0 + 1 * (j 1).val = (j 1).val; omega

/-! ## Members -/

/-- Chunk `ch` of the partial products, as elements. -/
def cP (ch : Fin 4) : Finset S4x256x1024.Idx := (Rect.unit (s := S4x256x1024) ![ch.val, 0, 0] S1x256x1024.size (inbC ch)).set

theorem mem_cP (ch : Fin 4) (i : S4x256x1024.Idx) : i ∈ cP ch ↔ (i 0 : Fin 4) = ch := by
  have h0 : (i 0).val < 4 := (i 0).isLt
  have h1 : (i 1).val < 256 := (i 1).isLt
  have h2 : (i 2).val < 1024 := (i 2).isLt
  unfold cP
  refine Iff.trans ?_ (Fin.ext_iff (a := (i 0 : Fin 4)) (b := ch)).symm
  rw [Rect.mem_set_unit, Fin.forall_fin_succ, Fin.forall_fin_succ, Fin.forall_fin_succ]
  show (ch.val ≤ (i 0).val ∧ (i 0).val < ch.val + 1) ∧ (0 ≤ (i 1).val ∧ (i 1).val < 0 + 256) ∧ (0 ≤ (i 2).val ∧ (i 2).val < 0 + 1024) ∧ (∀ a : Fin 0, _) ↔ (i 0).val = ch.val
  exact ⟨fun h => by omega, fun h => ⟨by omega, by omega, by omega, fun a => a.elim0⟩⟩

theorem set_bP (ch p : Fin 4) : ((bP ch p).view.set : Finset S4x256x1024.Idx) = (Rect.unit (s := S4x256x1024) ![ch.val, 64 * p.val, 0] S1x64x1024.size (inbP ch p)).set :=
  (Memref.set_view_squeeze ..).trans (View.set_slice_whole cc0_scratch0 _)
theorem set_bR (ch : Fin 4) (s : Fin 3) : ((bL mR ch s).view.set : Finset S4x3x64x1024.Idx) = (Rect.unit (s := S4x3x64x1024) ![ch.val, s.val, 0, 0] S1x1x64x1024.size (inbR ch s)).set :=
  (Memref.set_view_squeeze ..).trans (View.set_slice_whole cc0_scratch1 _)
theorem set_bA (ch : Fin 4) (s : Fin 3) : ((bL mA ch s).view.set : Finset S4x3x64x1024.Idx) = (Rect.unit (s := S4x3x64x1024) ![ch.val, s.val, 0, 0] S1x1x64x1024.size (inbR ch s)).set :=
  (Memref.set_view_squeeze ..).trans (View.set_slice_whole cc0_scratch3 _)
theorem set_bD (ch : Fin 4) : ((bD ch).view.set : Finset S4x64x1024.Idx) = (Rect.unit (s := S4x64x1024) ![ch.val, 0, 0] S1x64x1024.size (inbD ch)).set :=
  (Memref.set_view_squeeze ..).trans (View.set_slice_whole cc0_scratch2 _)

/-- The block of rows an element lies in. -/
def blk (i : S4x256x1024.Idx) : Fin 4 := ⟨(i 1).val / 64, by have h : (i 1).val < 256 := (i 1).isLt; omega⟩

theorem mem_bP (ch p : Fin 4) (i : S4x256x1024.Idx) : i ∈ ((bP ch p).view.set : Finset S4x256x1024.Idx) ↔ i ∈ cP ch ∧ blk i = p := by
  have h0 : (i 0).val < 4 := (i 0).isLt
  have h1 : (i 1).val < 256 := (i 1).isLt
  have h2 : (i 2).val < 1024 := (i 2).isLt
  rw [mem_cP]
  refine Iff.trans ?_ (and_congr (Fin.ext_iff (a := (i 0 : Fin 4)) (b := ch)) (Fin.ext_iff (a := blk i) (b := p))).symm
  rw [set_bP, Rect.mem_set_unit, Fin.forall_fin_succ, Fin.forall_fin_succ, Fin.forall_fin_succ]
  show (ch.val ≤ (i 0).val ∧ (i 0).val < ch.val + 1) ∧ (64 * p.val ≤ (i 1).val ∧ (i 1).val < 64 * p.val + 64) ∧ (0 ≤ (i 2).val ∧ (i 2).val < 0 + 1024) ∧ (∀ a : Fin 0, _) ↔ (i 0).val = ch.val ∧ (i 1).val / 64 = p.val
  exact ⟨fun h => by omega, fun h => ⟨by omega, by omega, by omega, fun a => a.elim0⟩⟩

/-- Where an element of a landing buffer lies: the slot and the chunk. -/
def slot (i : S4x3x64x1024.Idx) : Fin 3 × Fin 4 := ((i 1 : Fin 3), (i 0 : Fin 4))

theorem mem_bR (ch : Fin 4) (s : Fin 3) (i : S4x3x64x1024.Idx) : i ∈ ((bL mR ch s).view.set : Finset S4x3x64x1024.Idx) ↔ slot i = (s, ch) := by
  have h0 : (i 0).val < 4 := (i 0).isLt
  have h1 : (i 1).val < 3 := (i 1).isLt
  have h2 : (i 2).val < 64 := (i 2).isLt
  have h3 : (i 3).val < 1024 := (i 3).isLt
  refine Iff.trans ?_ (Prod.ext_iff.trans (and_congr (Fin.ext_iff (a := (i 1 : Fin 3)) (b := s)) (Fin.ext_iff (a := (i 0 : Fin 4)) (b := ch)))).symm
  rw [set_bR, Rect.mem_set_unit, Fin.forall_fin_succ, Fin.forall_fin_succ, Fin.forall_fin_succ, Fin.forall_fin_succ]
  show (ch.val ≤ (i 0).val ∧ (i 0).val < ch.val + 1) ∧ (s.val ≤ (i 1).val ∧ (i 1).val < s.val + 1) ∧ (0 ≤ (i 2).val ∧ (i 2).val < 0 + 64) ∧ (0 ≤ (i 3).val ∧ (i 3).val < 0 + 1024) ∧ (∀ a : Fin 0, _) ↔ (i 1).val = s.val ∧ (i 0).val = ch.val
  exact ⟨fun h => by omega, fun h => ⟨by omega, by omega, by omega, by omega, fun a => a.elim0⟩⟩
theorem mem_bA (ch : Fin 4) (s : Fin 3) (i : S4x3x64x1024.Idx) : i ∈ ((bL mA ch s).view.set : Finset S4x3x64x1024.Idx) ↔ slot i = (s, ch) := by
  rw [← mem_bR, set_bA, set_bR]
theorem mem_bD (ch : Fin 4) (i : S4x64x1024.Idx) : i ∈ ((bD ch).view.set : Finset S4x64x1024.Idx) ↔ (i 0 : Fin 4) = ch := by
  have h0 : (i 0).val < 4 := (i 0).isLt
  have h1 : (i 1).val < 64 := (i 1).isLt
  have h2 : (i 2).val < 1024 := (i 2).isLt
  refine Iff.trans ?_ (Fin.ext_iff (a := (i 0 : Fin 4)) (b := ch)).symm
  rw [set_bD, Rect.mem_set_unit, Fin.forall_fin_succ, Fin.forall_fin_succ, Fin.forall_fin_succ]
  show (ch.val ≤ (i 0).val ∧ (i 0).val < ch.val + 1) ∧ (0 ≤ (i 1).val ∧ (i 1).val < 0 + 64) ∧ (0 ≤ (i 2).val ∧ (i 2).val < 0 + 1024) ∧ (∀ a : Fin 0, _) ↔ (i 0).val = ch.val
  exact ⟨fun h => by omega, fun h => ⟨by omega, by omega, by omega, fun a => a.elim0⟩⟩

/-! ## A buffer as its pieces -/

/-- Elements `S` of a buffer, in pieces named by a key. -/
theorem in_pieces {T : Type} [DecidableEq T] [Fintype T] {ℓ : Loc nD τ sig} {q : PosShare TreeShare} {f : Buf (Elt F) ℓ} (S : Finset (Idx ℓ)) (K : T → Finset (Idx ℓ))
    (key : Idx ℓ → T) (h : ∀ t i, i ∈ K t ↔ i ∈ S ∧ key i = t) : (ℓ ↦[S]{q} f : sProp 𝕄) = bigSep Finset.univ fun t => ℓ ↦[K t]{q} f := by
  rw [← pointsTo_biUnion Finset.univ K fun t _ t' _ hne => Finset.disjoint_left.mpr fun i hi hi' => hne (((h t i).1 hi).2.symm.trans ((h t' i).1 hi').2)]
  congr 1
  ext i
  rw [Finset.mem_biUnion]
  exact ⟨fun hi => ⟨key i, Finset.mem_univ _, (h _ i).2 ⟨hi, rfl⟩⟩, fun ⟨t, _, hi⟩ => ((h t i).1 hi).1⟩

/-- Four pieces, three pieces, in a row. -/
abbrev M4 (Φ : Fin 4 → sProp 𝕄) : sProp 𝕄 := iprop(Φ 0 ∗ Φ 1 ∗ Φ 2 ∗ Φ 3)
@[inherit_doc M4] abbrev M3 (Φ : Fin 3 → sProp 𝕄) : sProp 𝕄 := iprop(Φ 0 ∗ Φ 1 ∗ Φ 2)

theorem bigSep_4 (Φ : Fin 4 → sProp 𝕄) : bigSep Finset.univ Φ = M4 Φ :=
  bigSep_univ_eq_bigSepL [(0 : Fin 4), 1, 2, 3] (by decide) (by decide) Φ
theorem bigSep_3 (Φ : Fin 3 → sProp 𝕄) : bigSep Finset.univ Φ = M3 Φ :=
  bigSep_univ_eq_bigSepL [(0 : Fin 3), 1, 2] (by decide) (by decide) Φ
/-- The four devices from `c` on. -/
theorem bigSep_nxt (c : Dev nD) (Φ : Fin 4 → sProp 𝕄) : bigSep Finset.univ Φ = iprop(Φ c ∗ Φ (nxt 1 c) ∗ Φ (nxt 2 c) ∗ Φ (nxt 3 c)) :=
  bigSep_univ_eq_bigSepL [(c : Fin 4), nxt 1 c, nxt 2 c, nxt 3 c] (by revert c; decide) (by revert c; decide) Φ

/-- A chunk of device `c`'s partial products, at contents `f`. -/
abbrev chunk (c : Dev nD) (ch : Fin 4) (f : S4x256x1024.Idx → F .bf16) : sProp 𝕄 :=
  mP.view.loc (c.tc : Thread nD τ) ↦[cP ch]{fullShare} f

theorem whole_P (c : Dev nD) (f : S4x256x1024.Idx → F .bf16) : (mP.view.loc (c.tc : Thread nD τ) ↦{fullShare} f : sProp 𝕄) = M4 fun ch => chunk c ch f := by
  rw [← bigSep_4]
  exact in_pieces (ℓ := mP.view.loc (c.tc : Thread nD τ)) Finset.univ cP (fun i => (i 0 : Fin 4)) fun t i => (mem_cP t i).trans ⟨fun h => ⟨Finset.mem_univ _, h⟩, fun h => h.2⟩
theorem chunk_rows (c : Dev nD) (ch : Fin 4) (f : S4x256x1024.Idx → F .bf16) :
    (chunk c ch f : sProp 𝕄) = iprop(pc c (bP ch c) fullShare f ∗ pc c (bP ch (nxt 1 c)) fullShare f ∗ pc c (bP ch (nxt 2 c)) fullShare f ∗ pc c (bP ch (nxt 3 c)) fullShare f) := by
  rw [← bigSep_nxt c fun p => pc c (bP ch p) fullShare f]
  exact in_pieces (ℓ := mP.view.loc (c.tc : Thread nD τ)) (cP ch) (fun p => (bP ch p).view.set) blk fun t i => mem_bP ch t i
theorem whole_R (c : Dev nD) (f : S4x3x64x1024.Idx → F .bf16) :
    (mR.view.loc (c.tc : Thread nD τ) ↦{fullShare} f : sProp 𝕄) = M3 fun s => M4 fun ch => pc c (bL mR ch s) fullShare f := by
  rw [← bigSep_3, bigSep_congr (s := Finset.univ) fun s _ => (bigSep_4 fun ch => pc c (bL mR ch s) fullShare f).symm,
    ← bigSep_univ_prod fun p : Fin 3 × Fin 4 => pc c (bL mR p.2 p.1) fullShare f]
  exact in_pieces (ℓ := mR.view.loc (c.tc : Thread nD τ)) Finset.univ (fun p : Fin 3 × Fin 4 => (bL mR p.2 p.1).view.set) slot fun t i => (mem_bR t.2 t.1 i).trans ⟨fun h => ⟨Finset.mem_univ _, h⟩, fun h => h.2⟩
theorem whole_A (c : Dev nD) (f : S4x3x64x1024.Idx → F .bf16) :
    (mA.view.loc (c.tc : Thread nD τ) ↦{fullShare} f : sProp 𝕄) = M3 fun s => M4 fun ch => pc c (bL mA ch s) fullShare f := by
  rw [← bigSep_3, bigSep_congr (s := Finset.univ) fun s _ => (bigSep_4 fun ch => pc c (bL mA ch s) fullShare f).symm,
    ← bigSep_univ_prod fun p : Fin 3 × Fin 4 => pc c (bL mA p.2 p.1) fullShare f]
  exact in_pieces (ℓ := mA.view.loc (c.tc : Thread nD τ)) Finset.univ (fun p : Fin 3 × Fin 4 => (bL mA p.2 p.1).view.set) slot fun t i => (mem_bA t.2 t.1 i).trans ⟨fun h => ⟨Finset.mem_univ _, h⟩, fun h => h.2⟩
theorem whole_D (c : Dev nD) (f : S4x64x1024.Idx → F .bf16) :
    (mD.view.loc (c.tc : Thread nD τ) ↦{fullShare} f : sProp 𝕄) = M4 fun ch => pc c (bD ch) fullShare f := by
  rw [← bigSep_4]
  exact in_pieces (ℓ := mD.view.loc (c.tc : Thread nD τ)) Finset.univ (fun ch => (bD ch).view.set) (fun i => (i 0 : Fin 4)) fun t i => (mem_bD t i).trans ⟨fun h => ⟨Finset.mem_univ _, h⟩, fun h => h.2⟩
theorem shares_D (c : Dev nD) (ch : Fin 4) (f : S4x64x1024.Idx → F .bf16) : (pc c (bD ch) fullShare f : sProp 𝕄) = M3 fun i => pc c (bD ch) (sh i) f := by
  rw [← bigSep_3]
  exact Transfers.pointsTo_deal Finset.univ ⟨0, Finset.mem_univ _⟩ fullShare

/-! ## What a copy leaves -/

variable (X : Dev nD → Ins F)

/-- The scatter's copy number `i` of chunk `ch`: the receiver's slot holds what it is to hold. -/
theorem copied_R (c : Dev nD) (ch : Fin 4) (i : Fin 3) (fd : S4x3x64x1024.Idx → F .bf16) :
    (pc (nxt (i.val + 1) c) (bL mR ch i.rev) fullShare ((bL mR ch i.rev).view.write (Elt F) fd ((bP ch (nxt (i.val + 1) c)).view.read (Elt F) (partC (X c))) Finset.univ) : sProp 𝕄)
      = gotR X (nxt (i.val + 1) c) ch i.rev := by
  refine pointsTo_congr fun k hk => ?_
  obtain ⟨j, -, rfl⟩ := Finset.mem_map.1 hk
  rw [View.write_emb_of_mem (M := Finset.univ) _ _ (Finset.mem_univ _)]
  show partC (X c) ((bP ch (nxt (i.val + 1) c)).view.emb j) = rsC X (nxt (i.val + 1) c) ((bL mR ch i.rev).view.emb j)
  rw [emb_bP, emb_bL (b := cc0_scratch1)]
  show rowsOf (X c) ch (nxt (i.val + 1) c) j = rowsOf (X (nxt (i.rev.val + 1) (nxt (i.val + 1) c))) ch (nxt (i.val + 1) c) (ix2 (j 0 : Fin 64) (j 1 : Fin 1024))
  rw [nxt_nxt_rev]
  exact congrArg (rowsOf (X c) ch (nxt (i.val + 1) c)) (eq_ix2 j)
/-- The gather's. -/
theorem copied_A (c : Dev nD) (ch : Fin 4) (i : Fin 3) (fd : S4x3x64x1024.Idx → F .bf16) :
    (pc (nxt (i.val + 1) c) (bL mA ch i.rev) fullShare ((bL mA ch i.rev).view.write (Elt F) fd ((bD ch).view.read (Elt F) (redC X c)) Finset.univ) : sProp 𝕄)
      = gotA X (nxt (i.val + 1) c) ch i.rev := by
  refine pointsTo_congr fun k hk => ?_
  obtain ⟨j, -, rfl⟩ := Finset.mem_map.1 hk
  rw [View.write_emb_of_mem (M := Finset.univ) _ _ (Finset.mem_univ _)]
  show redC X c ((bD ch).view.emb j) = agC X (nxt (i.val + 1) c) ((bL mA ch i.rev).view.emb j)
  rw [emb_bD, emb_bL (b := cc0_scratch3)]
  show redB X c ch (ix2 (j 0 : Fin 64) (j 1 : Fin 1024)) = redB X (nxt (i.rev.val + 1) (nxt (i.val + 1) c)) ch (ix2 (j 0 : Fin 64) (j 1 : Fin 1024))
  rw [nxt_nxt_rev]

end Cert.KernelIdeal.Own

end
-- ==== Proof.Steps.lean ====
/- One step of the kernel's program at a time: a signal, a copy, a wait, a read, a store. -/
module

public import proofs.«01_k».proof.Proof.Pieces

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

abbrev 𝒱₀ : Variants := Variants.none

/-- Device `c` runs `p`, then `Q`. -/
abbrev runs {α : Type} (c : Dev nD) (p : Prog (TpuEff nD τ sig (Elt F) Λ₀ .tc) α) (Q : α → sProp 𝕄) : sProp 𝕄 :=
  wp frame (wpE (defs₀ (F := F)) 𝒱₀ (c.tc : Thread nD τ) none) Set.univ p Q

/-! ## What persists, and what is owed -/

variable (X : Dev nD → Ins F)

/-- The cells' invariants, at their names. -/
abbrev Inv (κ : GSem nD τ sig → ℕ) : sProp 𝕄 := fam.cellInvs ER (Rd X) κ
/-- Every scoped cell of device `c` is open: its first round is reached. -/
def Rch (c : Dev nD) : sProp 𝕄 := bigSep (fam.dorm 0) fun sm => reached ER (cell c sm) 0
instance Rch_persistent (c : Dev nD) : BI.Persistent (Rch (F := F) c) := by unfold Rch; infer_instance
/-- What device `c` owes after its first `j` payments to the others. -/
def Owe (c : Dev nD) (j : ℕ) : sProp 𝕄 := iprop(∃ W, owes (c.tc : Thread nD τ) (owed c j) W)
/-- The levels, by which a wait is allowed. -/
abbrev Lev : sProp 𝕄 := levAts (SiteBlocks.L 10) SiteBlocks.lv

/-- What persists through a device's run. -/
def Ctx (κ : GSem nD τ sig → ℕ) (c : Dev nD) : sProp 𝕄 := iprop(Inv X κ ∗ Rch c ∗ Lev)
instance Ctx_persistent (κ : GSem nD τ sig → ℕ) (c : Dev nD) : BI.Persistent (Ctx X κ c) := by unfold Ctx; infer_instance

theorem dorm_mem {sm : SemLoc sig} (h : sm ∈ dorm 0) : sm ∈ fam.dorm 0 := List.mem_toFinset.2 h

theorem inv_at (κ : GSem nD τ sig → ℕ) (c : Dev nD) {sm : SemLoc sig} (h : sm ∈ dorm 0) :
    Inv X κ ⊢ cellInv ER (Rd X) (κ (cell c sm)) (cell c sm) := Fam.cellInvs_dorm fam ER (Rd X) κ c (j := 0) (dorm_mem h)
theorem rch_at (c : Dev nD) {sm : SemLoc sig} (h : sm ∈ dorm 0) : (Rch c : sProp 𝕄) ⊢ reached ER (cell c sm) 0 :=
  bigSep_elim (dorm_mem h)

/-- What device `c` owes at its first payment of chunk `ch`'s three copies: of the scatter, of the gather. -/
def jR : Fin 4 → ℕ := ![3, 6, 12, 18]
@[inherit_doc jR] def jA : Fin 4 → ℕ := ![9, 15, 21, 24]

set_option maxRecDepth 100000 in
theorem due_bar : ∀ (c : Dev nD) (o : Fin 3), (rowsD c 0)[o.val]? = some ((nxt (o.val + 1) c).val, 0, 0, 1, 1) := by decide +kernel
set_option maxRecDepth 100000 in
theorem due_R : ∀ (c : Dev nD) (ch : Fin 4) (i : Fin 3), (rowsD c 0)[jR ch + i.val]?
    = some ((nxt (i.val + 1) c).val, 13 + 3 * ch.val + i.rev.val, 0, 2 + ch.val, N) := by decide +kernel
set_option maxRecDepth 100000 in
theorem due_A : ∀ (c : Dev nD) (ch : Fin 4) (i : Fin 3), (rowsD c 0)[jA ch + i.val]?
    = some ((nxt (i.val + 1) c).val, 37 + 3 * ch.val + i.rev.val, 0, 6 + ch.val, N) := by decide +kernel
set_option maxRecDepth 100000 in
theorem below_bar : ∀ (c : Dev nD), ∀ x ∈ (rowsD c 0).drop 3, 1 < x.2.2.2.1 ∧ x.2.2.2.1 < 10 := by decide +kernel
set_option maxRecDepth 100000 in
theorem below_R : ∀ (c : Dev nD) (ch : Fin 4), ∀ x ∈ (rowsD c 0).drop (jA ch), 2 + ch.val < x.2.2.2.1 ∧ x.2.2.2.1 < 10 := by decide +kernel

theorem inbS (ch : Fin 4) (i : Fin 3) : ∀ a, (![ch.val, i.val] : Fin 2 → ℕ) a + S1x1.size a ≤ S4x3.size a := by revert ch i; decide
/-- The semaphores as the program names them. -/
theorem sem_RS (ch : Fin 4) (i : Fin 3) (iS) :
    SemLoc.dma ((cc0_scratch4.slice (Rect.unit (s := S4x3) ![ch.val, i.val] S1x1.size iS)).squeeze S_ squeezes_S1x1_S_).sem = sRS ch i :=
  (by decide +kernel : ∀ (ch : Fin 4) (i : Fin 3),
    SemLoc.dma ((cc0_scratch4.slice (Rect.unit (s := S4x3) ![ch.val, i.val] S1x1.size (inbS ch i))).squeeze S_ squeezes_S1x1_S_).sem = sRS ch i) ch i
@[inherit_doc sem_RS] theorem sem_RR (ch : Fin 4) (i : Fin 3) (iS) :
    SemLoc.dma ((cc0_scratch5.slice (Rect.unit (s := S4x3) ![ch.val, i.val] S1x1.size iS)).squeeze S_ squeezes_S1x1_S_).sem = sRR ch i :=
  (by decide +kernel : ∀ (ch : Fin 4) (i : Fin 3),
    SemLoc.dma ((cc0_scratch5.slice (Rect.unit (s := S4x3) ![ch.val, i.val] S1x1.size (inbS ch i))).squeeze S_ squeezes_S1x1_S_).sem = sRR ch i) ch i
@[inherit_doc sem_RS] theorem sem_GS (ch : Fin 4) (i : Fin 3) (iS) :
    SemLoc.dma ((cc0_scratch6.slice (Rect.unit (s := S4x3) ![ch.val, i.val] S1x1.size iS)).squeeze S_ squeezes_S1x1_S_).sem = sGS ch i :=
  (by decide +kernel : ∀ (ch : Fin 4) (i : Fin 3),
    SemLoc.dma ((cc0_scratch6.slice (Rect.unit (s := S4x3) ![ch.val, i.val] S1x1.size (inbS ch i))).squeeze S_ squeezes_S1x1_S_).sem = sGS ch i) ch i
@[inherit_doc sem_RS] theorem sem_GR (ch : Fin 4) (i : Fin 3) (iS) :
    SemLoc.dma ((cc0_scratch7.slice (Rect.unit (s := S4x3) ![ch.val, i.val] S1x1.size iS)).squeeze S_ squeezes_S1x1_S_).sem = sGR ch i :=
  (by decide +kernel : ∀ (ch : Fin 4) (i : Fin 3),
    SemLoc.dma ((cc0_scratch7.slice (Rect.unit (s := S4x3) ![ch.val, i.val] S1x1.size (inbS ch i))).squeeze S_ squeezes_S1x1_S_).sem = sGR ch i) ch i

/-! ## Signals and copies -/

/-- The token of signal `o`, and that the signalled device's barrier is open. -/
def tokB (c : Dev nD) (o : Fin 3) : sProp 𝕄 :=
  iprop(dutyTok ER (cell (nxt (o.val + 1) c) sB) 0 (c, o.val) ∗ reached ER (cell (nxt (o.val + 1) c) sB) 0)
/-- The tokens of copy `i` of chunk `ch`: of what it pays here, of what it pays there. -/
def tokR (c : Dev nD) (ch : Fin 4) (i : Fin 3) : sProp 𝕄 :=
  iprop(dutyTok ER (cell c (sRS ch i)) 0 (c, 27 + 3 * ch.val + i.val) ∗ dutyTok ER (cell (nxt (i.val + 1) c) (sRR ch i.rev)) 0 (c, 3 + 3 * ch.val + i.val))
@[inherit_doc tokR] def tokA (c : Dev nD) (ch : Fin 4) (i : Fin 3) : sProp 𝕄 :=
  iprop(dutyTok ER (cell c (sGS ch i)) 0 (c, 39 + 3 * ch.val + i.val) ∗ dutyTok ER (cell (nxt (i.val + 1) c) (sGR ch i.rev)) 0 (c, 15 + 3 * ch.val + i.val))

/-- The signal to the device `o + 1` after this one hands over the landing slots that device writes. -/
theorem signal (κ : GSem nD τ sig → ℕ) (c : Dev nD) (o : Fin 3) {n d : Dev nD} (hn : n = d) (hd : d = nxt (o.val + 1) c) {j j' : ℕ} (hj : j = o.val) (hj' : j' = j + 1) {sem : Sem sig} (hs : sem = sig.barrier 0 rfl)
    {α : Type} {Q : α → sProp 𝕄} {k : PUnit → Prog (TpuEff nD τ sig (Elt F) Λ₀ .tc) α} :
    Ctx X κ c ⊢ iprop(handOver c o -∗ Owe c j -∗ tokB c o -∗ (Owe c j' -∗ runs c (k ⟨⟩) Q) -∗ runs c (.op (.semSignal (n.tc : Thread nD τ) sem 1) k) Q) := by
  subst hn; subst hd; subst hs; subst hj'; subst hj
  unfold Owe Ctx tokB
  iintro ⟨#HI, -, -⟩ Hp ⟨%W, HO⟩ ⟨Ht, #Hr⟩ Hk
  iapply (Rounds.wp_signal 𝒱₀ ER (Rd X) (c.tc : Thread nD τ) none (dst := ((nxt (o.val + 1) c).tc : Thread nD τ)) (sem := sig.barrier 0 rfl) (r := 0) (d := (c, o.val))
    (κ := κ (cell (nxt (o.val + 1) c) sB)) (pays_bar X c o).1 (pays_bar X c o).2 1 (owed c (o.val + 1)) (owed_step c _ (due_bar c o) rfl)) $$ [Hp HO Ht]
  · isplitr; · iapply (Fam.cellInvs_bar fam ER (Rd X) κ (nxt (o.val + 1) c)); iexact HI
    isplitl [HO]; · iexact HO
    isplitl [Ht]; · iexact Ht
    isplitl [Hp]
    · iapply (show handOver c o ⊢ (Rd X).payload (cell (nxt (o.val + 1) c) sB) 0 (c, o.val) from Entails.of_eq (payK_bar X c o).symm); iexact Hp
    · iexact Hr
  iintro HO
  iapply Hk; iexists W; iexact HO

set_option maxHeartbeats 800000 in
/-- A scatter copy. -/
theorem send_R (κ : GSem nD τ sig → ℕ) (c : Dev nD) (ch : Fin 4) (i : Fin 3) {n d : Dev nD} (hn : n = d) (hd : d = nxt (i.val + 1) c) {r : Fin 3} (hr : r = i.rev)
    {oP : Fin 3 → ℕ} {iP} (hP : oP = ![ch.val, 64 * d.val, 0]) {oL : Fin 4 → ℕ} {iL} (hL : oL = ![ch.val, r.val, 0, 0])
    {oS : Fin 2 → ℕ} {iS} (hS : oS = ![ch.val, i.val]) {oT : Fin 2 → ℕ} {iT} (hT : oT = ![ch.val, r.val]) {j j' : ℕ} (hj : j = jR ch + i.val) (hj' : j' = j + 1)
    {hsc : ((mR.slice (Rect.unit (s := S4x3x64x1024) oL S1x1x64x1024.size iL) (fun _ => rfl)).squeeze S64x1024 squeezes_S1x1x64x1024_S64x1024).view.ref.isScScratch = false}
    {hsrc : ((mP.slice (Rect.unit (s := S4x256x1024) oP S1x64x1024.size iP) (fun _ => rfl)).squeeze S64x1024 squeezes_S1x64x1024_S64x1024).view.WordExact}
    {hdst : ((mR.slice (Rect.unit (s := S4x3x64x1024) oL S1x1x64x1024.size iL) (fun _ => rfl)).squeeze S64x1024 squeezes_S1x1x64x1024_S64x1024).view.WordExact}
    {hsem : DmaTarget.Typed .vmem (.dma ((cc0_scratch5.slice (Rect.unit (s := S4x3) oT S1x1.size iT)).squeeze S_ squeezes_S1x1_S_).sem)
      (.remote (Dev.tc n : Thread nD τ) ((mR.slice (Rect.unit (s := S4x3x64x1024) oL S1x1x64x1024.size iL) (fun _ => rfl)).squeeze S64x1024 squeezes_S1x1x64x1024_S64x1024)
        (.dma ((cc0_scratch4.slice (Rect.unit (s := S4x3) oS S1x1.size iS)).squeeze S_ squeezes_S1x1_S_).sem) hsc)}
    {α : Type} {Q : α → sProp 𝕄} {k : PUnit → Prog (TpuEff nD τ sig (Elt F) Λ₀ .tc) α} :
    Ctx X κ c ⊢ iprop(ownP X c ch d -∗ slotR d ch r -∗ Owe c j -∗ tokR c ch i -∗ (cred (tallyAt (cell c (sRS ch i)) 0 N) -∗ Owe c j' -∗ runs c (k ⟨⟩) Q)
        -∗ runs c (.op (.enqueueDma ((mP.slice (Rect.unit (s := S4x256x1024) oP S1x64x1024.size iP) (fun _ => rfl)).squeeze S64x1024 squeezes_S1x64x1024_S64x1024)
          (.remote (Dev.tc n : Thread nD τ) ((mR.slice (Rect.unit (s := S4x3x64x1024) oL S1x1x64x1024.size iL) (fun _ => rfl)).squeeze S64x1024 squeezes_S1x1x64x1024_S64x1024)
            (.dma ((cc0_scratch4.slice (Rect.unit (s := S4x3) oS S1x1.size iS)).squeeze S_ squeezes_S1x1_S_).sem) hsc)
          (.dma ((cc0_scratch5.slice (Rect.unit (s := S4x3) oT S1x1.size iT)).squeeze S_ squeezes_S1x1_S_).sem) hsrc hdst hsem) k) Q) := by
  subst hn; subst hd; subst hr; subst hP; subst hL; subst hS; subst hT; subst hj'; subst hj
  have eS := sem_RS ch i iS
  have eT := sem_RR ch i.rev iT
  unfold Ctx Owe slotR tokR ownP
  iintro ⟨#HI, #HR, -⟩ Hp ⟨⟨%fd, Hs⟩, #Hr⟩ ⟨%W, HO⟩ ⟨Ht1, Ht2⟩ Hk
  iapply (Rounds.wp_send_pointsTo 𝒱₀ ER (Rd X) (c.tc : Thread nD τ) none (c' := ((nxt (i.val + 1) c).tc : Thread nD τ)) (src := bP ch (nxt (i.val + 1) c)) (dst := bL mR ch i.rev)
      (q := fullShare) (fs := partC (X c)) (κ₁ := κ (cell c (sRS ch i))) (κ₂ := κ (cell (nxt (i.val + 1) c) (sRR ch i.rev)))
      (r₁ := 0) (r₂ := 0) (d₁ := (c, 27 + 3 * ch.val + i.val)) (d₂ := (c, 3 + 3 * ch.val + i.val)) (fd := fd) (O₀ := owed c (jR ch + i.val))
      (by rw [eS]; exact (pays_RS X c ch i).1) (by rw [eT]; exact (pays_RR X c ch i).1)
      (2 + ch.val) 0 N rfl (by rw [eS]; exact (pays_RS X c ch i).2) (by rw [eT]; exact (pays_RR X c ch i).2) (owed c (jR ch + i.val + 1))
      (by rw [eT]; exact owed_step c _ (due_R c ch i) (num_RR ch i.rev)) (W := W)
      (Entails.of_eq (payK_RS X c ch i).symm)
      (Entails.of_eq ((copied_R X c ch i fd).trans (payK_RR X c ch i).symm))) $$ [Hp Hs HO Ht1 Ht2]
  · rw [eS, eT]
    isplitr; · iapply (inv_at X κ c (mem_dorm.1 ch i)); iexact HI
    isplitr; · iapply (inv_at X κ (nxt (i.val + 1) c) (mem_dorm.2.1 ch i.rev)); iexact HI
    isplitl [Hp]; · iexact Hp
    isplitl [Hs]; · iexact Hs
    isplitl [HO]; · iexact HO
    isplitl [Ht1]; · iexact Ht1
    isplitr; · iapply (rch_at c (mem_dorm.1 ch i)); iexact HR
    isplitl [Ht2]; · iexact Ht2
    iexact Hr
  rw [eS]
  iintro ⟨Hc, HO⟩
  iapply Hk $$ Hc
  iexists W; iexact HO

set_option maxHeartbeats 800000 in
/-- A gather copy. -/
theorem send_A (κ : GSem nD τ sig → ℕ) (c : Dev nD) (ch : Fin 4) (i : Fin 3) {n d : Dev nD} (hn : n = d) (hd : d = nxt (i.val + 1) c) {r : Fin 3} (hr : r = i.rev)
    {oP : Fin 3 → ℕ} {iP} (hP : oP = ![ch.val, 0, 0]) {oL : Fin 4 → ℕ} {iL} (hL : oL = ![ch.val, r.val, 0, 0])
    {oS : Fin 2 → ℕ} {iS} (hS : oS = ![ch.val, i.val]) {oT : Fin 2 → ℕ} {iT} (hT : oT = ![ch.val, r.val]) {j j' : ℕ} (hj : j = jA ch + i.val) (hj' : j' = j + 1)
    {hsc : ((mA.slice (Rect.unit (s := S4x3x64x1024) oL S1x1x64x1024.size iL) (fun _ => rfl)).squeeze S64x1024 squeezes_S1x1x64x1024_S64x1024).view.ref.isScScratch = false}
    {hsrc : ((mD.slice (Rect.unit (s := S4x64x1024) oP S1x64x1024.size iP) (fun _ => rfl)).squeeze S64x1024 squeezes_S1x64x1024_S64x1024).view.WordExact}
    {hdst : ((mA.slice (Rect.unit (s := S4x3x64x1024) oL S1x1x64x1024.size iL) (fun _ => rfl)).squeeze S64x1024 squeezes_S1x1x64x1024_S64x1024).view.WordExact}
    {hsem : DmaTarget.Typed .vmem (.dma ((cc0_scratch7.slice (Rect.unit (s := S4x3) oT S1x1.size iT)).squeeze S_ squeezes_S1x1_S_).sem)
      (.remote (Dev.tc n : Thread nD τ) ((mA.slice (Rect.unit (s := S4x3x64x1024) oL S1x1x64x1024.size iL) (fun _ => rfl)).squeeze S64x1024 squeezes_S1x1x64x1024_S64x1024)
        (.dma ((cc0_scratch6.slice (Rect.unit (s := S4x3) oS S1x1.size iS)).squeeze S_ squeezes_S1x1_S_).sem) hsc)}
    {α : Type} {Q : α → sProp 𝕄} {k : PUnit → Prog (TpuEff nD τ sig (Elt F) Λ₀ .tc) α} :
    Ctx X κ c ⊢ iprop(ownD X c ch i -∗ slotA d ch r -∗ Owe c j -∗ tokA c ch i -∗ (cred (tallyAt (cell c (sGS ch i)) 0 N) -∗ Owe c j' -∗ runs c (k ⟨⟩) Q)
        -∗ runs c (.op (.enqueueDma ((mD.slice (Rect.unit (s := S4x64x1024) oP S1x64x1024.size iP) (fun _ => rfl)).squeeze S64x1024 squeezes_S1x64x1024_S64x1024)
          (.remote (Dev.tc n : Thread nD τ) ((mA.slice (Rect.unit (s := S4x3x64x1024) oL S1x1x64x1024.size iL) (fun _ => rfl)).squeeze S64x1024 squeezes_S1x1x64x1024_S64x1024)
            (.dma ((cc0_scratch6.slice (Rect.unit (s := S4x3) oS S1x1.size iS)).squeeze S_ squeezes_S1x1_S_).sem) hsc)
          (.dma ((cc0_scratch7.slice (Rect.unit (s := S4x3) oT S1x1.size iT)).squeeze S_ squeezes_S1x1_S_).sem) hsrc hdst hsem) k) Q) := by
  subst hn; subst hd; subst hr; subst hP; subst hL; subst hS; subst hT; subst hj'; subst hj
  have eS := sem_GS ch i iS
  have eT := sem_GR ch i.rev iT
  unfold Ctx Owe slotA tokA ownD
  iintro ⟨#HI, #HR, -⟩ Hp ⟨⟨%fd, Hs⟩, #Hr⟩ ⟨%W, HO⟩ ⟨Ht1, Ht2⟩ Hk
  iapply (Rounds.wp_send_pointsTo 𝒱₀ ER (Rd X) (c.tc : Thread nD τ) none (c' := ((nxt (i.val + 1) c).tc : Thread nD τ)) (src := bD ch) (dst := bL mA ch i.rev)
      (q := sh i) (fs := redC X c) (κ₁ := κ (cell c (sGS ch i))) (κ₂ := κ (cell (nxt (i.val + 1) c) (sGR ch i.rev)))
      (r₁ := 0) (r₂ := 0) (d₁ := (c, 39 + 3 * ch.val + i.val)) (d₂ := (c, 15 + 3 * ch.val + i.val)) (fd := fd) (O₀ := owed c (jA ch + i.val))
      (by rw [eS]; exact (pays_GS X c ch i).1) (by rw [eT]; exact (pays_GR X c ch i).1)
      (6 + ch.val) 0 N rfl (by rw [eS]; exact (pays_GS X c ch i).2) (by rw [eT]; exact (pays_GR X c ch i).2) (owed c (jA ch + i.val + 1))
      (by rw [eT]; exact owed_step c _ (due_A c ch i) (num_GR ch i.rev)) (W := W)
      (Entails.of_eq (payK_GS X c ch i).symm)
      (Entails.of_eq ((copied_A X c ch i fd).trans (payK_GR X c ch i).symm))) $$ [Hp Hs HO Ht1 Ht2]
  · rw [eS, eT]
    isplitr; · iapply (inv_at X κ c (mem_dorm.2.2.1 ch i)); iexact HI
    isplitr; · iapply (inv_at X κ (nxt (i.val + 1) c) (mem_dorm.2.2.2 ch i.rev)); iexact HI
    isplitl [Hp]; · iexact Hp
    isplitl [Hs]; · iexact Hs
    isplitl [HO]; · iexact HO
    isplitl [Ht1]; · iexact Ht1
    isplitr; · iapply (rch_at c (mem_dorm.2.2.1 ch i)); iexact HR
    isplitl [Ht2]; · iexact Ht2
    iexact Hr
  rw [eS]
  iintro ⟨Hc, HO⟩
  iapply Hk $$ Hc
  iexists W; iexact HO

/-! ## Waits -/

/-- The barrier's wait: the other three devices' landing slots. -/
theorem wait_B (κ : GSem nD τ sig → ℕ) (c : Dev nD) {sem : Sem sig} (hs : sem = sig.barrier 0 rfl)
    {α : Type} {Q : α → sProp 𝕄} {k : PUnit → Prog (TpuEff nD τ sig (Elt F) Λ₀ .tc) α} :
    Ctx X κ c ⊢ iprop(cred (tallyAt (cell c sB) 1 3) -∗ Owe c 3 -∗ atPos ER (cell c sB) 0 ∅ 0 -∗ (Owe c 3 -∗ atPos ER (cell c sB) 1 ∅ 0 -∗ (handOver (nxt 3 c) 0 ∗ handOver (nxt 2 c) 1 ∗ handOver (nxt 1 c) 2) -∗ runs c (k ⟨⟩) Q)
        -∗ runs c (.op (.semWait sem 3) k) Q) := by
  subst hs
  unfold Owe Ctx
  iintro ⟨#HI, -, #HL⟩ Hc ⟨%W, HO⟩ Hat Hk
  iapply (Rounds.wp_wait_rest_token 𝒱₀ ER (Rd X) (c.tc : Thread nD τ) none (sm := sB) (κ := κ (cell c sB)) (wpE_semWait_eq 𝒱₀ (c.tc : Thread nD τ) none Set.univ)
    (Set.mem_univ _) 1 (O := owed c 3) (W := W) (R := 0) (m := 0) (T := ∅) ((Nat.zero_add 3).trans (wait_bar X c).1.symm)) $$ [Hc HO Hat]
  · isplitr; · iapply (Fam.cellInvs_bar fam ER (Rd X) κ c); iexact HI
    isplitl [Hc]; · iexact Hc
    isplitl [HO]; · iexact HO
    isplitr; · iapply (mayWait c 3 1 sB (by decide) (below_bar c)); iexact HL
    iexact Hat
  iintro ⟨HO, Hat, -, Hp⟩
  ihave Hp := (Entails.of_eq (wait_bar X c).2) $$ Hp
  iapply Hk $$ [HO] Hat Hp
  iexists _; iexact HO

/-- A wait for one copy's units, whatever buffers it names. -/
theorem wait_one_step (κ : GSem nD τ sig → ℕ) (c : Dev nD) {sm : SemLoc sig} (hm : sm ∈ dorm 0) {P : sProp 𝕄}
    (hw : (Rd X).expect (cell c sm) 0 = N ∧ bigSep ((Rd X).duties (cell c sm) 0 \ ∅) (fun d => (Rd X).payload (cell c sm) 0 d) = P)
    (j ι : ℕ) (hmay : (Lev : sProp 𝕄) ⊢ MayWait (c.tc : Thread nD τ) sm ι (owed c j))
    {a : DmaSem sig} (ha : SemLoc.dma a = sm) {s' : Shape} {src : Memref sig .tc .vmem s' .bf16} {dst : Memref sig .tc .vmem S64x1024 .bf16} {hsrc : src.view.WordExact} {hdst : dst.view.WordExact}
    (hN : dst.view.dmaCredit = N)
    {α : Type} {Q : α → sProp 𝕄} {k : PUnit → Prog (TpuEff nD τ sig (Elt F) Λ₀ .tc) α} :
    Ctx X κ c ⊢ iprop((atPos ER (cell c sm) 0 ∅ 0 ∗ cred (tallyAt (cell c sm) ι N)) -∗ Owe c j -∗ (Owe c j -∗ atPos ER (cell c sm) 1 ∅ 0 -∗ P -∗ runs c (k ⟨⟩) Q) -∗ runs c (.op (.waitDma2 a src dst hsrc hdst) k) Q) := by
  subst ha
  obtain ⟨he, rfl⟩ := hw
  unfold Owe Ctx
  iintro ⟨#HI, -, #HL⟩ ⟨Hat, Hc⟩ ⟨%W, HO⟩ Hk
  iapply (Rounds.wp_wait_rest_token 𝒱₀ ER (Rd X) (c.tc : Thread nD τ) none (sm := .dma a) (κ := κ (cell c (.dma a))) (wpE_waitDma2_eq (src := src) (dst := dst) 𝒱₀ (c.tc : Thread nD τ) none Set.univ)
    (Set.mem_univ _) ι (O := owed c j) (W := W) (R := 0) (m := 0) (T := ∅) (by rw [hN, he, Nat.zero_add])) $$ [Hc HO Hat]
  · isplitr; · iapply (inv_at X κ c hm); iexact HI
    isplitl [Hc]; · rw [hN]; iexact Hc
    isplitl [HO]; · iexact HO
    isplitr; · iapply hmay; iexact HL
    iexact Hat
  iintro ⟨HO, Hat, -, Hp⟩
  iapply Hk $$ [HO] Hat Hp
  iexists _; iexact HO

theorem may_end (c : Dev nD) (sm : SemLoc sig) (ι : ℕ) : (Lev : sProp 𝕄) ⊢ MayWait (c.tc : Thread nD τ) sm ι (owed c 27) := by
  rw [owed_end, MayWait_zero]; iintro -; iempintro

/-- A scatter slot's wait. -/
theorem wait_R (κ : GSem nD τ sig → ℕ) (c : Dev nD) (ch : Fin 4) (i : Fin 3) {oS : Fin 2 → ℕ} {iS} (hS : oS = ![ch.val, i.val]) {j : ℕ} (hj : j = jA ch)
    {oL : Fin 4 → ℕ} {iL} {s' : Shape} {src : Memref sig .tc .vmem s' .bf16} {hsrc : src.view.WordExact}
    {hdst : ((mR.slice (Rect.unit (s := S4x3x64x1024) oL S1x1x64x1024.size iL) (fun _ => rfl)).squeeze S64x1024 squeezes_S1x1x64x1024_S64x1024).view.WordExact}
    {α : Type} {Q : α → sProp 𝕄} {k : PUnit → Prog (TpuEff nD τ sig (Elt F) Λ₀ .tc) α} :
    Ctx X κ c ⊢ iprop((atPos ER (cell c (sRR ch i)) 0 ∅ 0 ∗ cred (tallyAt (cell c (sRR ch i)) (2 + ch.val) N)) -∗ Owe c j -∗ (Owe c j -∗ atPos ER (cell c (sRR ch i)) 1 ∅ 0 -∗ gotR X c ch i -∗ runs c (k ⟨⟩) Q)
        -∗ runs c (.op (.waitDma2 ((cc0_scratch5.slice (Rect.unit (s := S4x3) oS S1x1.size iS)).squeeze S_ squeezes_S1x1_S_).sem src ((mR.slice (Rect.unit (s := S4x3x64x1024) oL S1x1x64x1024.size iL) (fun _ => rfl)).squeeze S64x1024 squeezes_S1x1x64x1024_S64x1024) hsrc hdst) k) Q) := by
  subst hS; subst hj
  exact wait_one_step X κ c (mem_dorm.2.1 ch i) (wait_RR X c ch i) _ _ (mayWait c _ _ _ (by omega) (below_R c ch)) (sem_RR ch i iS) rfl

/-- A gather slot's wait. -/
theorem wait_A (κ : GSem nD τ sig → ℕ) (c : Dev nD) (ch : Fin 4) (i : Fin 3) {oS : Fin 2 → ℕ} {iS} (hS : oS = ![ch.val, i.val]) {j : ℕ} (hj : j = 27)
    {oL : Fin 4 → ℕ} {iL} {s' : Shape} {src : Memref sig .tc .vmem s' .bf16} {hsrc : src.view.WordExact}
    {hdst : ((mA.slice (Rect.unit (s := S4x3x64x1024) oL S1x1x64x1024.size iL) (fun _ => rfl)).squeeze S64x1024 squeezes_S1x1x64x1024_S64x1024).view.WordExact}
    {α : Type} {Q : α → sProp 𝕄} {k : PUnit → Prog (TpuEff nD τ sig (Elt F) Λ₀ .tc) α} :
    Ctx X κ c ⊢ iprop((atPos ER (cell c (sGR ch i)) 0 ∅ 0 ∗ cred (tallyAt (cell c (sGR ch i)) (6 + ch.val) N)) -∗ Owe c j -∗ (Owe c j -∗ atPos ER (cell c (sGR ch i)) 1 ∅ 0 -∗ gotA X c ch i -∗ runs c (k ⟨⟩) Q)
        -∗ runs c (.op (.waitDma2 ((cc0_scratch7.slice (Rect.unit (s := S4x3) oS S1x1.size iS)).squeeze S_ squeezes_S1x1_S_).sem src ((mA.slice (Rect.unit (s := S4x3x64x1024) oL S1x1x64x1024.size iL) (fun _ => rfl)).squeeze S64x1024 squeezes_S1x1x64x1024_S64x1024) hsrc hdst) k) Q) := by
  subst hS; subst hj
  exact wait_one_step X κ c (mem_dorm.2.2.2 ch i) (wait_GR X c ch i) _ _ (may_end c _ _) (sem_GR ch i iS) rfl

/-- The wait for a scatter copy to have been sent. -/
theorem wait_SR (κ : GSem nD τ sig → ℕ) (c : Dev nD) (ch : Fin 4) (i : Fin 3) {d : Dev nD} (hd : d = nxt (i.val + 1) c) {oS : Fin 2 → ℕ} {iS} (hS : oS = ![ch.val, i.val]) {j : ℕ} (hj : j = 27)
    {oL : Fin 4 → ℕ} {iL} {s' : Shape} {src : Memref sig .tc .vmem s' .bf16} {hsrc : src.view.WordExact}
    {hdst : ((mR.slice (Rect.unit (s := S4x3x64x1024) oL S1x1x64x1024.size iL) (fun _ => rfl)).squeeze S64x1024 squeezes_S1x1x64x1024_S64x1024).view.WordExact}
    {α : Type} {Q : α → sProp 𝕄} {k : PUnit → Prog (TpuEff nD τ sig (Elt F) Λ₀ .tc) α} :
    Ctx X κ c ⊢ iprop((atPos ER (cell c (sRS ch i)) 0 ∅ 0 ∗ cred (tallyAt (cell c (sRS ch i)) 0 N)) -∗ Owe c j -∗ (Owe c j -∗ atPos ER (cell c (sRS ch i)) 1 ∅ 0 -∗ ownP X c ch d -∗ runs c (k ⟨⟩) Q)
        -∗ runs c (.op (.waitDma2 ((cc0_scratch4.slice (Rect.unit (s := S4x3) oS S1x1.size iS)).squeeze S_ squeezes_S1x1_S_).sem src ((mR.slice (Rect.unit (s := S4x3x64x1024) oL S1x1x64x1024.size iL) (fun _ => rfl)).squeeze S64x1024 squeezes_S1x1x64x1024_S64x1024) hsrc hdst) k) Q) := by
  subst hS; subst hj
  subst hd
  exact wait_one_step X κ c (mem_dorm.1 ch i) (wait_RS X c ch i) _ _ (may_end c _ _) (sem_RS ch i iS) rfl

/-- The wait for a gather copy to have been sent. -/
theorem wait_SA (κ : GSem nD τ sig → ℕ) (c : Dev nD) (ch : Fin 4) (i : Fin 3) {oS : Fin 2 → ℕ} {iS} (hS : oS = ![ch.val, i.val]) {j : ℕ} (hj : j = 27)
    {oL : Fin 3 → ℕ} {iL} {s' : Shape} {src : Memref sig .tc .vmem s' .bf16} {hsrc : src.view.WordExact}
    {hdst : ((mD.slice (Rect.unit (s := S4x64x1024) oL S1x64x1024.size iL) (fun _ => rfl)).squeeze S64x1024 squeezes_S1x64x1024_S64x1024).view.WordExact}
    {α : Type} {Q : α → sProp 𝕄} {k : PUnit → Prog (TpuEff nD τ sig (Elt F) Λ₀ .tc) α} :
    Ctx X κ c ⊢ iprop((atPos ER (cell c (sGS ch i)) 0 ∅ 0 ∗ cred (tallyAt (cell c (sGS ch i)) 0 N)) -∗ Owe c j -∗ (Owe c j -∗ atPos ER (cell c (sGS ch i)) 1 ∅ 0 -∗ ownD X c ch i -∗ runs c (k ⟨⟩) Q)
        -∗ runs c (.op (.waitDma2 ((cc0_scratch6.slice (Rect.unit (s := S4x3) oS S1x1.size iS)).squeeze S_ squeezes_S1x1_S_).sem src ((mD.slice (Rect.unit (s := S4x64x1024) oL S1x64x1024.size iL) (fun _ => rfl)).squeeze S64x1024 squeezes_S1x64x1024_S64x1024) hsrc hdst) k) Q) := by
  subst hS; subst hj
  exact wait_one_step X κ c (mem_dorm.2.2.1 ch i) (wait_GS X c ch i) _ _ (may_end c _ _) (sem_GS ch i iS) rfl

end Cert.KernelIdeal.Own

end
-- ==== Proof.Access.lean ====
/- Reads and stores of the kernel's program, by what the buffers hold. -/
module

public import proofs.«01_k».proof.Proof.Steps

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

/-! ## Blocks of rows under leading axes of one -/

/-- A block of rows under one leading axis, under two. -/
def up3 {α : Type} (w : S64x1024.Idx → α) : S1x64x1024.Idx → α := fun x => w (ix2 (x 1 : Fin 64) (x 2 : Fin 1024))
@[inherit_doc up3] def up4 {α : Type} (w : S64x1024.Idx → α) : S1x1x64x1024.Idx → α := fun x => w (ix2 (x 2 : Fin 64) (x 3 : Fin 1024))

theorem down3 {e : FTy} (w : FVec F S64x1024 e) (h) : shapeCast S64x1024 (up3 w : FVec F S1x64x1024 e) h = w := by
  funext j
  refine (congrArg (up3 w) ((congrArg (Shape.reshapeEquiv h) (eq_ix2 j)).trans (reshapeEquiv_ix2_1ab (a := 64) (b := 1024) h (j 0 : Fin 64) (j 1 : Fin 1024)))).trans ?_
  exact congrArg w (eq_ix2 j).symm
theorem down4 {e : FTy} (w : FVec F S64x1024 e) (h) : shapeCast S64x1024 (up4 w : FVec F S1x1x64x1024 e) h = w := by
  funext j
  refine (congrArg (up4 w) ((congrArg (Shape.reshapeEquiv h) (eq_ix2 j)).trans (reshapeEquiv_ix2_11ab (a := 64) (b := 1024) h (j 0 : Fin 64) (j 1 : Fin 1024)))).trans ?_
  exact congrArg w (eq_ix2 j).symm
theorem raise3 {e : FTy} (w : FVec F S64x1024 e) (h) : shapeCast S1x64x1024 w h = (up3 w : FVec F S1x64x1024 e) := by
  funext x
  have h0 : (x 0).val < 1 := (x 0).isLt
  refine congrArg w (Shape.reshapeEquiv_eq_of_rowMajor h ?_)
  rw [Shape.rowMajor_val_three, Shape.rowMajor_val_two]
  show (x 1).val * 1024 + (x 2).val = ((x 0).val * 64 + (x 1).val) * 1024 + (x 2).val
  omega

/-! ## Reads -/

variable (X : Dev nD → Ins F)

/-- The device's own rows of its partial product. -/
theorem load_P (c : Dev nD) (ch : Fin 4) {oP : Fin 3 → ℕ} {iP} (hP : oP = ![ch.val, 64 * c.val, 0])
    {hl} {α : Type} {Q : α → sProp 𝕄} {k : (S1x64x1024.Idx → Elt F .bf16) → Prog (TpuEff nD τ sig (Elt F) Λ₀ .tc) α} :
    (ownP X c ch c : sProp 𝕄) ⊢ iprop((ownP X c ch c -∗ runs c (k (up3 (rowsOf (X c) ch c))) Q)
      -∗ runs c (.op (.load mP (Rect.unit (s := S4x256x1024) oP S1x64x1024.size iP).toLoadRect hl) k) Q) := by
  subst hP
  have e : (mP.access (Rect.unit (s := S4x256x1024) ![ch.val, 64 * c.val, 0] S1x64x1024.size iP)).read (Elt F) (partC (X c)) = up3 (rowsOf (X c) ch c) := by
    funext x
    have h0 : (x 0).val < 1 := (x 0).isLt
    have hc : c.val < 4 := c.isLt
    have h1 : (x 1).val < 64 := (x 1).isLt
    refine (congrArg (partC (X c)) (?_ : _ = (ix3 ch (⟨64 * c.val + (x 1).val, by omega⟩ : Fin 256) (x 2 : Fin 1024) : S4x256x1024.Idx))).trans rfl
    funext a; fin_cases a <;> apply Fin.ext
    · show ch.val + 1 * (x 0).val = ch.val; omega
    · show 64 * c.val + 1 * (x 1).val = 64 * c.val + (x 1).val; omega
    · show 0 + 1 * (x 2).val = (x 2).val; omega
  rw [← e]
  exact wp_load_rect 𝒱₀ (c.tc : Thread nD τ) none Set.univ (m := mP) (r := Rect.unit (s := S4x256x1024) ![ch.val, 64 * c.val, 0] S1x64x1024.size iP)
    (subset_of_eq ((View.set_slice_whole cc0_scratch0 _).trans (set_bP ch c).symm))

/-- A scatter slot. -/
theorem load_R (c : Dev nD) (ch : Fin 4) (s : Fin 3) {oL : Fin 4 → ℕ} {iL} (hL : oL = ![ch.val, s.val, 0, 0])
    {hl} {α : Type} {Q : α → sProp 𝕄} {k : (S1x1x64x1024.Idx → Elt F .bf16) → Prog (TpuEff nD τ sig (Elt F) Λ₀ .tc) α} :
    (gotR X c ch s : sProp 𝕄) ⊢ iprop((gotR X c ch s -∗ runs c (k (up4 (rowsOf (X (nxt (s.val + 1) c)) ch c))) Q)
      -∗ runs c (.op (.load mR (Rect.unit (s := S4x3x64x1024) oL S1x1x64x1024.size iL).toLoadRect hl) k) Q) := by
  subst hL
  have e : (mR.access (Rect.unit (s := S4x3x64x1024) ![ch.val, s.val, 0, 0] S1x1x64x1024.size iL)).read (Elt F) (rsC X c) = up4 (rowsOf (X (nxt (s.val + 1) c)) ch c) := by
    funext x
    have h0 : (x 0).val < 1 := (x 0).isLt
    have h1 : (x 1).val < 1 := (x 1).isLt
    refine (congrArg (rsC X c) (?_ : _ = (ix4 ch s (x 2 : Fin 64) (x 3 : Fin 1024) : S4x3x64x1024.Idx))).trans rfl
    funext a; fin_cases a <;> apply Fin.ext
    · show ch.val + 1 * (x 0).val = ch.val; omega
    · show s.val + 1 * (x 1).val = s.val; omega
    · show 0 + 1 * (x 2).val = (x 2).val; omega
    · show 0 + 1 * (x 3).val = (x 3).val; omega
  rw [← e]
  exact wp_load_rect 𝒱₀ (c.tc : Thread nD τ) none Set.univ (m := mR) (r := Rect.unit (s := S4x3x64x1024) ![ch.val, s.val, 0, 0] S1x1x64x1024.size iL)
    (subset_of_eq ((View.set_slice_whole cc0_scratch1 _).trans (set_bR ch s).symm))

/-- A gather slot. -/
theorem load_A (c : Dev nD) (ch : Fin 4) (s : Fin 3) {oL : Fin 4 → ℕ} {iL} (hL : oL = ![ch.val, s.val, 0, 0])
    {hl} {α : Type} {Q : α → sProp 𝕄} {k : (S1x1x64x1024.Idx → Elt F .bf16) → Prog (TpuEff nD τ sig (Elt F) Λ₀ .tc) α} :
    (gotA X c ch s : sProp 𝕄) ⊢ iprop((gotA X c ch s -∗ runs c (k (up4 (redB X (nxt (s.val + 1) c) ch))) Q)
      -∗ runs c (.op (.load mA (Rect.unit (s := S4x3x64x1024) oL S1x1x64x1024.size iL).toLoadRect hl) k) Q) := by
  subst hL
  have e : (mA.access (Rect.unit (s := S4x3x64x1024) ![ch.val, s.val, 0, 0] S1x1x64x1024.size iL)).read (Elt F) (agC X c) = up4 (redB X (nxt (s.val + 1) c) ch) := by
    funext x
    have h0 : (x 0).val < 1 := (x 0).isLt
    have h1 : (x 1).val < 1 := (x 1).isLt
    refine (congrArg (agC X c) (?_ : _ = (ix4 ch s (x 2 : Fin 64) (x 3 : Fin 1024) : S4x3x64x1024.Idx))).trans rfl
    funext a; fin_cases a <;> apply Fin.ext
    · show ch.val + 1 * (x 0).val = ch.val; omega
    · show s.val + 1 * (x 1).val = s.val; omega
    · show 0 + 1 * (x 2).val = (x 2).val; omega
    · show 0 + 1 * (x 3).val = (x 3).val; omega
  rw [← e]
  exact wp_load_rect 𝒱₀ (c.tc : Thread nD τ) none Set.univ (m := mA) (r := Rect.unit (s := S4x3x64x1024) ![ch.val, s.val, 0, 0] S1x1x64x1024.size iL)
    (subset_of_eq ((View.set_slice_whole cc0_scratch3 _).trans (set_bA ch s).symm))

/-! ## Stores, each after a read of the same elements that nothing uses -/

/-- A chunk's partial product. -/
theorem load_C (c : Dev nD) (ch : Fin 4) {oC : Fin 3 → ℕ} {iC} (hC : oC = ![ch.val, 0, 0])
    {hl} {α : Type} {Q : α → sProp 𝕄} {k : (S1x256x1024.Idx → Elt F .bf16) → Prog (TpuEff nD τ sig (Elt F) Λ₀ .tc) α} :
    iprop(∃ f, chunk c ch f) ⊢ iprop((iprop(∃ f, chunk c ch f) -∗ ∀ v, runs c (k v) Q)
      -∗ runs c (.op (.load mP (Rect.unit (s := S4x256x1024) oC S1x256x1024.size iC).toLoadRect hl) k) Q) := by
  subst hC
  iintro ⟨%f, H⟩ Hk
  iapply (wp_load_rect 𝒱₀ (c.tc : Thread nD τ) none Set.univ (m := mP) (r := Rect.unit (s := S4x256x1024) ![ch.val, 0, 0] S1x256x1024.size iC) (S := cP ch)
    (subset_of_eq (View.set_slice_whole cc0_scratch0 _))) $$ H
  iintro H
  iapply Hk $$ [H]
  iexists f; iexact H

theorem store_C (c : Dev nD) (ch : Fin 4) {oC : Fin 3 → ℕ} {iC} (hC : oC = ![ch.val, 0, 0]) {w : S1x256x1024.Idx → Elt F .bf16} (hw : w = part (X c) ch)
    {hx hm} {α : Type} {Q : α → sProp 𝕄} {k : PUnit → Prog (TpuEff nD τ sig (Elt F) Λ₀ .tc) α} :
    iprop(∃ f, chunk c ch f) ⊢ iprop(((ownP X c ch c ∗ ownP X c ch (nxt 1 c) ∗ ownP X c ch (nxt 2 c) ∗ ownP X c ch (nxt 3 c)) -∗ runs c (k ⟨⟩) Q)
      -∗ runs c (.op (.store mP (Rect.unit (s := S4x256x1024) oC S1x256x1024.size iC) w Finset.univ hx hm) k) Q) := by
  subst hC; subst hw
  have hS : (mP.access (Rect.unit (s := S4x256x1024) ![ch.val, 0, 0] S1x256x1024.size iC)).set = cP ch := View.set_slice_whole cc0_scratch0 _
  have e : ∀ f : S4x256x1024.Idx → F .bf16, (chunk c ch ((mP.access (Rect.unit (s := S4x256x1024) ![ch.val, 0, 0] S1x256x1024.size iC)).write (Elt F) f (part (X c) ch) Finset.univ) : sProp 𝕄)
      = chunk c ch (partC (X c)) := fun f => by
    refine pointsTo_congr fun i hi => ?_
    obtain ⟨x, -, rfl⟩ := Finset.mem_map.1 (hS.symm ▸ hi)
    have h0 : (x 0).val < 1 := (x 0).isLt
    refine (View.write_emb_of_mem (M := Finset.univ) _ _ (Finset.mem_univ _)).trans ?_
    refine ((congrArg (partC (X c)) (?_ : _ = (ix3 ch (x 1 : Fin 256) (x 2 : Fin 1024) : S4x256x1024.Idx))).trans (congrArg (part (X c) ch) (?_ : (ix3 (0 : Fin 1) (x 1 : Fin 256) (x 2 : Fin 1024) : S1x256x1024.Idx) = x))).symm
    · funext a; fin_cases a <;> apply Fin.ext
      · show ch.val + 1 * (x 0).val = ch.val; omega
      · show 0 + 1 * (x 1).val = (x 1).val; omega
      · show 0 + 1 * (x 2).val = (x 2).val; omega
    · funext a; fin_cases a
      · apply Fin.ext; show 0 = (x 0).val; omega
      · rfl
      · rfl
  iintro ⟨%f, H⟩ Hk
  iapply (wp_store 𝒱₀ (c.tc : Thread nD τ) none Set.univ (m := mP) (r := Rect.unit (s := S4x256x1024) ![ch.val, 0, 0] S1x256x1024.size iC) (Mk := Finset.univ) (S := cP ch) (f := f)
    (subset_of_eq (View.set_slice_whole cc0_scratch0 _))) $$ H
  iintro H
  iapply Hk
  iapply (Entails.of_eq ((e f).trans (chunk_rows c ch (partC (X c))))) $$ H

/-- A chunk's sum. -/
theorem load_D (c : Dev nD) (ch : Fin 4) {oC : Fin 3 → ℕ} {iC} (hC : oC = ![ch.val, 0, 0])
    {hl} {α : Type} {Q : α → sProp 𝕄} {k : (S1x64x1024.Idx → Elt F .bf16) → Prog (TpuEff nD τ sig (Elt F) Λ₀ .tc) α} :
    iprop(∃ f, pc c (bD ch) fullShare f) ⊢ iprop((iprop(∃ f, pc c (bD ch) fullShare f) -∗ ∀ v, runs c (k v) Q)
      -∗ runs c (.op (.load mD (Rect.unit (s := S4x64x1024) oC S1x64x1024.size iC).toLoadRect hl) k) Q) := by
  subst hC
  iintro ⟨%f, H⟩ Hk
  iapply (wp_load_rect 𝒱₀ (c.tc : Thread nD τ) none Set.univ (m := mD) (r := Rect.unit (s := S4x64x1024) ![ch.val, 0, 0] S1x64x1024.size iC) (S := (bD ch).view.set)
    (subset_of_eq ((View.set_slice_whole cc0_scratch2 _).trans (set_bD ch).symm))) $$ H
  iintro H
  iapply Hk $$ [H]
  iexists f; iexact H

theorem store_D (c : Dev nD) (ch : Fin 4) {oC : Fin 3 → ℕ} {iC} (hC : oC = ![ch.val, 0, 0]) {w : S1x64x1024.Idx → Elt F .bf16} (hw : w = up3 (redB X c ch))
    {hx hm} {α : Type} {Q : α → sProp 𝕄} {k : PUnit → Prog (TpuEff nD τ sig (Elt F) Λ₀ .tc) α} :
    iprop(∃ f, pc c (bD ch) fullShare f) ⊢ iprop((M3 (fun i => ownD X c ch i) -∗ runs c (k ⟨⟩) Q)
      -∗ runs c (.op (.store mD (Rect.unit (s := S4x64x1024) oC S1x64x1024.size iC) w Finset.univ hx hm) k) Q) := by
  subst hC; subst hw
  have hS : (mD.access (Rect.unit (s := S4x64x1024) ![ch.val, 0, 0] S1x64x1024.size iC)).set = (bD ch).view.set := (View.set_slice_whole cc0_scratch2 _).trans (set_bD ch).symm
  have e : ∀ f : S4x64x1024.Idx → F .bf16, (pc c (bD ch) fullShare ((mD.access (Rect.unit (s := S4x64x1024) ![ch.val, 0, 0] S1x64x1024.size iC)).write (Elt F) f (up3 (redB X c ch)) Finset.univ) : sProp 𝕄)
      = pc c (bD ch) fullShare (redC X c) := fun f => by
    refine pointsTo_congr fun i hi => ?_
    obtain ⟨x, -, rfl⟩ := Finset.mem_map.1 (hS.symm ▸ hi)
    have h0 : (x 0).val < 1 := (x 0).isLt
    refine (View.write_emb_of_mem (M := Finset.univ) _ _ (Finset.mem_univ _)).trans ?_
    refine ((congrArg (redC X c) (?_ : _ = (ix3 ch (x 1 : Fin 64) (x 2 : Fin 1024) : S4x64x1024.Idx))).trans rfl).symm
    funext a; fin_cases a <;> apply Fin.ext
    · show ch.val + 1 * (x 0).val = ch.val; omega
    · show 0 + 1 * (x 1).val = (x 1).val; omega
    · show 0 + 1 * (x 2).val = (x 2).val; omega
  iintro ⟨%f, H⟩ Hk
  iapply (wp_store 𝒱₀ (c.tc : Thread nD τ) none Set.univ (m := mD) (r := Rect.unit (s := S4x64x1024) ![ch.val, 0, 0] S1x64x1024.size iC) (Mk := Finset.univ) (S := (bD ch).view.set) (f := f)
    (subset_of_eq hS)) $$ H
  iintro H
  iapply Hk
  iapply (Entails.of_eq ((e f).trans (shares_D c ch (redC X c)))) $$ H

/-! ## The result -/

/-- The chunk and the block of rows an element of the result lies in. -/
def oblk (i : S1x1024x1024.Idx) : Fin 4 × Fin 4 :=
  ((⟨(i 1).val / 256, by have h : (i 1).val < 1024 := (i 1).isLt; omega⟩ : Fin 4), (⟨(i 1).val % 256 / 64, by omega⟩ : Fin 4))

/-- The result buffer, holding what it shall in the blocks `T`. -/
def outs (c : Dev nD) (T : Finset (Fin 4 × Fin 4)) : sProp 𝕄 :=
  iprop(∃ f : S1x1024x1024.Idx → F .f32, ⌜∀ i, oblk i ∈ T → f i = outC X c i⌝ ∗ mO.view.loc (c.tc : Thread nD τ) ↦{fullShare} f)

theorem load_O (c : Dev nD) (T : Finset (Fin 4 × Fin 4)) {oO : Fin 3 → ℕ} {iO}
    {hl} {α : Type} {Q : α → sProp 𝕄} {k : (S1x64x1024.Idx → Elt F .f32) → Prog (TpuEff nD τ sig (Elt F) Λ₀ .tc) α} :
    (outs X c T : sProp 𝕄) ⊢ iprop((outs X c T -∗ ∀ v, runs c (k v) Q)
      -∗ runs c (.op (.load mO (Rect.unit (s := S1x1024x1024) oO S1x64x1024.size iO).toLoadRect hl) k) Q) := by
  unfold outs
  iintro ⟨%f, %hf, H⟩ Hk
  iapply (wp_load 𝒱₀ (c.tc : Thread nD τ) none Set.univ (m := mO) (Finset.subset_univ _)) $$ H
  iintro H
  iapply Hk $$ [H]
  iexists f
  isplitr; · ipureintro; exact hf
  iexact H

theorem store_O (c : Dev nD) (T : Finset (Fin 4 × Fin 4)) (ch p : Fin 4) {oO : Fin 3 → ℕ} {iO} (hO : oO = ![0, 256 * ch.val + 64 * p.val, 0])
    {w : S1x64x1024.Idx → Elt F .f32} (hw : w = up3 (outB X c ch p))
    {hx hm} {α : Type} {Q : α → sProp 𝕄} {k : PUnit → Prog (TpuEff nD τ sig (Elt F) Λ₀ .tc) α} :
    (outs X c T : sProp 𝕄) ⊢ iprop((outs X c (insert (ch, p) T) -∗ runs c (k ⟨⟩) Q)
      -∗ runs c (.op (.store mO (Rect.unit (s := S1x1024x1024) oO S1x64x1024.size iO) w Finset.univ hx hm) k) Q) := by
  subst hO; subst hw
  unfold outs
  iintro ⟨%f, %hf, H⟩ Hk
  iapply (wp_store 𝒱₀ (c.tc : Thread nD τ) none Set.univ (m := mO) (r := Rect.unit (s := S1x1024x1024) ![0, 256 * ch.val + 64 * p.val, 0] S1x64x1024.size iO) (Mk := Finset.univ) (f := f)
    (Finset.subset_univ _)) $$ H
  iintro H
  iapply Hk
  iexists _
  isplitr
  rotate_left
  · iexact H
  ipureintro
  intro i hi
  have h0 : (i 0).val < 1 := (i 0).isLt
  have h1 : (i 1).val < 1024 := (i 1).isLt
  have hc := ch.isLt
  have hp := p.isLt
  by_cases h : oblk i = (ch, p)
  · have e1 : (i 1).val / 256 = ch.val := congrArg (fun t : Fin 4 × Fin 4 => t.1.val) h
    have e2 : (i 1).val % 256 / 64 = p.val := congrArg (fun t : Fin 4 × Fin 4 => t.2.val) h
    let x : S1x64x1024.Idx := ix3 (0 : Fin 1) (⟨(i 1).val % 64, by omega⟩ : Fin 64) (i 2 : Fin 1024)
    have ei : (mO.access (Rect.unit (s := S1x1024x1024) ![0, 256 * ch.val + 64 * p.val, 0] S1x64x1024.size iO)).emb x = i := by
      funext a; fin_cases a <;> apply Fin.ext
      · show 0 + 1 * 0 = (i 0).val; omega
      · show 256 * ch.val + 64 * p.val + 1 * ((i 1).val % 64) = (i 1).val; omega
      · show 0 + 1 * (i 2).val = (i 2).val; omega
    refine (congrArg _ ei.symm).trans ((View.write_emb_of_mem (M := Finset.univ) _ _ (Finset.mem_univ _)).trans ?_)
    show outB X c ch p _ = outB X c (oblk i).1 (oblk i).2 _
    rw [h]
  · refine (View.write_of_not_mem _ _ _ ?_).trans (hf i ((Finset.mem_insert.1 hi).resolve_left h))
    intro hm'
    apply h
    obtain ⟨x, -, rfl⟩ := Finset.mem_map.1 hm'
    have hx1 : (x 1).val < 64 := (x 1).isLt
    refine Prod.ext (Fin.ext ?_) (Fin.ext ?_)
    · show (256 * ch.val + 64 * p.val + 1 * (x 1).val) / 256 = ch.val; omega
    · show (256 * ch.val + 64 * p.val + 1 * (x 1).val) % 256 / 64 = p.val; omega

end Cert.KernelIdeal.Own

end
-- ==== Proof.BodyPre.lean ====
/- The kernel's run on one device: what it starts with, what it leaves, and the facts the run uses. -/
module

public import proofs.«01_k».proof.Proof.Access

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F)

/-! ## The addresses the program computes -/

/-- The destinations of the program's payments, in order. -/
def devT : Fin 27 → Dev nD → ℕ :=
  ![k0_dev1, k0_dev2, k0_dev3, k0_dev4, k0_dev5, k0_dev6, k0_dev7, k0_dev8, k0_dev9, k0_dev10, k0_dev11, k0_dev12, k0_dev13, k0_dev14,
    k0_dev15, k0_dev16, k0_dev17, k0_dev18, k0_dev19, k0_dev20, k0_dev21, k0_dev22, k0_dev23, k0_dev24, k0_dev25, k0_dev26, k0_dev27]
theorem devs : ∀ (k : Fin 27) (c : Dev nD), devT k c = (nxt (k.val % 3 + 1) c).val := by decide +kernel
/-- The destination of payment `k`. -/
theorem dst (k : Fin 27) (c : Dev nD) {n : ℕ} (hn : n < nD) (h : n = devT k c) : (⟨n, hn⟩ : Dev nD) = nxt (k.val % 3 + 1) c :=
  Fin.ext (h.trans (devs k c))

/-- The rows of a chunk that go to a device, by chunk. -/
def offT : Fin 4 → Dev nD → BitVec 32 → Fin 3 → ℕ := ![k0_off1, k0_off2, k0_off5, k0_off7]
theorem offs : ∀ (ch : Fin 4) (i : Fin 3) (c : Dev nD),
    offT ch c (BitVec.ofNat 32 (i.val + 1)) = ![ch.val, 64 * (nxt (i.val + 1) c).val, 0] := by decide +kernel
theorem outo : ∀ (ch : Fin 4) (s : Fin 3) (c : Dev nD),
    k0_off10 c (BitVec.ofNat 32 (256 * ch.val)) (BitVec.ofNat 32 s.val) = ![0, 256 * ch.val + 64 * (nxt (s.val + 1) c).val, 0] := by decide +kernel

/-! ## The values of a sum, of a gathered block -/

/-- Three received blocks added to one's own. -/
def sum4 {e : FTy} (h : FTy.bits e < FTy.bits .f32) (a b c d : FVec F S64x1024 e) : FVec F S64x1024 .f32 :=
  addf (addf (addf (extf .f32 a h) (extf .f32 b h)) (extf .f32 c h)) (extf .f32 d h)

section Values
variable (a b c d : FVec F S64x1024 .bf16)
theorem sumA : k0_pay36 (k0_pay35 (up3 a) (up4 b)) (up4 c) (up4 d) = sum4 bitsLt_bf16_f32 a b c d := by
  simp only [k0_pay36, k0_pay35, down3, down4, sum4]
theorem sumB : k0_pay54 (k0_pay53 (k0_pay52 (up3 a)) (up4 b) (up4 c)) (up4 d) = sum4 bitsLt_bf16_f32 a b c d := by
  simp only [k0_pay54, k0_pay53, k0_pay52, down3, down4, sum4]
theorem sumC : k0_pay78 (k0_pay77 (up3 a) (up4 b)) (up4 c) (up4 d) = sum4 bitsLt_bf16_f32 a b c d := by
  simp only [k0_pay78, k0_pay77, down3, down4, sum4]
theorem sumD : k0_pay82 (k0_pay81 (up3 a) (up4 b)) (up4 c) (up4 d) = sum4 bitsLt_bf16_f32 a b c d := by
  simp only [k0_pay82, k0_pay81, down3, down4, sum4]
theorem toOut (w : FVec F S64x1024 .f32) {v : FVec F S64x1024 .f32} (h : v = w) : shapeCast S1x64x1024 v shapeCasts_S64x1024_S1x64x1024 = up3 w := by
  rw [h, raise3]
theorem toRed (w : FVec F S64x1024 .f32) {v : FVec F S64x1024 .f32} (h : v = w) :
    shapeCast S1x64x1024 (truncf .bf16 v bitsLt_bf16_f32) shapeCasts_S64x1024_S1x64x1024 = up3 (truncf .bf16 w bitsLt_bf16_f32) := by
  rw [h, raise3]
theorem toGat : shapeCast S1x64x1024 (extf .f32 (shapeCast S64x1024 (up4 a) shapeCasts_S1x1x64x1024_S64x1024) bitsLt_bf16_f32) shapeCasts_S64x1024_S1x64x1024
    = up3 (extf .f32 a bitsLt_bf16_f32) := by
  rw [down4, raise3]
end Values

theorem sum4_redF (c : Dev nD) (ch : Fin 4) : sum4 bitsLt_bf16_f32 (rowsOf (X c) ch c) (rowsOf (X (nxt 1 c)) ch c) (rowsOf (X (nxt 2 c)) ch c) (rowsOf (X (nxt 3 c)) ch c)
    = redF X c ch := rfl
theorem outB_own (c : Dev nD) (ch : Fin 4) : outB X c ch c = redF X c ch := if_pos rfl
theorem nxt_ne : ∀ (s : Fin 3) (c : Dev nD), nxt (s.val + 1) c ≠ c := by decide +kernel
theorem outB_from (c : Dev nD) (ch : Fin 4) (s : Fin 3) : outB X c ch (nxt (s.val + 1) c) = extf .f32 (redB X (nxt (s.val + 1) c) ch) bitsLt_bf16_f32 :=
  if_neg (nxt_ne s c)
/-- A gathered block, as it is stored into the result. -/
theorem gat (c : Dev nD) (ch : Fin 4) (s : Fin 3) :
    shapeCast S1x64x1024 (extf .f32 (shapeCast S64x1024 (up4 (redB X (nxt (s.val + 1) c) ch)) shapeCasts_S1x1x64x1024_S64x1024) bitsLt_bf16_f32) shapeCasts_S64x1024_S1x64x1024
      = up3 (outB X c ch (nxt (s.val + 1) c)) := (toGat _).trans (by rw [outB_from])

/-! ## The inputs -/

/-- The five staged inputs. -/
def insAt (c : Dev nD) (I : Ins F) : sProp 𝕄 :=
  iprop((mX.view.loc (c.tc : Thread nD τ) ↦{fullShare} I.x) ∗ (mQ.view.loc (c.tc : Thread nD τ) ↦{fullShare} I.wq) ∗ (mK.view.loc (c.tc : Thread nD τ) ↦{fullShare} I.k)
    ∗ (mV.view.loc (c.tc : Thread nD τ) ↦{fullShare} I.v) ∗ (mW.view.loc (c.tc : Thread nD τ) ↦{fullShare} I.wo))

theorem runs_ret {α : Type} (c : Dev nD) (a : α) (Q : α → sProp 𝕄) : Q a ⊢ runs c (.ret a) Q := fupd_intro

section Loads
variable (c : Dev nD) (I : Ins F) {off size : Fin 2 → ℕ} {inb : ∀ a, off a + size a ≤ S1024x1024.size a}
theorem load_x {hl} {α : Type} {Q : α → sProp 𝕄} {k : ((⟨2, size⟩ : Shape).Idx → Elt F .bf16) → Prog (TpuEff nD τ sig (Elt F) Λ₀ .tc) α} :
    insAt c I ⊢ iprop((insAt c I -∗ runs c (k (ld mX I.x off size inb)) Q)
    -∗ runs c (.op (.load mX (Rect.unit (s := S1024x1024) off size inb).toLoadRect hl) k) Q) := by
  unfold insAt; iintro ⟨H0, H1, H2, H3, H4⟩ Hk
  iapply (wp_load 𝒱₀ (c.tc : Thread nD τ) none Set.univ (m := mX) (Finset.subset_univ _)) $$ H0; iintro H0
  iapply Hk; isplitl [H0]; · iexact H0
  isplitl [H1]; · iexact H1
  isplitl [H2]; · iexact H2
  isplitl [H3]; · iexact H3
  iexact H4
theorem load_q {hl} {α : Type} {Q : α → sProp 𝕄} {k : ((⟨2, size⟩ : Shape).Idx → Elt F .bf16) → Prog (TpuEff nD τ sig (Elt F) Λ₀ .tc) α} :
    insAt c I ⊢ iprop((insAt c I -∗ runs c (k (ld mQ I.wq off size inb)) Q)
    -∗ runs c (.op (.load mQ (Rect.unit (s := S1024x1024) off size inb).toLoadRect hl) k) Q) := by
  unfold insAt; iintro ⟨H0, H1, H2, H3, H4⟩ Hk
  iapply (wp_load 𝒱₀ (c.tc : Thread nD τ) none Set.univ (m := mQ) (Finset.subset_univ _)) $$ H1; iintro H1
  iapply Hk; isplitl [H0]; · iexact H0
  isplitl [H1]; · iexact H1
  isplitl [H2]; · iexact H2
  isplitl [H3]; · iexact H3
  iexact H4
theorem load_k {hl} {α : Type} {Q : α → sProp 𝕄} {k : ((⟨2, size⟩ : Shape).Idx → Elt F .bf16) → Prog (TpuEff nD τ sig (Elt F) Λ₀ .tc) α} :
    insAt c I ⊢ iprop((insAt c I -∗ runs c (k (ld mK I.k off size inb)) Q)
    -∗ runs c (.op (.load mK (Rect.unit (s := S1024x1024) off size inb).toLoadRect hl) k) Q) := by
  unfold insAt; iintro ⟨H0, H1, H2, H3, H4⟩ Hk
  iapply (wp_load 𝒱₀ (c.tc : Thread nD τ) none Set.univ (m := mK) (Finset.subset_univ _)) $$ H2; iintro H2
  iapply Hk; isplitl [H0]; · iexact H0
  isplitl [H1]; · iexact H1
  isplitl [H2]; · iexact H2
  isplitl [H3]; · iexact H3
  iexact H4
theorem load_v {hl} {α : Type} {Q : α → sProp 𝕄} {k : ((⟨2, size⟩ : Shape).Idx → Elt F .bf16) → Prog (TpuEff nD τ sig (Elt F) Λ₀ .tc) α} :
    insAt c I ⊢ iprop((insAt c I -∗ runs c (k (ld mV I.v off size inb)) Q)
    -∗ runs c (.op (.load mV (Rect.unit (s := S1024x1024) off size inb).toLoadRect hl) k) Q) := by
  unfold insAt; iintro ⟨H0, H1, H2, H3, H4⟩ Hk
  iapply (wp_load 𝒱₀ (c.tc : Thread nD τ) none Set.univ (m := mV) (Finset.subset_univ _)) $$ H3; iintro H3
  iapply Hk; isplitl [H0]; · iexact H0
  isplitl [H1]; · iexact H1
  isplitl [H2]; · iexact H2
  isplitl [H3]; · iexact H3
  iexact H4
theorem load_w {hl} {α : Type} {Q : α → sProp 𝕄} {k : ((⟨2, size⟩ : Shape).Idx → Elt F .bf16) → Prog (TpuEff nD τ sig (Elt F) Λ₀ .tc) α} :
    insAt c I ⊢ iprop((insAt c I -∗ runs c (k (ld mW I.wo off size inb)) Q)
    -∗ runs c (.op (.load mW (Rect.unit (s := S1024x1024) off size inb).toLoadRect hl) k) Q) := by
  unfold insAt; iintro ⟨H0, H1, H2, H3, H4⟩ Hk
  iapply (wp_load 𝒱₀ (c.tc : Thread nD τ) none Set.univ (m := mW) (Finset.subset_univ _)) $$ H4; iintro H4
  iapply Hk; isplitl [H0]; · iexact H0
  isplitl [H1]; · iexact H1
  isplitl [H2]; · iexact H2
  isplitl [H3]; · iexact H3
  iexact H4
end Loads

/-! ## One copy's way -/

/-- What a scatter copy needs besides its source: the landing slot, the tokens, the send counter's place. -/
def shipR (c : Dev nD) (ch : Fin 4) (i : Fin 3) : sProp 𝕄 :=
  iprop(slotR (nxt (i.val + 1) c) ch i.rev ∗ tokR c ch i ∗ atPos ER (cell c (sRS ch i)) 0 ∅ 0)
/-- What a gather copy needs besides its source. -/
def shipA (c : Dev nD) (ch : Fin 4) (i : Fin 3) : sProp 𝕄 :=
  iprop(slotA (nxt (i.val + 1) c) ch i.rev ∗ tokA c ch i ∗ atPos ER (cell c (sGS ch i)) 0 ∅ 0)
/-- A scatter copy's source: the rows of the device it goes to. -/
def outP (c : Dev nD) (ch : Fin 4) (i : Fin 3) : sProp 𝕄 := ownP X c ch (nxt (i.val + 1) c)
/-- A scatter copy under way. -/
def pendR (c : Dev nD) (ch : Fin 4) (i : Fin 3) : sProp 𝕄 := iprop(atPos ER (cell c (sRS ch i)) 0 ∅ 0 ∗ cred (tallyAt (cell c (sRS ch i)) 0 N))
/-- A gather copy under way. -/
def pendA (c : Dev nD) (ch : Fin 4) (i : Fin 3) : sProp 𝕄 := iprop(atPos ER (cell c (sGS ch i)) 0 ∅ 0 ∗ cred (tallyAt (cell c (sGS ch i)) 0 N))
/-- A scatter copy done: its source is back. -/
def doneR (c : Dev nD) (ch : Fin 4) (i : Fin 3) : sProp 𝕄 := iprop(atPos ER (cell c (sRS ch i)) 1 ∅ 0 ∗ outP X c ch i)
/-- A gather copy done. -/
def doneA (c : Dev nD) (ch : Fin 4) (i : Fin 3) : sProp 𝕄 := iprop(atPos ER (cell c (sGS ch i)) 1 ∅ 0 ∗ ownD X c ch i)
/-- A scatter slot's wait to come. -/
def toR (c : Dev nD) (ch : Fin 4) (i : Fin 3) : sProp 𝕄 := iprop(atPos ER (cell c (sRR ch i)) 0 ∅ 0 ∗ cred (tallyAt (cell c (sRR ch i)) (2 + ch.val) N))
/-- A gather slot's wait to come. -/
def toA (c : Dev nD) (ch : Fin 4) (i : Fin 3) : sProp 𝕄 := iprop(atPos ER (cell c (sGR ch i)) 0 ∅ 0 ∗ cred (tallyAt (cell c (sGR ch i)) (6 + ch.val) N))
/-- A scatter slot filled. -/
def hasR (c : Dev nD) (ch : Fin 4) (i : Fin 3) : sProp 𝕄 := iprop(atPos ER (cell c (sRR ch i)) 1 ∅ 0 ∗ gotR X c ch i)
/-- A gather slot filled. -/
def hasA (c : Dev nD) (ch : Fin 4) (i : Fin 3) : sProp 𝕄 := iprop(atPos ER (cell c (sGR ch i)) 1 ∅ 0 ∗ gotA X c ch i)

section Ways
variable (κ : GSem nD τ sig → ℕ) (c : Dev nD) (ch : Fin 4) (i : Fin 3)

theorem sendR {n : Dev nD} (hn : n = nxt (i.val + 1) c) {oP : Fin 3 → ℕ} {iP} (hP : oP = ![ch.val, 64 * (nxt (i.val + 1) c).val, 0]) {oL : Fin 4 → ℕ} {iL} (hL : oL = ![ch.val, i.rev.val, 0, 0])
    {oS : Fin 2 → ℕ} {iS} (hS : oS = ![ch.val, i.val]) {oT : Fin 2 → ℕ} {iT} (hT : oT = ![ch.val, i.rev.val]) {j j' : ℕ} (hj : j = jR ch + i.val) (hj' : j' = j + 1)
    {hsc hsrc hdst hsem} {α : Type} {Q : α → sProp 𝕄} {k : PUnit → Prog (TpuEff nD τ sig (Elt F) Λ₀ .tc) α} :
    Ctx X κ c ⊢ iprop(outP X c ch i -∗ shipR c ch i -∗ Owe c j -∗ (pendR c ch i -∗ Owe c j' -∗ runs c (k ⟨⟩) Q)
      -∗ runs c (.op (.enqueueDma ((mP.slice (Rect.unit (s := S4x256x1024) oP S1x64x1024.size iP) (fun _ => rfl)).squeeze S64x1024 squeezes_S1x64x1024_S64x1024)
        (.remote (n.tc : Thread nD τ) ((mR.slice (Rect.unit (s := S4x3x64x1024) oL S1x1x64x1024.size iL) (fun _ => rfl)).squeeze S64x1024 squeezes_S1x1x64x1024_S64x1024)
          (.dma ((cc0_scratch4.slice (Rect.unit (s := S4x3) oS S1x1.size iS)).squeeze S_ squeezes_S1x1_S_).sem) hsc)
        (.dma ((cc0_scratch5.slice (Rect.unit (s := S4x3) oT S1x1.size iT)).squeeze S_ squeezes_S1x1_S_).sem) hsrc hdst hsem) k) Q) := by
  unfold shipR pendR outP
  iintro #HC Hp ⟨Hs, Ht, Ha⟩ HO Hk
  iapply (send_R X κ c ch i hn rfl rfl hP hL hS hT hj hj') $$ HC Hp Hs HO Ht; iintro Hc HO
  iapply Hk $$ [Ha Hc] HO
  isplitl [Ha]; · iexact Ha
  iexact Hc
theorem sendA {n : Dev nD} (hn : n = nxt (i.val + 1) c) {oP : Fin 3 → ℕ} {iP} (hP : oP = ![ch.val, 0, 0]) {oL : Fin 4 → ℕ} {iL} (hL : oL = ![ch.val, i.rev.val, 0, 0])
    {oS : Fin 2 → ℕ} {iS} (hS : oS = ![ch.val, i.val]) {oT : Fin 2 → ℕ} {iT} (hT : oT = ![ch.val, i.rev.val]) {j j' : ℕ} (hj : j = jA ch + i.val) (hj' : j' = j + 1)
    {hsc hsrc hdst hsem} {α : Type} {Q : α → sProp 𝕄} {k : PUnit → Prog (TpuEff nD τ sig (Elt F) Λ₀ .tc) α} :
    Ctx X κ c ⊢ iprop(ownD X c ch i -∗ shipA c ch i -∗ Owe c j -∗ (pendA c ch i -∗ Owe c j' -∗ runs c (k ⟨⟩) Q)
      -∗ runs c (.op (.enqueueDma ((mD.slice (Rect.unit (s := S4x64x1024) oP S1x64x1024.size iP) (fun _ => rfl)).squeeze S64x1024 squeezes_S1x64x1024_S64x1024)
        (.remote (n.tc : Thread nD τ) ((mA.slice (Rect.unit (s := S4x3x64x1024) oL S1x1x64x1024.size iL) (fun _ => rfl)).squeeze S64x1024 squeezes_S1x1x64x1024_S64x1024)
          (.dma ((cc0_scratch6.slice (Rect.unit (s := S4x3) oS S1x1.size iS)).squeeze S_ squeezes_S1x1_S_).sem) hsc)
        (.dma ((cc0_scratch7.slice (Rect.unit (s := S4x3) oT S1x1.size iT)).squeeze S_ squeezes_S1x1_S_).sem) hsrc hdst hsem) k) Q) := by
  unfold shipA pendA
  iintro #HC Hp ⟨Hs, Ht, Ha⟩ HO Hk
  iapply (send_A X κ c ch i hn rfl rfl hP hL hS hT hj hj') $$ HC Hp Hs HO Ht; iintro Hc HO
  iapply Hk $$ [Ha Hc] HO
  isplitl [Ha]; · iexact Ha
  iexact Hc
theorem recvR {oS : Fin 2 → ℕ} {iS} (hS : oS = ![ch.val, i.val]) {j : ℕ} (hj : j = jA ch) {oL : Fin 4 → ℕ} {iL} {s' : Shape} {src : Memref sig .tc .vmem s' .bf16} {hsrc hdst}
    {α : Type} {Q : α → sProp 𝕄} {k : PUnit → Prog (TpuEff nD τ sig (Elt F) Λ₀ .tc) α} :
    Ctx X κ c ⊢ iprop(toR c ch i -∗ Owe c j -∗ (Owe c j -∗ hasR X c ch i -∗ runs c (k ⟨⟩) Q)
      -∗ runs c (.op (.waitDma2 ((cc0_scratch5.slice (Rect.unit (s := S4x3) oS S1x1.size iS)).squeeze S_ squeezes_S1x1_S_).sem src
        ((mR.slice (Rect.unit (s := S4x3x64x1024) oL S1x1x64x1024.size iL) (fun _ => rfl)).squeeze S64x1024 squeezes_S1x1x64x1024_S64x1024) hsrc hdst) k) Q) := by
  unfold toR hasR
  iintro #HC Hp HO Hk
  iapply (wait_R X κ c ch i hS hj) $$ HC Hp HO; iintro HO Ha Hg
  iapply Hk $$ HO [Ha Hg]
  isplitl [Ha]; · iexact Ha
  iexact Hg
theorem recvA {oS : Fin 2 → ℕ} {iS} (hS : oS = ![ch.val, i.val]) {j : ℕ} (hj : j = 27) {oL : Fin 4 → ℕ} {iL} {s' : Shape} {src : Memref sig .tc .vmem s' .bf16} {hsrc hdst}
    {α : Type} {Q : α → sProp 𝕄} {k : PUnit → Prog (TpuEff nD τ sig (Elt F) Λ₀ .tc) α} :
    Ctx X κ c ⊢ iprop(toA c ch i -∗ Owe c j -∗ (Owe c j -∗ hasA X c ch i -∗ runs c (k ⟨⟩) Q)
      -∗ runs c (.op (.waitDma2 ((cc0_scratch7.slice (Rect.unit (s := S4x3) oS S1x1.size iS)).squeeze S_ squeezes_S1x1_S_).sem src
        ((mA.slice (Rect.unit (s := S4x3x64x1024) oL S1x1x64x1024.size iL) (fun _ => rfl)).squeeze S64x1024 squeezes_S1x1x64x1024_S64x1024) hsrc hdst) k) Q) := by
  unfold toA hasA
  iintro #HC Hp HO Hk
  iapply (wait_A X κ c ch i hS hj) $$ HC Hp HO; iintro HO Ha Hg
  iapply Hk $$ HO [Ha Hg]
  isplitl [Ha]; · iexact Ha
  iexact Hg
theorem backR {oS : Fin 2 → ℕ} {iS} (hS : oS = ![ch.val, i.val]) {oL : Fin 4 → ℕ} {iL} {s' : Shape} {src : Memref sig .tc .vmem s' .bf16} {hsrc hdst}
    {α : Type} {Q : α → sProp 𝕄} {k : PUnit → Prog (TpuEff nD τ sig (Elt F) Λ₀ .tc) α} :
    Ctx X κ c ⊢ iprop(pendR c ch i -∗ Owe c 27 -∗ (Owe c 27 -∗ doneR X c ch i -∗ runs c (k ⟨⟩) Q)
      -∗ runs c (.op (.waitDma2 ((cc0_scratch4.slice (Rect.unit (s := S4x3) oS S1x1.size iS)).squeeze S_ squeezes_S1x1_S_).sem src
        ((mR.slice (Rect.unit (s := S4x3x64x1024) oL S1x1x64x1024.size iL) (fun _ => rfl)).squeeze S64x1024 squeezes_S1x1x64x1024_S64x1024) hsrc hdst) k) Q) := by
  unfold pendR doneR outP
  iintro #HC Hp HO Hk
  iapply (wait_SR X κ c ch i rfl hS rfl) $$ HC Hp HO; iintro HO Ha Hg
  iapply Hk $$ HO [Ha Hg]
  isplitl [Ha]; · iexact Ha
  iexact Hg
theorem backA {oS : Fin 2 → ℕ} {iS} (hS : oS = ![ch.val, i.val]) {oL : Fin 3 → ℕ} {iL} {s' : Shape} {src : Memref sig .tc .vmem s' .bf16} {hsrc hdst}
    {α : Type} {Q : α → sProp 𝕄} {k : PUnit → Prog (TpuEff nD τ sig (Elt F) Λ₀ .tc) α} :
    Ctx X κ c ⊢ iprop(pendA c ch i -∗ Owe c 27 -∗ (Owe c 27 -∗ doneA X c ch i -∗ runs c (k ⟨⟩) Q)
      -∗ runs c (.op (.waitDma2 ((cc0_scratch6.slice (Rect.unit (s := S4x3) oS S1x1.size iS)).squeeze S_ squeezes_S1x1_S_).sem src
        ((mD.slice (Rect.unit (s := S4x64x1024) oL S1x64x1024.size iL) (fun _ => rfl)).squeeze S64x1024 squeezes_S1x64x1024_S64x1024) hsrc hdst) k) Q) := by
  unfold pendA doneA
  iintro #HC Hp HO Hk
  iapply (wait_SA X κ c ch i hS rfl) $$ HC Hp HO; iintro HO Ha Hg
  iapply Hk $$ HO [Ha Hg]
  isplitl [Ha]; · iexact Ha
  iexact Hg
theorem readR {oL : Fin 4 → ℕ} {iL} (hL : oL = ![ch.val, i.val, 0, 0])
    {hl} {α : Type} {Q : α → sProp 𝕄} {k : (S1x1x64x1024.Idx → Elt F .bf16) → Prog (TpuEff nD τ sig (Elt F) Λ₀ .tc) α} :
    (hasR X c ch i : sProp 𝕄) ⊢ iprop((hasR X c ch i -∗ runs c (k (up4 (rowsOf (X (nxt (i.val + 1) c)) ch c))) Q)
      -∗ runs c (.op (.load mR (Rect.unit (s := S4x3x64x1024) oL S1x1x64x1024.size iL).toLoadRect hl) k) Q) := by
  unfold hasR
  iintro ⟨Ha, Hg⟩ Hk
  iapply (load_R X c ch i hL) $$ Hg; iintro Hg
  iapply Hk
  isplitl [Ha]; · iexact Ha
  iexact Hg
theorem readA {oL : Fin 4 → ℕ} {iL} (hL : oL = ![ch.val, i.val, 0, 0])
    {hl} {α : Type} {Q : α → sProp 𝕄} {k : (S1x1x64x1024.Idx → Elt F .bf16) → Prog (TpuEff nD τ sig (Elt F) Λ₀ .tc) α} :
    (hasA X c ch i : sProp 𝕄) ⊢ iprop((hasA X c ch i -∗ runs c (k (up4 (redB X (nxt (i.val + 1) c) ch))) Q)
      -∗ runs c (.op (.load mA (Rect.unit (s := S4x3x64x1024) oL S1x1x64x1024.size iL).toLoadRect hl) k) Q) := by
  unfold hasA
  iintro ⟨Ha, Hg⟩ Hk
  iapply (load_A X c ch i hL) $$ Hg; iintro Hg
  iapply Hk
  isplitl [Ha]; · iexact Ha
  iexact Hg
theorem storeC {oC : Fin 3 → ℕ} {iC} (hC : oC = ![ch.val, 0, 0]) {w : S1x256x1024.Idx → Elt F .bf16} (hw : w = part (X c) ch)
    {hx hm} {α : Type} {Q : α → sProp 𝕄} {k : PUnit → Prog (TpuEff nD τ sig (Elt F) Λ₀ .tc) α} :
    iprop(∃ f, chunk c ch f) ⊢ iprop((ownP X c ch c -∗ outP X c ch 0 -∗ outP X c ch 1 -∗ outP X c ch 2 -∗ runs c (k ⟨⟩) Q)
      -∗ runs c (.op (.store mP (Rect.unit (s := S4x256x1024) oC S1x256x1024.size iC) w Finset.univ hx hm) k) Q) := by
  iintro H Hk
  iapply (store_C X c ch hC hw) $$ H; iintro ⟨H, H0, H1, H2⟩
  iapply Hk $$ H [H0] [H1] [H2]
  · unfold outP; iexact H0
  · unfold outP; iexact H1
  · unfold outP; iexact H2
theorem storeD {oC : Fin 3 → ℕ} {iC} (hC : oC = ![ch.val, 0, 0]) {w : S1x64x1024.Idx → Elt F .bf16} (hw : w = up3 (redB X c ch))
    {hx hm} {α : Type} {Q : α → sProp 𝕄} {k : PUnit → Prog (TpuEff nD τ sig (Elt F) Λ₀ .tc) α} :
    iprop(∃ f, pc c (bD ch) fullShare f) ⊢ iprop((ownD X c ch 0 -∗ ownD X c ch 1 -∗ ownD X c ch 2 -∗ runs c (k ⟨⟩) Q)
      -∗ runs c (.op (.store mD (Rect.unit (s := S4x64x1024) oC S1x64x1024.size iC) w Finset.univ hx hm) k) Q) := by
  iintro H Hk
  iapply (store_D X c ch hC hw) $$ H; unfold M3; iintro ⟨H0, H1, H2⟩
  iapply Hk $$ H0 H1 H2
end Ways

/-- The program over the buffers it is given. -/
abbrev at14 {β : Type 1} (p : ∀ (a0 : Memref sig .tc .vmem S1024x1024 .bf16) (_ : a0.IsWhole) (a1 : Memref sig .tc .vmem S1024x1024 .bf16) (_ : a1.IsWhole)
    (a2 : Memref sig .tc .vmem S1024x1024 .bf16) (_ : a2.IsWhole) (a3 : Memref sig .tc .vmem S1024x1024 .bf16) (_ : a3.IsWhole)
    (a4 : Memref sig .tc .vmem S1024x1024 .bf16) (_ : a4.IsWhole) (a5 : Memref sig .tc .vmem S1x1024x1024 .f32) (_ : a5.IsWhole)
    (a6 : Memref sig .tc .vmem S4x256x1024 .bf16) (_ : a6.IsWhole) (a7 : Memref sig .tc .vmem S4x3x64x1024 .bf16) (_ : a7.IsWhole)
    (a8 : Memref sig .tc .vmem S4x64x1024 .bf16) (_ : a8.IsWhole) (a9 : Memref sig .tc .vmem S4x3x64x1024 .bf16) (_ : a9.IsWhole)
    (a10 : DmaSems sig S4x3) (a11 : DmaSems sig S4x3) (a12 : DmaSems sig S4x3) (a13 : DmaSems sig S4x3), β) : β :=
  p mX (Memref.isWhole_whole _) mQ (Memref.isWhole_whole _) mK (Memref.isWhole_whole _) mV (Memref.isWhole_whole _) mW (Memref.isWhole_whole _)
    mO (Memref.isWhole_whole _) mP (Memref.isWhole_whole _) mR (Memref.isWhole_whole _) mD (Memref.isWhole_whole _) mA (Memref.isWhole_whole _)
    cc0_scratch4 cc0_scratch5 cc0_scratch6 cc0_scratch7

/-! ## What a run starts with, what it leaves -/

/-- The scratch buffers, holding anything. -/
def scratch (c : Dev nD) : sProp 𝕄 :=
  iprop((∃ f, mP.view.loc (c.tc : Thread nD τ) ↦{fullShare} f) ∗ (∃ f, mR.view.loc (c.tc : Thread nD τ) ↦{fullShare} f)
    ∗ (∃ f, mD.view.loc (c.tc : Thread nD τ) ↦{fullShare} f) ∗ (∃ f, mA.view.loc (c.tc : Thread nD τ) ↦{fullShare} f))

/-- Over a chunk's three copies, over the chunks. -/
abbrev M43 (Φ : Fin 4 → Fin 3 → sProp 𝕄) : sProp 𝕄 := M4 fun ch => M3 fun i => Φ ch i

/-- What the run starts with, besides the inputs and the result's buffer. -/
def starts (c : Dev nD) : sProp 𝕄 :=
  iprop(scratch c ∗ Owe c 0 ∗ M3 (fun o => tokB c o) ∗ (cred (tallyAt (cell c sB) 1 3) ∗ atPos ER (cell c sB) 0 ∅ 0)
    ∗ M43 (fun ch i => tokR c ch i) ∗ M43 (fun ch i => tokA c ch i)
    ∗ M43 (fun ch i => toR c ch i) ∗ M43 (fun ch i => toA c ch i)
    ∗ M43 (fun ch i => atPos ER (cell c (sRS ch i)) 0 ∅ 0) ∗ M43 (fun ch i => atPos ER (cell c (sGS ch i)) 0 ∅ 0))
/-- What it leaves, besides the inputs and the result. -/
def leaves (c : Dev nD) : sProp 𝕄 :=
  iprop(scratch c ∗ Owe c 27 ∗ atPos ER (cell c sB) 1 ∅ 0
    ∗ M43 (fun ch i => atPos ER (cell c (sRS ch i)) 1 ∅ 0) ∗ M43 (fun ch i => atPos ER (cell c (sRR ch i)) 1 ∅ 0)
    ∗ M43 (fun ch i => atPos ER (cell c (sGS ch i)) 1 ∅ 0) ∗ M43 (fun ch i => atPos ER (cell c (sGR ch i)) 1 ∅ 0))

end Cert.KernelIdeal.Own

end
-- ==== Proof.Ends.lean ====
/- The kernel's run on one device, from its start to its end. -/
module

public import proofs.«01_k».proof.Proof.BodyPre

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F)

/-- Letting go of the landing slots: each of the other devices is handed its own. -/
theorem deal (c : Dev nD) : iprop((Rch c : sProp 𝕄) ∗ (∃ f, mR.view.loc (c.tc : Thread nD τ) ↦{fullShare} f) ∗ (∃ f, mA.view.loc (c.tc : Thread nD τ) ↦{fullShare} f))
    ⊢ iprop(handOver c 0 ∗ handOver c 1 ∗ handOver c 2) := by
  have hR := fun ch i => rch_at (F := F) c (mem_dorm.2.1 ch i)
  have hA := fun ch i => rch_at (F := F) c (mem_dorm.2.2.2 ch i)
  have sR : ∀ (ch : Fin 4) (s : Fin 3) (f : Buf (Elt F) (mR.view.loc (c.tc : Thread nD τ))), iprop((Rch c : sProp 𝕄) ∗ pc c (bL mR ch s) fullShare f) ⊢ slotR c ch s := fun ch s f => by
    unfold slotR; iintro ⟨#H, Hp⟩; isplitl [Hp]; · iexists f; iexact Hp
    iapply (hR ch s); iexact H
  have sA : ∀ (ch : Fin 4) (s : Fin 3) (f : Buf (Elt F) (mA.view.loc (c.tc : Thread nD τ))), iprop((Rch c : sProp 𝕄) ∗ pc c (bL mA ch s) fullShare f) ⊢ slotA c ch s := fun ch s f => by
    unfold slotA; iintro ⟨#H, Hp⟩; isplitl [Hp]; · iexists f; iexact Hp
    iapply (hA ch s); iexact H
  have dR : ∀ (s : Fin 3) (f : Buf (Elt F) (mR.view.loc (c.tc : Thread nD τ))), iprop((Rch c : sProp 𝕄) ∗ M4 fun ch => pc c (bL mR ch s) fullShare f)
      ⊢ iprop(slotR c 0 s ∗ slotR c 1 s ∗ slotR c 2 s ∗ slotR c 3 s) := fun s f => by
    unfold M4; iintro ⟨#H, H0, H1, H2, H3⟩
    isplitl [H0]; · iapply (sR 0 s f); isplitr; iexact H; iexact H0
    isplitl [H1]; · iapply (sR 1 s f); isplitr; iexact H; iexact H1
    isplitl [H2]; · iapply (sR 2 s f); isplitr; iexact H; iexact H2
    iapply (sR 3 s f); isplitr; iexact H; iexact H3
  have dA : ∀ (s : Fin 3) (f : Buf (Elt F) (mA.view.loc (c.tc : Thread nD τ))), iprop((Rch c : sProp 𝕄) ∗ M4 fun ch => pc c (bL mA ch s) fullShare f)
      ⊢ iprop(slotA c 0 s ∗ slotA c 1 s ∗ slotA c 2 s ∗ slotA c 3 s) := fun s f => by
    unfold M4; iintro ⟨#H, H0, H1, H2, H3⟩
    isplitl [H0]; · iapply (sA 0 s f); isplitr; iexact H; iexact H0
    isplitl [H1]; · iapply (sA 1 s f); isplitr; iexact H; iexact H1
    isplitl [H2]; · iapply (sA 2 s f); isplitr; iexact H; iexact H2
    iapply (sA 3 s f); isplitr; iexact H; iexact H3
  iintro ⟨#H, ⟨%f, HR⟩, ⟨%g, HA⟩⟩
  ihave HR := (Entails.of_eq (whole_R c f)) $$ HR
  ihave HA := (Entails.of_eq (whole_A c g)) $$ HA
  unfold M3 handOver
  icases HR with ⟨R0, R1, R2⟩
  icases HA with ⟨A0, A1, A2⟩
  isplitl [R0 A0]
  · isplitl [R0]; · iapply (dR 0 f); isplitr; iexact H; iexact R0
    iapply (dA 0 g); isplitr; iexact H; iexact A0
  isplitl [R1 A1]
  · isplitl [R1]; · iapply (dR 1 f); isplitr; iexact H; iexact R1
    iapply (dA 1 g); isplitr; iexact H; iexact A1
  isplitl [R2]; · iapply (dR 2 f); isplitr; iexact H; iexact R2
  iapply (dA 2 g); isplitr; iexact H; iexact A2

/-- A chunk's copies, with the slots the other devices handed over. -/
theorem armR (c : Dev nD) (ch : Fin 4) :
    slotR (nxt 3 c) ch 0 ⊢ iprop(slotR (nxt 2 c) ch 1 -∗ slotR (nxt 1 c) ch 2 -∗ M3 (fun i => tokR c ch i) -∗ M3 (fun i => atPos ER (cell c (sRS ch i)) 0 ∅ 0)
      -∗ M3 (fun i => (shipR c ch i : sProp 𝕄))) := by
  unfold shipR
  iintro S0 S1 S2 ⟨T0, T1, T2⟩ ⟨A0, A1, A2⟩
  isplitl [S2 T0 A0]
  · isplitl [S2]; · iexact S2
    isplitl [T0]; · iexact T0
    iexact A0
  isplitl [S1 T1 A1]
  · isplitl [S1]; · iexact S1
    isplitl [T1]; · iexact T1
    iexact A1
  isplitl [S0]; · iexact S0
  isplitl [T2]; · iexact T2
  iexact A2
@[inherit_doc armR] theorem armA (c : Dev nD) (ch : Fin 4) :
    slotA (nxt 3 c) ch 0 ⊢ iprop(slotA (nxt 2 c) ch 1 -∗ slotA (nxt 1 c) ch 2 -∗ M3 (fun i => tokA c ch i) -∗ M3 (fun i => atPos ER (cell c (sGS ch i)) 0 ∅ 0)
      -∗ M3 (fun i => (shipA c ch i : sProp 𝕄))) := by
  unfold shipA
  iintro S0 S1 S2 ⟨T0, T1, T2⟩ ⟨A0, A1, A2⟩
  isplitl [S2 T0 A0]
  · isplitl [S2]; · iexact S2
    isplitl [T0]; · iexact T0
    iexact A0
  isplitl [S1 T1 A1]
  · isplitl [S1]; · iexact S1
    isplitl [T1]; · iexact T1
    iexact A1
  isplitl [S0]; · iexact S0
  isplitl [T2]; · iexact T2
  iexact A2
/-- All of a device's copies, of both kinds. -/
theorem armAll (c : Dev nD) : iprop(handOver (nxt 3 c) 0 ∗ handOver (nxt 2 c) 1 ∗ handOver (nxt 1 c) 2)
    ⊢ iprop(M43 (fun ch i => tokR c ch i) -∗ M43 (fun ch i => tokA c ch i)
      -∗ M43 (fun ch i => atPos ER (cell c (sRS ch i)) 0 ∅ 0) -∗ M43 (fun ch i => atPos ER (cell c (sGS ch i)) 0 ∅ 0)
      -∗ (M43 (fun ch i => (shipR c ch i : sProp 𝕄)) ∗ M43 (fun ch i => shipA c ch i))) := by
  unfold handOver
  iintro ⟨⟨⟨R00, R10, R20, R30⟩, ⟨A00, A10, A20, A30⟩⟩, ⟨⟨R01, R11, R21, R31⟩, ⟨A01, A11, A21, A31⟩⟩, ⟨⟨R02, R12, R22, R32⟩, ⟨A02, A12, A22, A32⟩⟩⟩
    ⟨T0, T1, T2, T3⟩ ⟨U0, U1, U2, U3⟩ ⟨P0, P1, P2, P3⟩ ⟨Q0, Q1, Q2, Q3⟩
  isplitl [R00 R10 R20 R30 R01 R11 R21 R31 R02 R12 R22 R32 T0 T1 T2 T3 P0 P1 P2 P3]
  · isplitl [R00 R01 R02 T0 P0]; · iapply (armR c 0) $$ R00 R01 R02 T0 P0
    isplitl [R10 R11 R12 T1 P1]; · iapply (armR c 1) $$ R10 R11 R12 T1 P1
    isplitl [R20 R21 R22 T2 P2]; · iapply (armR c 2) $$ R20 R21 R22 T2 P2
    iapply (armR c 3) $$ R30 R31 R32 T3 P3
  · isplitl [A00 A01 A02 U0 Q0]; · iapply (armA c 0) $$ A00 A01 A02 U0 Q0
    isplitl [A10 A11 A12 U1 Q1]; · iapply (armA c 1) $$ A10 A11 A12 U1 Q1
    isplitl [A20 A21 A22 U2 Q2]; · iapply (armA c 2) $$ A20 A21 A22 U2 Q2
    iapply (armA c 3) $$ A30 A31 A32 U3 Q3

/-- A chunk whole again, its copies done. -/
theorem wholeP (c : Dev nD) (ch : Fin 4) : ownP X c ch c ⊢ iprop(M3 (fun i => doneR X c ch i)
    -∗ (chunk c ch (partC (X c)) ∗ M3 (fun i => atPos ER (cell c (sRS ch i)) 1 ∅ 0))) := by
  rw [chunk_rows]
  unfold doneR outP ownP
  iintro H ⟨⟨A0, H0⟩, ⟨A1, H1⟩, ⟨A2, H2⟩⟩
  isplitl [H H0 H1 H2]
  · isplitl [H]; · iexact H
    isplitl [H0]; · iexact H0
    isplitl [H1]; · iexact H1
    iexact H2
  isplitl [A0]; · iexact A0
  isplitl [A1]; · iexact A1
  iexact A2
/-- A chunk's sums whole again. -/
theorem wholeD (c : Dev nD) (ch : Fin 4) : M3 (fun i => doneA X c ch i)
    ⊢ iprop(pc c (bD ch) fullShare (redC X c) ∗ M3 (fun i => atPos ER (cell c (sGS ch i)) 1 ∅ 0)) := by
  rw [shares_D]
  unfold doneA ownD
  iintro ⟨⟨A0, H0⟩, ⟨A1, H1⟩, ⟨A2, H2⟩⟩
  isplitl [H0 H1 H2]
  · isplitl [H0]; · iexact H0
    isplitl [H1]; · iexact H1
    iexact H2
  isplitl [A0]; · iexact A0
  isplitl [A1]; · iexact A1
  iexact A2
/-- The whole of the partial products, all copies done. -/
theorem allP (c : Dev nD) : M4 (fun ch => ownP X c ch c) ⊢ iprop(M43 (fun ch i => doneR X c ch i)
    -∗ ((∃ f, mP.view.loc (c.tc : Thread nD τ) ↦{fullShare} f) ∗ M43 (fun ch i => atPos ER (cell c (sRS ch i)) 1 ∅ 0))) := by
  iintro ⟨H0, H1, H2, H3⟩ ⟨D0, D1, D2, D3⟩
  icases (wholeP X c 0) $$ H0 D0 with ⟨H0, D0⟩
  icases (wholeP X c 1) $$ H1 D1 with ⟨H1, D1⟩
  icases (wholeP X c 2) $$ H2 D2 with ⟨H2, D2⟩
  icases (wholeP X c 3) $$ H3 D3 with ⟨H3, D3⟩
  isplitl [H0 H1 H2 H3]
  · iexists (partC (X c))
    iapply (Entails.of_eq (whole_P c (partC (X c))).symm)
    isplitl [H0]; · iexact H0
    isplitl [H1]; · iexact H1
    isplitl [H2]; · iexact H2
    iexact H3
  isplitl [D0]; · iexact D0
  isplitl [D1]; · iexact D1
  isplitl [D2]; · iexact D2
  iexact D3
/-- The whole of the sums. -/
theorem allD (c : Dev nD) : M43 (fun ch i => doneA X c ch i)
    ⊢ iprop((∃ f, mD.view.loc (c.tc : Thread nD τ) ↦{fullShare} f) ∗ M43 (fun ch i => atPos ER (cell c (sGS ch i)) 1 ∅ 0)) := by
  iintro ⟨D0, D1, D2, D3⟩
  icases (wholeD X c 0) $$ D0 with ⟨H0, D0⟩
  icases (wholeD X c 1) $$ D1 with ⟨H1, D1⟩
  icases (wholeD X c 2) $$ D2 with ⟨H2, D2⟩
  icases (wholeD X c 3) $$ D3 with ⟨H3, D3⟩
  isplitl [H0 H1 H2 H3]
  · iexists (redC X c)
    iapply (Entails.of_eq (whole_D c (redC X c)).symm)
    isplitl [H0]; · iexact H0
    isplitl [H1]; · iexact H1
    isplitl [H2]; · iexact H2
    iexact H3
  isplitl [D0]; · iexact D0
  isplitl [D1]; · iexact D1
  isplitl [D2]; · iexact D2
  iexact D3
/-- The whole of what was received of the partial products. -/
theorem allR (c : Dev nD) : M43 (fun ch s => hasR X c ch s)
    ⊢ iprop((∃ f, mR.view.loc (c.tc : Thread nD τ) ↦{fullShare} f) ∗ M43 (fun ch i => atPos ER (cell c (sRR ch i)) 1 ∅ 0)) := by
  unfold hasR gotR
  iintro ⟨⟨⟨B00, H00⟩, ⟨B01, H01⟩, ⟨B02, H02⟩⟩, ⟨⟨B10, H10⟩, ⟨B11, H11⟩, ⟨B12, H12⟩⟩, ⟨⟨B20, H20⟩, ⟨B21, H21⟩, ⟨B22, H22⟩⟩, ⟨⟨B30, H30⟩, ⟨B31, H31⟩, ⟨B32, H32⟩⟩⟩
  isplitl [H00 H01 H02 H10 H11 H12 H20 H21 H22 H30 H31 H32]
  · iexists (rsC X c)
    iapply (Entails.of_eq (whole_R c (rsC X c)).symm)
    isplitl [H00 H10 H20 H30]
    · isplitl [H00]; · iexact H00
      isplitl [H10]; · iexact H10
      isplitl [H20]; · iexact H20
      iexact H30
    isplitl [H01 H11 H21 H31]
    · isplitl [H01]; · iexact H01
      isplitl [H11]; · iexact H11
      isplitl [H21]; · iexact H21
      iexact H31
    isplitl [H02]; · iexact H02
    isplitl [H12]; · iexact H12
    isplitl [H22]; · iexact H22
    iexact H32
  isplitl [B00 B01 B02]
  · isplitl [B00]; · iexact B00
    isplitl [B01]; · iexact B01
    iexact B02
  isplitl [B10 B11 B12]
  · isplitl [B10]; · iexact B10
    isplitl [B11]; · iexact B11
    iexact B12
  isplitl [B20 B21 B22]
  · isplitl [B20]; · iexact B20
    isplitl [B21]; · iexact B21
    iexact B22
  isplitl [B30]; · iexact B30
  isplitl [B31]; · iexact B31
  iexact B32
/-- The whole of what was received of the sums. -/
theorem allA (c : Dev nD) : M43 (fun ch s => hasA X c ch s)
    ⊢ iprop((∃ f, mA.view.loc (c.tc : Thread nD τ) ↦{fullShare} f) ∗ M43 (fun ch i => atPos ER (cell c (sGR ch i)) 1 ∅ 0)) := by
  unfold hasA gotA
  iintro ⟨⟨⟨B00, H00⟩, ⟨B01, H01⟩, ⟨B02, H02⟩⟩, ⟨⟨B10, H10⟩, ⟨B11, H11⟩, ⟨B12, H12⟩⟩, ⟨⟨B20, H20⟩, ⟨B21, H21⟩, ⟨B22, H22⟩⟩, ⟨⟨B30, H30⟩, ⟨B31, H31⟩, ⟨B32, H32⟩⟩⟩
  isplitl [H00 H01 H02 H10 H11 H12 H20 H21 H22 H30 H31 H32]
  · iexists (agC X c)
    iapply (Entails.of_eq (whole_A c (agC X c)).symm)
    isplitl [H00 H10 H20 H30]
    · isplitl [H00]; · iexact H00
      isplitl [H10]; · iexact H10
      isplitl [H20]; · iexact H20
      iexact H30
    isplitl [H01 H11 H21 H31]
    · isplitl [H01]; · iexact H01
      isplitl [H11]; · iexact H11
      isplitl [H21]; · iexact H21
      iexact H31
    isplitl [H02]; · iexact H02
    isplitl [H12]; · iexact H12
    isplitl [H22]; · iexact H22
    iexact H32
  isplitl [B00 B01 B02]
  · isplitl [B00]; · iexact B00
    isplitl [B01]; · iexact B01
    iexact B02
  isplitl [B10 B11 B12]
  · isplitl [B10]; · iexact B10
    isplitl [B11]; · iexact B11
    iexact B12
  isplitl [B20 B21 B22]
  · isplitl [B20]; · iexact B20
    isplitl [B21]; · iexact B21
    iexact B22
  isplitl [B30]; · iexact B30
  isplitl [B31]; · iexact B31
  iexact B32

/-- Every block of the result is stored. -/
theorem blocks (c : Dev nD) : (insert ((3 : Fin 4), nxt 3 c) (insert (3, nxt 2 c) (insert (3, nxt 1 c)
    (insert (2, nxt 3 c) (insert (2, nxt 2 c) (insert (2, nxt 1 c)
    (insert (1, nxt 3 c) (insert (1, nxt 2 c) (insert (1, nxt 1 c)
    (insert (0, nxt 3 c) (insert (0, nxt 2 c) (insert (0, nxt 1 c)
      (insert (3, c) (insert (2, c) (insert (1, c) (insert (0, c) (∅ : Finset (Fin 4 × Fin 4)))))))))))))))))) = Finset.univ := by revert c; decide +kernel

theorem runs_bind {α β : Type _} (c : Dev nD) (p : Prog (TpuEff nD τ sig (Elt F) Λ₀ .tc) α) (k : α → Prog (TpuEff nD τ sig (Elt F) Λ₀ .tc) β) (Q : β → sProp 𝕄) :
    runs c p (fun a => runs c (k a) Q) ⊢ runs c (p >>= k) Q := Entails.of_eq (wp_bind _ _ _ p k Q).symm

end Cert.KernelIdeal.Own

end
-- ==== Proof.PartsA.lean ====
/- The program's parts through the first reduced chunk: what each needs and leaves. -/
module

public import proofs.«01_k».proof.Proof.BodyPre

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F) (κ : GSem nD τ sig → ℕ) (c : Dev nD)

set_option maxRecDepth 100000

theorem run1 {Q} :
    Ctx X κ c ⊢ iprop(Owe c 0 -∗ handOver c 0 -∗ tokB c 0 -∗ handOver c 1 -∗ tokB c 1 -∗ (Owe c 2 -∗ ∀ w0 w1 w2, Q ⟨c, w0, SemArray.scalar (sig.barrier 0 rfl), w1, 4#32, w2⟩) -∗ runs c (at14 (k0_part1 (F := F))) Q) := by
  rw [k0_part1_eq_skeleton]; unfold k0_part1_skel
  simp only [at14, semSignalWord, semWaitWord, Prog.lift, Prog.bind_op, Prog.bind_ret, Prog.pure_eq_ret, wp_deviceId]
  iintro #HC HO Hh0 Ht0 Hh1 Ht1 Hk
  iapply (signal X κ c 0 (dst 0 c (k0_dev1_lt c) rfl) rfl (rfl : 0 = _) (rfl : 1 = _) rfl) $$ HC Hh0 HO Ht0; iintro HO
  iapply (signal X κ c 1 (dst 1 c (k0_dev2_lt c) rfl) rfl (rfl : 1 = _) (rfl : 2 = _) rfl) $$ HC Hh1 HO Ht1; iintro HO
  iapply runs_ret; iapply Hk $$ HO

theorem run2 {v30 : BitVec 32} {c4_i32_18 : BitVec 32} {v31 : BitVec 1} {Q} :
    Ctx X κ c ⊢ iprop(Owe c 2 -∗ handOver c 2 -∗ tokB c 2 -∗ cred (tallyAt (cell c sB) 1 3) -∗ atPos ER (cell c sB) 0 ∅ 0 -∗ insAt c (X c) -∗ (Owe c 3 -∗ atPos ER (cell c sB) 1 ∅ 0 -∗ (handOver (nxt 3 c) 0 ∗ handOver (nxt 2 c) 1 ∗ handOver (nxt 1 c) 2) -∗ insAt c (X c) -∗ Q ⟨k0_pay1 (ld mX (X c).x ![0, 0] S1024x1024.size inb_S1024x1024_S1024x1024_0_0) (ld mQ (X c).wq ![0, 0] S1024x1024.size inb_S1024x1024_S1024x1024_0_0), k0_pay2, k0_pay3, k0_pay4⟩) -∗ runs c (at14 (k0_part2 (F := F)) c (SemArray.scalar (sig.barrier 0 rfl)) v30 c4_i32_18 v31) Q) := by
  rw [k0_part2_eq_skeleton]; unfold k0_part2_skel
  simp only [at14, semSignalWord, semWaitWord, Prog.lift, Prog.bind_op, Prog.bind_ret, Prog.pure_eq_ret, wp_deviceId]
  iintro #HC HO Hh2 Ht2 HcB HaB Hin Hk
  iapply (signal X κ c 2 (dst 2 c (k0_dev3_lt c) rfl) rfl (rfl : 2 = _) (rfl : 3 = _) rfl) $$ HC Hh2 HO Ht2; iintro HO
  iapply (wait_B X κ c rfl) $$ HC HcB HO HaB; iintro HO HaB Hg
  iapply (load_x c (X c)) $$ Hin; iintro Hin
  iapply (load_q c (X c)) $$ Hin; iintro Hin
  iapply runs_ret; iapply Hk $$ HO HaB Hg Hin

theorem run3 {v50 : FVec F S1024x1024 .bf16} {v53 : IVec S256x256 32} {v67 : IVec S256x256 1} {v69 : IVec S256x256 32} {Q} :
    Ctx X κ c ⊢ iprop(insAt c (X c) -∗ (insAt c (X c) -∗ Q ⟨k0_pay5 (F := F) v53 v67 v69, k0_pay6 v50, k0_pay7 (F := F), k0_pay8 v50 v53 v67 v69 (ld mK (X c).k ![0, 0] S256x128.size inb_S1024x1024_S256x128_0_0), k0_pay9 v50 v53 v67 v69 (ld mK (X c).k ![0, 0] S256x128.size inb_S1024x1024_S256x128_0_0)⟩) -∗ runs c (at14 (k0_part3 (F := F)) v50 v53 v67 v69) Q) := by
  rw [k0_part3_eq_skeleton]; unfold k0_part3_skel
  simp only [at14, semSignalWord, semWaitWord, Prog.lift, Prog.bind_op, Prog.bind_ret, Prog.pure_eq_ret, wp_deviceId]
  iintro #HC Hin Hk
  iapply (load_k c (X c)) $$ Hin; iintro Hin
  iapply runs_ret; iapply Hk $$ Hin

theorem run4 {v104 : FVec F S256x256 .f32} {v105 : FVec F S256x1024 .bf16} {v106 : FVec F S256x1024 .f32} {v112 : FVec F S256x256 .f32} {v113 : FVec F S256 .f32} {Q} :
    Ctx X κ c ⊢ iprop(insAt c (X c) -∗ (insAt c (X c) -∗ Q ⟨k0_pay10 v104 v105 v106 v112 v113 (ld mV (X c).v ![0, 0] S256x128.size inb_S1024x1024_S256x128_0_0) (ld mW (X c).wo ![0, 0] S128x1024.size inb_S1024x1024_S128x1024_0_0) (ld mK (X c).k ![0, 128] S256x128.size inb_S1024x1024_S256x128_0_128) (ld mV (X c).v ![0, 128] S256x128.size inb_S1024x1024_S256x128_0_128) (ld mW (X c).wo ![128, 0] S128x1024.size inb_S1024x1024_S128x1024_128_0), k0_pay12 v104 v105 (ld mK (X c).k ![0, 256] S256x128.size inb_S1024x1024_S256x128_0_256), k0_pay13 v104 v105 (ld mK (X c).k ![0, 256] S256x128.size inb_S1024x1024_S256x128_0_256)⟩) -∗ runs c (at14 (k0_part4 (F := F)) v104 v105 v106 v112 v113) Q) := by
  rw [k0_part4_eq_skeleton]; unfold k0_part4_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply runs_ret; iapply Hk $$ Hin

theorem run5 {v104 : FVec F S256x256 .f32} {v105 : FVec F S256x1024 .bf16} {v144 : FVec F S256x1024 .f32} {v152 : FVec F S256x1 .f32} {v153 : FVec F S256x256 .bf16} {Q} :
    Ctx X κ c ⊢ iprop(insAt c (X c) -∗ (insAt c (X c) -∗ Q ⟨k0_pay14 v104 v105 v144 v152 v153 (ld mV (X c).v ![0, 256] S256x128.size inb_S1024x1024_S256x128_0_256) (ld mW (X c).wo ![256, 0] S128x1024.size inb_S1024x1024_S128x1024_256_0) (ld mK (X c).k ![0, 384] S256x128.size inb_S1024x1024_S256x128_0_384) (ld mV (X c).v ![0, 384] S256x128.size inb_S1024x1024_S256x128_0_384) (ld mW (X c).wo ![384, 0] S128x1024.size inb_S1024x1024_S128x1024_384_0), k0_pay16 v104 v105 (ld mK (X c).k ![0, 512] S256x128.size inb_S1024x1024_S256x128_0_512), k0_pay17 v104 v105 (ld mK (X c).k ![0, 512] S256x128.size inb_S1024x1024_S256x128_0_512)⟩) -∗ runs c (at14 (k0_part5 (F := F)) v104 v105 v144 v152 v153) Q) := by
  rw [k0_part5_eq_skeleton]; unfold k0_part5_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply runs_ret; iapply Hk $$ Hin

theorem run6 {v104 : FVec F S256x256 .f32} {v105 : FVec F S256x1024 .bf16} {v182 : FVec F S256x1024 .f32} {v190 : FVec F S256x1 .f32} {v191 : FVec F S256x256 .bf16} {Q} :
    Ctx X κ c ⊢ iprop(insAt c (X c) -∗ (insAt c (X c) -∗ Q ⟨k0_pay18 v104 v105 v182 v190 v191 (ld mV (X c).v ![0, 512] S256x128.size inb_S1024x1024_S256x128_0_512) (ld mW (X c).wo ![512, 0] S128x1024.size inb_S1024x1024_S128x1024_512_0) (ld mK (X c).k ![0, 640] S256x128.size inb_S1024x1024_S256x128_0_640) (ld mV (X c).v ![0, 640] S256x128.size inb_S1024x1024_S256x128_0_640) (ld mW (X c).wo ![640, 0] S128x1024.size inb_S1024x1024_S128x1024_640_0), k0_pay20 v104 v105 (ld mK (X c).k ![0, 768] S256x128.size inb_S1024x1024_S256x128_0_768), k0_pay21 v104 v105 (ld mK (X c).k ![0, 768] S256x128.size inb_S1024x1024_S256x128_0_768), k0_pay22 (ld mV (X c).v ![0, 768] S256x128.size inb_S1024x1024_S256x128_0_768)⟩) -∗ runs c (at14 (k0_part6 (F := F)) v104 v105 v182 v190 v191) Q) := by
  rw [k0_part6_eq_skeleton]; unfold k0_part6_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply runs_ret; iapply Hk $$ Hin

theorem run7 {v2 : BitVec 32} {v104 : FVec F S256x256 .f32} {v105 : FVec F S256x1024 .bf16} {v220 : FVec F S256x1024 .f32} {v228 : FVec F S256x1 .f32} {v229 : FVec F S256x256 .bf16} {v231 : FVec F S256x128 .bf16} (hw : (k0_pay23 v104 v105 v220 v228 v229 v231 (ld mW (X c).wo ![768, 0] S128x1024.size inb_S1024x1024_S128x1024_768_0) (ld mK (X c).k ![0, 896] S256x128.size inb_S1024x1024_S256x128_0_896) (ld mV (X c).v ![0, 896] S256x128.size inb_S1024x1024_S256x128_0_896) (ld mW (X c).wo ![896, 0] S128x1024.size inb_S1024x1024_S128x1024_896_0)) = part (X c) 0) {Q} :
    Ctx X κ c ⊢ iprop(insAt c (X c) -∗ (∃ f, chunk c 0 f) -∗ (insAt c (X c) -∗ ownP X c 0 c -∗ outP X c 0 0 -∗ outP X c 0 1 -∗ outP X c 0 2 -∗ ∀ w0 w1 w2, Q ⟨w0, w1, w2, 0#32⟩) -∗ runs c (at14 (k0_part7 (F := F)) v2 v104 v105 v220 v228 v229 v231) Q) := by
  rw [k0_part7_eq_skeleton]; unfold k0_part7_skel
  simp only [at14, semSignalWord, semWaitWord, Prog.lift, Prog.bind_op, Prog.bind_ret, Prog.pure_eq_ret, wp_deviceId]
  iintro #HC Hin HP0 Hk
  iapply (load_w c (X c)) $$ Hin; iintro Hin
  iapply (load_k c (X c)) $$ Hin; iintro Hin
  iapply (load_v c (X c)) $$ Hin; iintro Hin
  iapply (load_w c (X c)) $$ Hin; iintro Hin
  iapply (load_C c 0 (rfl : (![0, 0, 0] : Fin 3 → ℕ) = _)) $$ HP0; iintro HP0 %_v
  iapply (storeC X c 0 (rfl : (![0, 0, 0] : Fin 3 → ℕ) = _) hw) $$ HP0; iintro Hr0 Hp00 Hp01 Hp02
  iapply runs_ret; iapply Hk $$ Hin Hr0 Hp00 Hp01 Hp02

theorem run8 {v2 : BitVec 32} {v265 : BitVec 32} {v266 : BitVec 32} {v267 : BitVec 1} {c0_i32_129 : BitVec 32} {Q} :
    Ctx X κ c ⊢ iprop(outP X c 0 0 -∗ shipR c 0 0 -∗ Owe c 3 -∗ (Owe c 4 -∗ pendR c 0 0 -∗ ∀ w0, Q ⟨w0, 1#32⟩) -∗ runs c (at14 (k0_part8 (F := F)) c v2 v265 v266 v267 c0_i32_129) Q) := by
  rw [k0_part8_eq_skeleton]; unfold k0_part8_skel
  simp only [at14, semSignalWord, semWaitWord, Prog.lift, Prog.bind_op, Prog.bind_ret, Prog.pure_eq_ret, wp_deviceId]
  iintro #HC Hp00 HsR00 HO Hk
  iapply (sendR X κ c 0 0 (dst 3 c (k0_dev4_lt c) rfl) (offs 0 0 c) (rfl : (![0, 2, 0, 0] : Fin 4 → ℕ) = _) (rfl : (![0, 0] : Fin 2 → ℕ) = _) (rfl : (![0, 2] : Fin 2 → ℕ) = _) (rfl : 3 = _) (rfl : 4 = _)) $$ HC Hp00 HsR00 HO; iintro HqR00 HO
  iapply runs_ret; iapply Hk $$ HO HqR00

theorem run9 {v2 : BitVec 32} {v295 : BitVec 32} {c1_i32_159 : BitVec 32} {Q} :
    Ctx X κ c ⊢ iprop(outP X c 0 1 -∗ shipR c 0 1 -∗ Owe c 4 -∗ outP X c 0 2 -∗ shipR c 0 2 -∗ (Owe c 6 -∗ pendR c 0 1 -∗ pendR c 0 2 -∗ Q (k0_pay24 (F := F))) -∗ runs c (at14 (k0_part9 (F := F)) c v2 v295 c1_i32_159) Q) := by
  rw [k0_part9_eq_skeleton]; unfold k0_part9_skel
  simp only [at14, semSignalWord, semWaitWord, Prog.lift, Prog.bind_op, Prog.bind_ret, Prog.pure_eq_ret, wp_deviceId]
  iintro #HC Hp01 HsR01 HO Hp02 HsR02 Hk
  iapply (sendR X κ c 0 1 (dst 4 c (k0_dev5_lt c) rfl) (offs 0 1 c) (rfl : (![0, 1, 0, 0] : Fin 4 → ℕ) = _) (rfl : (![0, 1] : Fin 2 → ℕ) = _) (rfl : (![0, 1] : Fin 2 → ℕ) = _) (rfl : 4 = _) (rfl : 5 = _)) $$ HC Hp01 HsR01 HO; iintro HqR01 HO
  iapply (sendR X κ c 0 2 (dst 5 c (k0_dev6_lt c) rfl) (offs 0 2 c) (rfl : (![0, 0, 0, 0] : Fin 4 → ℕ) = _) (rfl : (![0, 2] : Fin 2 → ℕ) = _) (rfl : (![0, 0] : Fin 2 → ℕ) = _) (rfl : 5 = _) (rfl : 6 = _)) $$ HC Hp02 HsR02 HO; iintro HqR02 HO
  iapply runs_ret; iapply Hk $$ HO HqR01 HqR02

theorem run10 {v50 : FVec F S1024x1024 .bf16} {v104 : FVec F S256x256 .f32} {v329 : FVec F S256x256 .f32} {Q} :
    Ctx X κ c ⊢ iprop(insAt c (X c) -∗ (insAt c (X c) -∗ Q ⟨k0_pay25 v104 v329, k0_pay26 v50, k0_pay27 v50 v104 v329 (ld mK (X c).k ![0, 0] S512x128.size inb_S1024x1024_S512x128_0_0) (ld mV (X c).v ![0, 0] S512x128.size inb_S1024x1024_S512x128_0_0) (ld mW (X c).wo ![0, 0] S128x1024.size inb_S1024x1024_S128x1024_0_0), k0_pay28 v50 v104 v329 (ld mK (X c).k ![0, 128] S512x128.size inb_S1024x1024_S512x128_0_128) (ld mV (X c).v ![0, 128] S512x128.size inb_S1024x1024_S512x128_0_128), k0_pay29 (ld mW (X c).wo ![128, 0] S128x1024.size inb_S1024x1024_S128x1024_128_0), (constant S256x1024 .f32 0x00000000#32)⟩) -∗ runs c (at14 (k0_part10 (F := F)) v50 v104 v329) Q) := by
  rw [k0_part10_eq_skeleton]; unfold k0_part10_skel
  simp only [at14, semSignalWord, semWaitWord, Prog.lift, Prog.bind_op, Prog.bind_ret, Prog.pure_eq_ret, wp_deviceId]
  iintro #HC Hin Hk
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply runs_ret; iapply Hk $$ Hin

theorem run11 {v330 : FVec F S256x512 .f32} {v331 : FVec F S256x1024 .bf16} {v351 : FVec F S256x1024 .f32} {v366 : FVec F S256x128 .bf16} {v368 : FVec F S128x1024 .bf16} {cst_205 : FVec F S256x1024 .f32} {Q} :
    Ctx X κ c ⊢ iprop(insAt c (X c) -∗ (insAt c (X c) -∗ Q (k0_pay30 v330 v331 v351 v366 v368 cst_205 (ld mK (X c).k ![0, 256] S512x128.size inb_S1024x1024_S512x128_0_256) (ld mV (X c).v ![0, 256] S512x128.size inb_S1024x1024_S512x128_0_256) (ld mW (X c).wo ![256, 0] S128x1024.size inb_S1024x1024_S128x1024_256_0) (ld mK (X c).k ![0, 384] S512x128.size inb_S1024x1024_S512x128_0_384) (ld mV (X c).v ![0, 384] S512x128.size inb_S1024x1024_S512x128_0_384) (ld mW (X c).wo ![384, 0] S128x1024.size inb_S1024x1024_S128x1024_384_0))) -∗ runs c (at14 (k0_part11 (F := F)) v330 v331 v351 v366 v368 cst_205) Q) := by
  rw [k0_part11_eq_skeleton]; unfold k0_part11_skel
  simp only [at14, semSignalWord, semWaitWord, Prog.lift, Prog.bind_op, Prog.bind_ret, Prog.pure_eq_ret, wp_deviceId]
  iintro #HC Hin Hk
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply runs_ret; iapply Hk $$ Hin

theorem run12 {v330 : FVec F S256x512 .f32} {v331 : FVec F S256x1024 .bf16} {v408 : FVec F S256x1024 .f32} {Q} :
    Ctx X κ c ⊢ iprop(insAt c (X c) -∗ (insAt c (X c) -∗ Q ⟨k0_pay31 v330 v331 v408 (ld mK (X c).k ![0, 512] S512x128.size inb_S1024x1024_S512x128_0_512) (ld mV (X c).v ![0, 512] S512x128.size inb_S1024x1024_S512x128_0_512) (ld mW (X c).wo ![512, 0] S128x1024.size inb_S1024x1024_S128x1024_512_0) (ld mK (X c).k ![0, 640] S512x128.size inb_S1024x1024_S512x128_0_640) (ld mV (X c).v ![0, 640] S512x128.size inb_S1024x1024_S512x128_0_640) (ld mW (X c).wo ![640, 0] S128x1024.size inb_S1024x1024_S128x1024_640_0), k0_pay32 v331⟩) -∗ runs c (at14 (k0_part12 (F := F)) v330 v331 v408) Q) := by
  rw [k0_part12_eq_skeleton]; unfold k0_part12_skel
  simp only [at14, semSignalWord, semWaitWord, Prog.lift, Prog.bind_op, Prog.bind_ret, Prog.pure_eq_ret, wp_deviceId]
  iintro #HC Hin Hk
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply runs_ret; iapply Hk $$ Hin

theorem run13 {v330 : FVec F S256x512 .f32} {v331 : FVec F S256x1024 .bf16} {v446 : FVec F S256x1024 .f32} {v447 : FVec F S256x128 .bf16} {Q} :
    Ctx X κ c ⊢ iprop(insAt c (X c) -∗ (insAt c (X c) -∗ Q (k0_pay33 v330 v331 v446 v447 (ld mK (X c).k ![0, 768] S512x128.size inb_S1024x1024_S512x128_0_768) (ld mV (X c).v ![0, 768] S512x128.size inb_S1024x1024_S512x128_0_768) (ld mW (X c).wo ![768, 0] S128x1024.size inb_S1024x1024_S128x1024_768_0) (ld mK (X c).k ![0, 896] S512x128.size inb_S1024x1024_S512x128_0_896) (ld mV (X c).v ![0, 896] S512x128.size inb_S1024x1024_S512x128_0_896) (ld mW (X c).wo ![896, 0] S128x1024.size inb_S1024x1024_S128x1024_896_0))) -∗ runs c (at14 (k0_part13 (F := F)) v330 v331 v446 v447) Q) := by
  rw [k0_part13_eq_skeleton]; unfold k0_part13_skel
  simp only [at14, semSignalWord, semWaitWord, Prog.lift, Prog.bind_op, Prog.bind_ret, Prog.pure_eq_ret, wp_deviceId]
  iintro #HC Hin Hk
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply runs_ret; iapply Hk $$ Hin

theorem run14 {v2 : BitVec 32} {v485 : FVec F S256x1024 .bf16} (hw : (k0_pay34 v485) = part (X c) 1) {Q} :
    Ctx X κ c ⊢ iprop((∃ f, chunk c 1 f) -∗ shipR c 1 0 -∗ Owe c 6 -∗ (ownP X c 1 c -∗ outP X c 1 1 -∗ outP X c 1 2 -∗ Owe c 7 -∗ pendR c 1 0 -∗ ∀ w0 w1 w2 w3, Q ⟨w0, w1, w2, w3, 0#32⟩) -∗ runs c (at14 (k0_part14 (F := F)) c v2 v485) Q) := by
  rw [k0_part14_eq_skeleton]; unfold k0_part14_skel
  simp only [at14, semSignalWord, semWaitWord, Prog.lift, Prog.bind_op, Prog.bind_ret, Prog.pure_eq_ret, wp_deviceId]
  iintro #HC HP1 HsR10 HO Hk
  iapply (load_C c 1 (rfl : (![1, 0, 0] : Fin 3 → ℕ) = _)) $$ HP1; iintro HP1 %_v
  iapply (storeC X c 1 (rfl : (![1, 0, 0] : Fin 3 → ℕ) = _) hw) $$ HP1; iintro Hr1 Hp10 Hp11 Hp12
  iapply (sendR X κ c 1 0 (dst 6 c (k0_dev7_lt c) rfl) (offs 1 0 c) (rfl : (![1, 2, 0, 0] : Fin 4 → ℕ) = _) (rfl : (![1, 0] : Fin 2 → ℕ) = _) (rfl : (![1, 2] : Fin 2 → ℕ) = _) (rfl : 6 = _) (rfl : 7 = _)) $$ HC Hp10 HsR10 HO; iintro HqR10 HO
  iapply runs_ret; iapply Hk $$ Hr1 Hp11 Hp12 HO HqR10

theorem run15 {v2 : BitVec 32} {v513 : BitVec 32} {v514 : BitVec 32} {v515 : BitVec 1} {v516 : BitVec 1} {c0_i32_294 : BitVec 32} {Q} :
    Ctx X κ c ⊢ iprop(outP X c 1 1 -∗ shipR c 1 1 -∗ Owe c 7 -∗ (Owe c 8 -∗ pendR c 1 1 -∗ ∀ w0, Q ⟨w0, 0#32⟩) -∗ runs c (at14 (k0_part15 (F := F)) c v2 v513 v514 v515 v516 c0_i32_294) Q) := by
  rw [k0_part15_eq_skeleton]; unfold k0_part15_skel
  simp only [at14, semSignalWord, semWaitWord, Prog.lift, Prog.bind_op, Prog.bind_ret, Prog.pure_eq_ret, wp_deviceId]
  iintro #HC Hp11 HsR11 HO Hk
  iapply (sendR X κ c 1 1 (dst 7 c (k0_dev8_lt c) rfl) (offs 1 1 c) (rfl : (![1, 1, 0, 0] : Fin 4 → ℕ) = _) (rfl : (![1, 1] : Fin 2 → ℕ) = _) (rfl : (![1, 1] : Fin 2 → ℕ) = _) (rfl : 7 = _) (rfl : 8 = _)) $$ HC Hp11 HsR11 HO; iintro HqR11 HO
  iapply runs_ret; iapply Hk $$ HO HqR11

theorem run16 {v2 : BitVec 32} {v545 : BitVec 32} {c0_i32_324 : BitVec 32} {Q} :
    Ctx X κ c ⊢ iprop(outP X c 1 2 -∗ shipR c 1 2 -∗ Owe c 8 -∗ ownP X c 0 c -∗ toR c 0 0 -∗ (Owe c 9 -∗ pendR c 1 2 -∗ ownP X c 0 c -∗ hasR X c 0 0 -∗ Q (k0_pay35 (up3 (rowsOf (X c) 0 c)) (up4 (rowsOf (X (nxt ((0 : Fin 3).val + 1) c)) 0 c)))) -∗ runs c (at14 (k0_part16 (F := F)) c v2 v545 c0_i32_324) Q) := by
  rw [k0_part16_eq_skeleton]; unfold k0_part16_skel
  simp only [at14, semSignalWord, semWaitWord, Prog.lift, Prog.bind_op, Prog.bind_ret, Prog.pure_eq_ret, wp_deviceId]
  iintro #HC Hp12 HsR12 HO Hr0 HwR00 Hk
  iapply (sendR X κ c 1 2 (dst 8 c (k0_dev9_lt c) rfl) (offs 1 2 c) (rfl : (![1, 0, 0, 0] : Fin 4 → ℕ) = _) (rfl : (![1, 2] : Fin 2 → ℕ) = _) (rfl : (![1, 0] : Fin 2 → ℕ) = _) (rfl : 8 = _) (rfl : 9 = _)) $$ HC Hp12 HsR12 HO; iintro HqR12 HO
  iapply (load_P X c 0 (k0_off3_eq c)) $$ Hr0; iintro Hr0
  iapply (recvR X κ c 0 0 (rfl : (![0, 0] : Fin 2 → ℕ) = _) (rfl : 9 = _)) $$ HC HwR00 HO; iintro HO HgR00
  iapply (readR X c 0 0 (rfl : (![0, 0, 0, 0] : Fin 4 → ℕ) = _)) $$ HgR00; iintro HgR00
  iapply runs_ret; iapply Hk $$ HO HqR12 Hr0 HgR00

theorem run17 {v2 : BitVec 32} {v571 : FVec F S64x1024 .f32} {Q} :
    Ctx X κ c ⊢ iprop(toR c 0 1 -∗ Owe c 9 -∗ toR c 0 2 -∗ (Owe c 9 -∗ hasR X c 0 1 -∗ hasR X c 0 2 -∗ Q (k0_pay36 v571 (up4 (rowsOf (X (nxt ((1 : Fin 3).val + 1) c)) 0 c)) (up4 (rowsOf (X (nxt ((2 : Fin 3).val + 1) c)) 0 c)))) -∗ runs c (at14 (k0_part17 (F := F)) v2 v571) Q) := by
  rw [k0_part17_eq_skeleton]; unfold k0_part17_skel
  simp only [at14, semSignalWord, semWaitWord, Prog.lift, Prog.bind_op, Prog.bind_ret, Prog.pure_eq_ret, wp_deviceId]
  iintro #HC HwR01 HO HwR02 Hk
  iapply (recvR X κ c 0 1 (rfl : (![0, 1] : Fin 2 → ℕ) = _) (rfl : 9 = _)) $$ HC HwR01 HO; iintro HO HgR01
  iapply (readR X c 0 1 (rfl : (![0, 1, 0, 0] : Fin 4 → ℕ) = _)) $$ HgR01; iintro HgR01
  iapply (recvR X κ c 0 2 (rfl : (![0, 2] : Fin 2 → ℕ) = _) (rfl : 9 = _)) $$ HC HwR02 HO; iintro HO HgR02
  iapply (readR X c 0 2 (rfl : (![0, 2, 0, 0] : Fin 4 → ℕ) = _)) $$ HgR02; iintro HgR02
  iapply runs_ret; iapply Hk $$ HO HgR01 HgR02

theorem run18 {v2 : BitVec 32} {v595 : FVec F S64x1024 .f32} {T : Finset (Fin 4 × Fin 4)} (h : v595 = redF X c 0) {Q} :
    Ctx X κ c ⊢ iprop(outs X c T -∗ (∃ f, pc c (bD 0) fullShare f) -∗ shipA c 0 0 -∗ Owe c 9 -∗ (outs X c (insert (0, c) T) -∗ ownD X c 0 1 -∗ ownD X c 0 2 -∗ Owe c 10 -∗ pendA c 0 0 -∗ ∀ w0 w1, Q ⟨w0, 4#32, w1⟩) -∗ runs c (at14 (k0_part18 (F := F)) c v2 v595) Q) := by
  rw [k0_part18_eq_skeleton]; unfold k0_part18_skel
  simp only [at14, semSignalWord, semWaitWord, Prog.lift, Prog.bind_op, Prog.bind_ret, Prog.pure_eq_ret, wp_deviceId]
  iintro #HC Hout HD0 HsA00 HO Hk
  iapply (load_O X c _) $$ Hout; iintro Hout %_v
  iapply (store_O X c _ 0 c (k0_off4_eq c 0) ((toOut _ h).trans (congrArg up3 (outB_own X c 0).symm))) $$ Hout; iintro Hout
  iapply (load_D c 0 (rfl : (![0, 0, 0] : Fin 3 → ℕ) = _)) $$ HD0; iintro HD0 %_v
  iapply (storeD X c 0 (rfl : (![0, 0, 0] : Fin 3 → ℕ) = _) (toRed _ h)) $$ HD0; iintro Hd00 Hd01 Hd02
  iapply (sendA X κ c 0 0 (dst 9 c (k0_dev10_lt c) rfl) (rfl : (![0, 0, 0] : Fin 3 → ℕ) = _) (rfl : (![0, 2, 0, 0] : Fin 4 → ℕ) = _) (rfl : (![0, 0] : Fin 2 → ℕ) = _) (rfl : (![0, 2] : Fin 2 → ℕ) = _) (rfl : 9 = _) (rfl : 10 = _)) $$ HC Hd00 HsA00 HO; iintro HqA00 HO
  iapply runs_ret; iapply Hk $$ Hout Hd01 Hd02 HO HqA00

theorem run19 {v2 : BitVec 32} {v627 : BitVec 32} {c4_i32_412 : BitVec 32} {v628 : BitVec 1} {Q} :
    Ctx X κ c ⊢ iprop(ownD X c 0 1 -∗ shipA c 0 1 -∗ Owe c 10 -∗ (Owe c 11 -∗ pendA c 0 1 -∗ ∀ w0, Q w0) -∗ runs c (at14 (k0_part19 (F := F)) c v2 v627 c4_i32_412 v628) Q) := by
  rw [k0_part19_eq_skeleton]; unfold k0_part19_skel
  simp only [at14, semSignalWord, semWaitWord, Prog.lift, Prog.bind_op, Prog.bind_ret, Prog.pure_eq_ret, wp_deviceId]
  iintro #HC Hd01 HsA01 HO Hk
  iapply (sendA X κ c 0 1 (dst 10 c (k0_dev11_lt c) rfl) (rfl : (![0, 0, 0] : Fin 3 → ℕ) = _) (rfl : (![0, 1, 0, 0] : Fin 4 → ℕ) = _) (rfl : (![0, 1] : Fin 2 → ℕ) = _) (rfl : (![0, 1] : Fin 2 → ℕ) = _) (rfl : 10 = _) (rfl : 11 = _)) $$ HC Hd01 HsA01 HO; iintro HqA01 HO
  iapply runs_ret; iapply Hk $$ HO HqA01

end Cert.KernelIdeal.Own

end
-- ==== Proof.PartsB.lean ====
/- The program's parts through the last chunk's scatter: what each needs and leaves. -/
module

public import proofs.«01_k».proof.Proof.BodyPre

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F) (κ : GSem nD τ sig → ℕ) (c : Dev nD)

set_option maxRecDepth 100000

theorem run20 {v50 : FVec F S1024x1024 .bf16} {v104 : FVec F S256x256 .f32} {v658 : BitVec 32} {Q} :
    Ctx X κ c ⊢ iprop(ownD X c 0 2 -∗ shipA c 0 2 -∗ Owe c 11 -∗ insAt c (X c) -∗ (Owe c 12 -∗ pendA c 0 2 -∗ insAt c (X c) -∗ Q ⟨k0_pay39 v104, k0_pay40 v50, k0_pay41 v50 v104 (ld mK (X c).k ![0, 0] S768x128.size inb_S1024x1024_S768x128_0_0) (ld mV (X c).v ![0, 0] S768x128.size inb_S1024x1024_S768x128_0_0) (ld mW (X c).wo ![0, 0] S128x1024.size inb_S1024x1024_S128x1024_0_0), k0_pay42 v50, k0_pay43 (ld mK (X c).k ![0, 128] S768x128.size inb_S1024x1024_S768x128_0_128), (constant S256x768 .f32 0x00000000#32)⟩) -∗ runs c (at14 (k0_part20 (F := F)) c v50 v104 v658) Q) := by
  rw [k0_part20_eq_skeleton]; unfold k0_part20_skel
  simp only [at14, semSignalWord, semWaitWord, Prog.lift, Prog.bind_op, Prog.bind_ret, Prog.pure_eq_ret, wp_deviceId]
  iintro #HC Hd02 HsA02 HO Hin Hk
  iapply (sendA X κ c 0 2 (dst 11 c (k0_dev12_lt c) rfl) (rfl : (![0, 0, 0] : Fin 3 → ℕ) = _) (rfl : (![0, 0, 0, 0] : Fin 4 → ℕ) = _) (rfl : (![0, 2] : Fin 2 → ℕ) = _) (rfl : (![0, 0] : Fin 2 → ℕ) = _) (rfl : 11 = _) (rfl : 12 = _)) $$ HC Hd02 HsA02 HO; iintro HqA02 HO
  iapply (load_k c (X c)) $$ Hin; iintro Hin
  iapply (load_v c (X c)) $$ Hin; iintro Hin
  iapply (load_w c (X c)) $$ Hin; iintro Hin
  iapply (load_k c (X c)) $$ Hin; iintro Hin
  iapply runs_ret; iapply Hk $$ HO HqA02 Hin

theorem run21 {v670 : FVec F S256x768 .f32} {v671 : FVec F S256x1024 .bf16} {v691 : FVec F S256x1024 .f32} {v692 : FVec F S256x128 .bf16} {v694 : FVec F S768x128 .bf16} {cst_465 : FVec F S256x768 .f32} {Q} :
    Ctx X κ c ⊢ iprop(insAt c (X c) -∗ (insAt c (X c) -∗ Q ⟨k0_pay44 v670 v671 v691 v692 v694 cst_465 (ld mV (X c).v ![0, 128] S768x128.size inb_S1024x1024_S768x128_0_128) (ld mW (X c).wo ![128, 0] S128x1024.size inb_S1024x1024_S128x1024_128_0) (ld mK (X c).k ![0, 256] S768x128.size inb_S1024x1024_S768x128_0_256) (ld mV (X c).v ![0, 256] S768x128.size inb_S1024x1024_S768x128_0_256) (ld mW (X c).wo ![256, 0] S128x1024.size inb_S1024x1024_S128x1024_256_0), k0_pay45 v670 v671 (ld mK (X c).k ![0, 384] S768x128.size inb_S1024x1024_S768x128_0_384)⟩) -∗ runs c (at14 (k0_part21 (F := F)) v670 v671 v691 v692 v694 cst_465) Q) := by
  rw [k0_part21_eq_skeleton]; unfold k0_part21_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply runs_ret; iapply Hk $$ Hin

theorem run22 {v670 : FVec F S256x768 .f32} {v671 : FVec F S256x1024 .bf16} {v729 : FVec F S256x1024 .f32} {v734 : FVec F S256x768 .f32} {Q} :
    Ctx X κ c ⊢ iprop(insAt c (X c) -∗ (insAt c (X c) -∗ Q ⟨k0_pay46 v670 v671 v729 v734 (ld mV (X c).v ![0, 384] S768x128.size inb_S1024x1024_S768x128_0_384) (ld mW (X c).wo ![384, 0] S128x1024.size inb_S1024x1024_S128x1024_384_0) (ld mK (X c).k ![0, 512] S768x128.size inb_S1024x1024_S768x128_0_512) (ld mV (X c).v ![0, 512] S768x128.size inb_S1024x1024_S768x128_0_512) (ld mW (X c).wo ![512, 0] S128x1024.size inb_S1024x1024_S128x1024_512_0), k0_pay47 v670 v671 (ld mK (X c).k ![0, 640] S768x128.size inb_S1024x1024_S768x128_0_640)⟩) -∗ runs c (at14 (k0_part22 (F := F)) v670 v671 v729 v734) Q) := by
  rw [k0_part22_eq_skeleton]; unfold k0_part22_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply runs_ret; iapply Hk $$ Hin

theorem run23 {v670 : FVec F S256x768 .f32} {v671 : FVec F S256x1024 .bf16} {v767 : FVec F S256x1024 .f32} {v773 : FVec F S256x768 .f32} {Q} :
    Ctx X κ c ⊢ iprop(insAt c (X c) -∗ (insAt c (X c) -∗ Q ⟨k0_pay48 v670 v671 v767 v773 (ld mV (X c).v ![0, 640] S768x128.size inb_S1024x1024_S768x128_0_640) (ld mW (X c).wo ![640, 0] S128x1024.size inb_S1024x1024_S128x1024_640_0) (ld mK (X c).k ![0, 768] S768x128.size inb_S1024x1024_S768x128_0_768) (ld mV (X c).v ![0, 768] S768x128.size inb_S1024x1024_S768x128_0_768) (ld mW (X c).wo ![768, 0] S128x1024.size inb_S1024x1024_S128x1024_768_0), k0_pay49 v670 v671 (ld mK (X c).k ![0, 896] S768x128.size inb_S1024x1024_S768x128_0_896), k0_pay50 v670 v671 (ld mK (X c).k ![0, 896] S768x128.size inb_S1024x1024_S768x128_0_896)⟩) -∗ runs c (at14 (k0_part23 (F := F)) v670 v671 v767 v773) Q) := by
  rw [k0_part23_eq_skeleton]; unfold k0_part23_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply runs_ret; iapply Hk $$ Hin

theorem run24 {v2 : BitVec 32} {v805 : FVec F S256x1024 .f32} {v811 : FVec F S256x768 .f32} {v813 : FVec F S256x1 .f32} (hw : (k0_pay51 v805 v811 v813 (ld mV (X c).v ![0, 896] S768x128.size inb_S1024x1024_S768x128_0_896) (ld mW (X c).wo ![896, 0] S128x1024.size inb_S1024x1024_S128x1024_896_0)) = part (X c) 2) {Q} :
    Ctx X κ c ⊢ iprop(insAt c (X c) -∗ (∃ f, chunk c 2 f) -∗ (insAt c (X c) -∗ ownP X c 2 c -∗ outP X c 2 0 -∗ outP X c 2 1 -∗ outP X c 2 2 -∗ Q ⟨⟩) -∗ runs c (at14 (k0_part24 (F := F)) v2 v805 v811 v813) Q) := by
  rw [k0_part24_eq_skeleton]; unfold k0_part24_skel
  simp only [at14, semSignalWord, semWaitWord, Prog.lift, Prog.bind_op, Prog.bind_ret, Prog.pure_eq_ret, wp_deviceId]
  iintro #HC Hin HP2 Hk
  iapply (load_v c (X c)) $$ Hin; iintro Hin
  iapply (load_w c (X c)) $$ Hin; iintro Hin
  iapply (load_C c 2 (rfl : (![2, 0, 0] : Fin 3 → ℕ) = _)) $$ HP2; iintro HP2 %_v
  iapply (storeC X c 2 (rfl : (![2, 0, 0] : Fin 3 → ℕ) = _) hw) $$ HP2; iintro Hr2 Hp20 Hp21 Hp22
  iapply runs_ret; iapply Hk $$ Hin Hr2 Hp20 Hp21 Hp22

theorem run25 {v2 : BitVec 32} {Q} :
    Ctx X κ c ⊢ iprop(outP X c 2 0 -∗ shipR c 2 0 -∗ Owe c 12 -∗ outP X c 2 1 -∗ shipR c 2 1 -∗ (Owe c 14 -∗ pendR c 2 0 -∗ pendR c 2 1 -∗ ∀ w0 w1, Q ⟨w0, w1, 0#32⟩) -∗ runs c (at14 (k0_part25 (F := F)) c v2) Q) := by
  rw [k0_part25_eq_skeleton]; unfold k0_part25_skel
  simp only [at14, semSignalWord, semWaitWord, Prog.lift, Prog.bind_op, Prog.bind_ret, Prog.pure_eq_ret, wp_deviceId]
  iintro #HC Hp20 HsR20 HO Hp21 HsR21 Hk
  iapply (sendR X κ c 2 0 (dst 12 c (k0_dev13_lt c) rfl) (offs 2 0 c) (rfl : (![2, 2, 0, 0] : Fin 4 → ℕ) = _) (rfl : (![2, 0] : Fin 2 → ℕ) = _) (rfl : (![2, 2] : Fin 2 → ℕ) = _) (rfl : 12 = _) (rfl : 13 = _)) $$ HC Hp20 HsR20 HO; iintro HqR20 HO
  iapply (sendR X κ c 2 1 (dst 13 c (k0_dev14_lt c) rfl) (offs 2 1 c) (rfl : (![2, 1, 0, 0] : Fin 4 → ℕ) = _) (rfl : (![2, 1] : Fin 2 → ℕ) = _) (rfl : (![2, 1] : Fin 2 → ℕ) = _) (rfl : 13 = _) (rfl : 14 = _)) $$ HC Hp21 HsR21 HO; iintro HqR21 HO
  iapply runs_ret; iapply Hk $$ HO HqR20 HqR21

theorem run26 {v2 : BitVec 32} {v875 : BitVec 32} {v876 : BitVec 32} {c0_i32_580 : BitVec 32} {Q} :
    Ctx X κ c ⊢ iprop(outP X c 2 2 -∗ shipR c 2 2 -∗ Owe c 14 -∗ ownP X c 1 c -∗ (Owe c 15 -∗ pendR c 2 2 -∗ ownP X c 1 c -∗ Q (k0_pay52 (up3 (rowsOf (X c) 1 c)))) -∗ runs c (at14 (k0_part26 (F := F)) c v2 v875 v876 c0_i32_580) Q) := by
  rw [k0_part26_eq_skeleton]; unfold k0_part26_skel
  simp only [at14, semSignalWord, semWaitWord, Prog.lift, Prog.bind_op, Prog.bind_ret, Prog.pure_eq_ret, wp_deviceId]
  iintro #HC Hp22 HsR22 HO Hr1 Hk
  iapply (sendR X κ c 2 2 (dst 14 c (k0_dev15_lt c) rfl) (offs 2 2 c) (rfl : (![2, 0, 0, 0] : Fin 4 → ℕ) = _) (rfl : (![2, 2] : Fin 2 → ℕ) = _) (rfl : (![2, 0] : Fin 2 → ℕ) = _) (rfl : 14 = _) (rfl : 15 = _)) $$ HC Hp22 HsR22 HO; iintro HqR22 HO
  iapply (load_P X c 1 (k0_off6_eq c)) $$ Hr1; iintro Hr1
  iapply runs_ret; iapply Hk $$ HO HqR22 Hr1

theorem run27 {v2 : BitVec 32} {v899 : FVec F S64x1024 .f32} {Q} :
    Ctx X κ c ⊢ iprop(toR c 1 0 -∗ Owe c 15 -∗ toR c 1 1 -∗ (Owe c 15 -∗ hasR X c 1 0 -∗ hasR X c 1 1 -∗ Q (k0_pay53 v899 (up4 (rowsOf (X (nxt ((0 : Fin 3).val + 1) c)) 1 c)) (up4 (rowsOf (X (nxt ((1 : Fin 3).val + 1) c)) 1 c)))) -∗ runs c (at14 (k0_part27 (F := F)) v2 v899) Q) := by
  rw [k0_part27_eq_skeleton]; unfold k0_part27_skel
  simp only [at14, semSignalWord, semWaitWord, Prog.lift, Prog.bind_op, Prog.bind_ret, Prog.pure_eq_ret, wp_deviceId]
  iintro #HC HwR10 HO HwR11 Hk
  iapply (recvR X κ c 1 0 (rfl : (![1, 0] : Fin 2 → ℕ) = _) (rfl : 15 = _)) $$ HC HwR10 HO; iintro HO HgR10
  iapply (readR X c 1 0 (rfl : (![1, 0, 0, 0] : Fin 4 → ℕ) = _)) $$ HgR10; iintro HgR10
  iapply (recvR X κ c 1 1 (rfl : (![1, 1] : Fin 2 → ℕ) = _) (rfl : 15 = _)) $$ HC HwR11 HO; iintro HO HgR11
  iapply (readR X c 1 1 (rfl : (![1, 1, 0, 0] : Fin 4 → ℕ) = _)) $$ HgR11; iintro HgR11
  iapply runs_ret; iapply Hk $$ HO HgR10 HgR11

theorem run28 {v2 : BitVec 32} {v923 : FVec F S64x1024 .f32} {T : Finset (Fin 4 × Fin 4)} (h : (k0_pay54 v923 (up4 (rowsOf (X (nxt ((2 : Fin 3).val + 1) c)) 1 c))) = redF X c 1) {Q} :
    Ctx X κ c ⊢ iprop(toR c 1 2 -∗ Owe c 15 -∗ outs X c T -∗ (∃ f, pc c (bD 1) fullShare f) -∗ (Owe c 15 -∗ hasR X c 1 2 -∗ outs X c (insert (1, c) T) -∗ ownD X c 1 0 -∗ ownD X c 1 1 -∗ ownD X c 1 2 -∗ ∀ w0, Q ⟨w0, 1#32⟩) -∗ runs c (at14 (k0_part28 (F := F)) c v2 v923) Q) := by
  rw [k0_part28_eq_skeleton]; unfold k0_part28_skel
  simp only [at14, semSignalWord, semWaitWord, Prog.lift, Prog.bind_op, Prog.bind_ret, Prog.pure_eq_ret, wp_deviceId]
  iintro #HC HwR12 HO Hout HD1 Hk
  iapply (recvR X κ c 1 2 (rfl : (![1, 2] : Fin 2 → ℕ) = _) (rfl : 15 = _)) $$ HC HwR12 HO; iintro HO HgR12
  iapply (readR X c 1 2 (rfl : (![1, 2, 0, 0] : Fin 4 → ℕ) = _)) $$ HgR12; iintro HgR12
  iapply (load_O X c _) $$ Hout; iintro Hout %_v
  iapply (store_O X c _ 1 c (k0_off4_eq c 1) ((toOut _ h).trans (congrArg up3 (outB_own X c 1).symm))) $$ Hout; iintro Hout
  iapply (load_D c 1 (rfl : (![1, 0, 0] : Fin 3 → ℕ) = _)) $$ HD1; iintro HD1 %_v
  iapply (storeD X c 1 (rfl : (![1, 0, 0] : Fin 3 → ℕ) = _) (toRed _ h)) $$ HD1; iintro Hd10 Hd11 Hd12
  iapply runs_ret; iapply Hk $$ HO HgR12 Hout Hd10 Hd11 Hd12

theorem run29 {v2 : BitVec 32} {v956 : BitVec 32} {c1_i32_673 : BitVec 32} {Q} :
    Ctx X κ c ⊢ iprop(ownD X c 1 0 -∗ shipA c 1 0 -∗ Owe c 15 -∗ ownD X c 1 1 -∗ shipA c 1 1 -∗ (Owe c 17 -∗ pendA c 1 0 -∗ pendA c 1 1 -∗ ∀ w0, Q w0) -∗ runs c (at14 (k0_part29 (F := F)) c v2 v956 c1_i32_673) Q) := by
  rw [k0_part29_eq_skeleton]; unfold k0_part29_skel
  simp only [at14, semSignalWord, semWaitWord, Prog.lift, Prog.bind_op, Prog.bind_ret, Prog.pure_eq_ret, wp_deviceId]
  iintro #HC Hd10 HsA10 HO Hd11 HsA11 Hk
  iapply (sendA X κ c 1 0 (dst 15 c (k0_dev16_lt c) rfl) (rfl : (![1, 0, 0] : Fin 3 → ℕ) = _) (rfl : (![1, 2, 0, 0] : Fin 4 → ℕ) = _) (rfl : (![1, 0] : Fin 2 → ℕ) = _) (rfl : (![1, 2] : Fin 2 → ℕ) = _) (rfl : 15 = _) (rfl : 16 = _)) $$ HC Hd10 HsA10 HO; iintro HqA10 HO
  iapply (sendA X κ c 1 1 (dst 16 c (k0_dev17_lt c) rfl) (rfl : (![1, 0, 0] : Fin 3 → ℕ) = _) (rfl : (![1, 1, 0, 0] : Fin 4 → ℕ) = _) (rfl : (![1, 1] : Fin 2 → ℕ) = _) (rfl : (![1, 1] : Fin 2 → ℕ) = _) (rfl : 16 = _) (rfl : 17 = _)) $$ HC Hd11 HsA11 HO; iintro HqA11 HO
  iapply runs_ret; iapply Hk $$ HO HqA10 HqA11

theorem run30 {v50 : FVec F S1024x1024 .bf16} {v104 : FVec F S256x256 .f32} {v988 : BitVec 32} {Q} :
    Ctx X κ c ⊢ iprop(ownD X c 1 2 -∗ shipA c 1 2 -∗ Owe c 17 -∗ insAt c (X c) -∗ (Owe c 18 -∗ pendA c 1 2 -∗ insAt c (X c) -∗ Q ⟨k0_pay57 v104, k0_pay58 v50, k0_pay59 (F := F), k0_pay61 v50 v104 (ld mK (X c).k ![0, 0] S1024x128.size inb_S1024x1024_S1024x128_0_0), k0_pay62 v50 v104 (ld mK (X c).k ![0, 0] S1024x128.size inb_S1024x1024_S1024x128_0_0)⟩) -∗ runs c (at14 (k0_part30 (F := F)) c v50 v104 v988) Q) := by
  rw [k0_part30_eq_skeleton]; unfold k0_part30_skel
  simp only [at14, semSignalWord, semWaitWord, Prog.lift, Prog.bind_op, Prog.bind_ret, Prog.pure_eq_ret, wp_deviceId]
  iintro #HC Hd12 HsA12 HO Hin Hk
  iapply (sendA X κ c 1 2 (dst 17 c (k0_dev18_lt c) rfl) (rfl : (![1, 0, 0] : Fin 3 → ℕ) = _) (rfl : (![1, 0, 0, 0] : Fin 4 → ℕ) = _) (rfl : (![1, 2] : Fin 2 → ℕ) = _) (rfl : (![1, 0] : Fin 2 → ℕ) = _) (rfl : 17 = _) (rfl : 18 = _)) $$ HC Hd12 HsA12 HO; iintro HqA12 HO
  iapply (load_k c (X c)) $$ Hin; iintro Hin
  iapply runs_ret; iapply Hk $$ HO HqA12 Hin

theorem run31 {v1010 : FVec F S256x1024 .f32} {v1011 : FVec F S256x1024 .bf16} {v1012 : FVec F S256x1024 .f32} {v1020 : FVec F S256x1 .f32} {v1021 : FVec F S256x1024 .bf16} {Q} :
    Ctx X κ c ⊢ iprop(insAt c (X c) -∗ (insAt c (X c) -∗ Q ⟨k0_pay63 v1010 v1011 v1012 v1020 v1021 (ld mV (X c).v ![0, 0] S1024x128.size inb_S1024x1024_S1024x128_0_0) (ld mW (X c).wo ![0, 0] S128x1024.size inb_S1024x1024_S128x1024_0_0) (ld mK (X c).k ![0, 128] S1024x128.size inb_S1024x1024_S1024x128_0_128) (ld mV (X c).v ![0, 128] S1024x128.size inb_S1024x1024_S1024x128_0_128) (ld mW (X c).wo ![128, 0] S128x1024.size inb_S1024x1024_S128x1024_128_0), k0_pay65 v1010 v1011 (ld mK (X c).k ![0, 256] S1024x128.size inb_S1024x1024_S1024x128_0_256), k0_pay66 v1010 v1011 (ld mK (X c).k ![0, 256] S1024x128.size inb_S1024x1024_S1024x128_0_256), (ld mV (X c).v ![0, 256] S1024x128.size inb_S1024x1024_S1024x128_0_256)⟩) -∗ runs c (at14 (k0_part31 (F := F)) v1010 v1011 v1012 v1020 v1021) Q) := by
  rw [k0_part31_eq_skeleton]; unfold k0_part31_skel
  simp only [at14, semSignalWord, semWaitWord, Prog.lift, Prog.bind_op, Prog.bind_ret, Prog.pure_eq_ret, wp_deviceId]
  iintro #HC Hin Hk
  iapply (load_v c (X c)) $$ Hin; iintro Hin
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply runs_ret; iapply Hk $$ Hin

theorem run32 {v1010 : FVec F S256x1024 .f32} {v1011 : FVec F S256x1024 .bf16} {v1050 : FVec F S256x1024 .f32} {v1058 : FVec F S256x1 .f32} {v1059 : FVec F S256x1024 .bf16} {v1060 : Vec F S1024x128 .bf16} {Q} :
    Ctx X κ c ⊢ iprop(insAt c (X c) -∗ (insAt c (X c) -∗ Q ⟨k0_pay67 v1010 v1011 v1050 v1058 v1059 v1060 (ld mW (X c).wo ![256, 0] S128x1024.size inb_S1024x1024_S128x1024_256_0) (ld mK (X c).k ![0, 384] S1024x128.size inb_S1024x1024_S1024x128_0_384) (ld mV (X c).v ![0, 384] S1024x128.size inb_S1024x1024_S1024x128_0_384) (ld mW (X c).wo ![384, 0] S128x1024.size inb_S1024x1024_S128x1024_384_0), k0_pay69 v1010 v1011 (ld mK (X c).k ![0, 512] S1024x128.size inb_S1024x1024_S1024x128_0_512), k0_pay70 v1010 v1011 (ld mK (X c).k ![0, 512] S1024x128.size inb_S1024x1024_S1024x128_0_512), k0_pay71 (ld mV (X c).v ![0, 512] S1024x128.size inb_S1024x1024_S1024x128_0_512), (constant S256x128 .f32 0x00000000#32)⟩) -∗ runs c (at14 (k0_part32 (F := F)) v1010 v1011 v1050 v1058 v1059 v1060) Q) := by
  rw [k0_part32_eq_skeleton]; unfold k0_part32_skel
  simp only [at14, semSignalWord, semWaitWord, Prog.lift, Prog.bind_op, Prog.bind_ret, Prog.pure_eq_ret, wp_deviceId]
  iintro #HC Hin Hk
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply runs_ret; iapply Hk $$ Hin

theorem run33 {v1010 : FVec F S256x1024 .f32} {v1011 : FVec F S256x1024 .bf16} {v1088 : FVec F S256x1024 .f32} {v1096 : FVec F S256x1 .f32} {v1097 : FVec F S256x1024 .bf16} {v1099 : FVec F S1024x128 .bf16} {cst_767 : FVec F S256x128 .f32} {Q} :
    Ctx X κ c ⊢ iprop(insAt c (X c) -∗ (insAt c (X c) -∗ Q ⟨k0_pay72 v1010 v1011 v1088 v1096 v1097 v1099 cst_767 (ld mW (X c).wo ![512, 0] S128x1024.size inb_S1024x1024_S128x1024_512_0) (ld mK (X c).k ![0, 640] S1024x128.size inb_S1024x1024_S1024x128_0_640) (ld mV (X c).v ![0, 640] S1024x128.size inb_S1024x1024_S1024x128_0_640) (ld mW (X c).wo ![640, 0] S128x1024.size inb_S1024x1024_S128x1024_640_0), k0_pay74 v1010 v1011 (ld mK (X c).k ![0, 768] S1024x128.size inb_S1024x1024_S1024x128_0_768) (ld mV (X c).v ![0, 768] S1024x128.size inb_S1024x1024_S1024x128_0_768), k0_pay75 v1010 v1011 (ld mK (X c).k ![0, 768] S1024x128.size inb_S1024x1024_S1024x128_0_768)⟩) -∗ runs c (at14 (k0_part33 (F := F)) v1010 v1011 v1088 v1096 v1097 v1099 cst_767) Q) := by
  rw [k0_part33_eq_skeleton]; unfold k0_part33_skel
  simp only [at14, semSignalWord, semWaitWord, Prog.lift, Prog.bind_op, Prog.bind_ret, Prog.pure_eq_ret, wp_deviceId]
  iintro #HC Hin Hk
  iapply (load_w c (X c)) $$ Hin; iintro Hin
  iapply (load_k c (X c)) $$ Hin; iintro Hin
  iapply (load_v c (X c)) $$ Hin; iintro Hin
  iapply (load_w c (X c)) $$ Hin; iintro Hin
  iapply (load_k c (X c)) $$ Hin; iintro Hin
  iapply (load_v c (X c)) $$ Hin; iintro Hin
  iapply runs_ret; iapply Hk $$ Hin

theorem run34 {v2 : BitVec 32} {v1010 : FVec F S256x1024 .f32} {v1011 : FVec F S256x1024 .bf16} {v1126 : FVec F S256x1024 .f32} {v1138 : FVec F S256x128 .f32} {v1139 : FVec F S256x128 .f32} (hw : (k0_pay76 v1010 v1011 v1126 v1138 v1139 (ld mW (X c).wo ![768, 0] S128x1024.size inb_S1024x1024_S128x1024_768_0) (ld mK (X c).k ![0, 896] S1024x128.size inb_S1024x1024_S1024x128_0_896) (ld mV (X c).v ![0, 896] S1024x128.size inb_S1024x1024_S1024x128_0_896) (ld mW (X c).wo ![896, 0] S128x1024.size inb_S1024x1024_S128x1024_896_0)) = part (X c) 3) {Q} :
    Ctx X κ c ⊢ iprop(insAt c (X c) -∗ (∃ f, chunk c 3 f) -∗ (insAt c (X c) -∗ ownP X c 3 c -∗ outP X c 3 0 -∗ outP X c 3 1 -∗ outP X c 3 2 -∗ ∀ w0 w1 w2 w3 w4, Q ⟨w0, w1, w2, w3, w4⟩) -∗ runs c (at14 (k0_part34 (F := F)) v2 v1010 v1011 v1126 v1138 v1139) Q) := by
  rw [k0_part34_eq_skeleton]; unfold k0_part34_skel
  simp only [at14, semSignalWord, semWaitWord, Prog.lift, Prog.bind_op, Prog.bind_ret, Prog.pure_eq_ret, wp_deviceId]
  iintro #HC Hin HP3 Hk
  iapply (load_w c (X c)) $$ Hin; iintro Hin
  iapply (load_k c (X c)) $$ Hin; iintro Hin
  iapply (load_v c (X c)) $$ Hin; iintro Hin
  iapply (load_w c (X c)) $$ Hin; iintro Hin
  iapply (load_C c 3 (rfl : (![3, 0, 0] : Fin 3 → ℕ) = _)) $$ HP3; iintro HP3 %_v
  iapply (storeC X c 3 (rfl : (![3, 0, 0] : Fin 3 → ℕ) = _) hw) $$ HP3; iintro Hr3 Hp30 Hp31 Hp32
  iapply runs_ret; iapply Hk $$ Hin Hr3 Hp30 Hp31 Hp32

theorem run35 {v2 : BitVec 32} {v1171 : BitVec 32} {v1172 : BitVec 32} {v1173 : BitVec 1} {v1174 : BitVec 1} {v1175 : BitVec 1} {Q} :
    Ctx X κ c ⊢ iprop(outP X c 3 0 -∗ shipR c 3 0 -∗ Owe c 18 -∗ (Owe c 19 -∗ pendR c 3 0 -∗ Q ⟨⟩) -∗ runs c (at14 (k0_part35 (F := F)) c v2 v1171 v1172 v1173 v1174 v1175) Q) := by
  rw [k0_part35_eq_skeleton]; unfold k0_part35_skel
  simp only [at14, semSignalWord, semWaitWord, Prog.lift, Prog.bind_op, Prog.bind_ret, Prog.pure_eq_ret, wp_deviceId]
  iintro #HC Hp30 HsR30 HO Hk
  iapply (sendR X κ c 3 0 (dst 18 c (k0_dev19_lt c) rfl) (offs 3 0 c) (rfl : (![3, 2, 0, 0] : Fin 4 → ℕ) = _) (rfl : (![3, 0] : Fin 2 → ℕ) = _) (rfl : (![3, 2] : Fin 2 → ℕ) = _) (rfl : 18 = _) (rfl : 19 = _)) $$ HC Hp30 HsR30 HO; iintro HqR30 HO
  iapply runs_ret; iapply Hk $$ HO HqR30

theorem run36 {v2 : BitVec 32} {Q} :
    Ctx X κ c ⊢ iprop(outP X c 3 1 -∗ shipR c 3 1 -∗ Owe c 19 -∗ outP X c 3 2 -∗ shipR c 3 2 -∗ (Owe c 21 -∗ pendR c 3 1 -∗ pendR c 3 2 -∗ Q ⟨⟩) -∗ runs c (at14 (k0_part36 (F := F)) c v2) Q) := by
  rw [k0_part36_eq_skeleton]; unfold k0_part36_skel
  simp only [at14, semSignalWord, semWaitWord, Prog.lift, Prog.bind_op, Prog.bind_ret, Prog.pure_eq_ret, wp_deviceId]
  iintro #HC Hp31 HsR31 HO Hp32 HsR32 Hk
  iapply (sendR X κ c 3 1 (dst 19 c (k0_dev20_lt c) rfl) (offs 3 1 c) (rfl : (![3, 1, 0, 0] : Fin 4 → ℕ) = _) (rfl : (![3, 1] : Fin 2 → ℕ) = _) (rfl : (![3, 1] : Fin 2 → ℕ) = _) (rfl : 19 = _) (rfl : 20 = _)) $$ HC Hp31 HsR31 HO; iintro HqR31 HO
  iapply (sendR X κ c 3 2 (dst 20 c (k0_dev21_lt c) rfl) (offs 3 2 c) (rfl : (![3, 0, 0, 0] : Fin 4 → ℕ) = _) (rfl : (![3, 2] : Fin 2 → ℕ) = _) (rfl : (![3, 0] : Fin 2 → ℕ) = _) (rfl : 20 = _) (rfl : 21 = _)) $$ HC Hp32 HsR32 HO; iintro HqR32 HO
  iapply runs_ret; iapply Hk $$ HO HqR31 HqR32

end Cert.KernelIdeal.Own

end
-- ==== Proof.PartsC.lean ====
/- The program's parts through the last wait: what each needs and leaves. -/
module

public import proofs.«01_k».proof.Proof.BodyPre

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F) (κ : GSem nD τ sig → ℕ) (c : Dev nD)

set_option maxRecDepth 100000

theorem run37 {v2 : BitVec 32} {Q} :
    Ctx X κ c ⊢ iprop(ownP X c 2 c -∗ toR c 2 0 -∗ Owe c 21 -∗ toR c 2 1 -∗ (ownP X c 2 c -∗ Owe c 21 -∗ hasR X c 2 0 -∗ hasR X c 2 1 -∗ Q (k0_pay77 (up3 (rowsOf (X c) 2 c)) (up4 (rowsOf (X (nxt ((0 : Fin 3).val + 1) c)) 2 c)))) -∗ runs c (at14 (k0_part37 (F := F)) c v2) Q) := by
  rw [k0_part37_eq_skeleton]; unfold k0_part37_skel
  simp only [at14, semSignalWord, semWaitWord, Prog.lift, Prog.bind_op, Prog.bind_ret, Prog.pure_eq_ret, wp_deviceId]
  iintro #HC Hr2 HwR20 HO HwR21 Hk
  iapply (load_P X c 2 (k0_off8_eq c)) $$ Hr2; iintro Hr2
  iapply (recvR X κ c 2 0 (rfl : (![2, 0] : Fin 2 → ℕ) = _) (rfl : 21 = _)) $$ HC HwR20 HO; iintro HO HgR20
  iapply (readR X c 2 0 (rfl : (![2, 0, 0, 0] : Fin 4 → ℕ) = _)) $$ HgR20; iintro HgR20
  iapply (recvR X κ c 2 1 (rfl : (![2, 1] : Fin 2 → ℕ) = _) (rfl : 21 = _)) $$ HC HwR21 HO; iintro HO HgR21
  iapply runs_ret; iapply Hk $$ Hr2 HO HgR20 HgR21

theorem run38 {v2 : BitVec 32} {v1251 : FVec F S64x1024 .f32} {T : Finset (Fin 4 × Fin 4)} (h : (k0_pay78 v1251 (up4 (rowsOf (X (nxt ((1 : Fin 3).val + 1) c)) 2 c)) (up4 (rowsOf (X (nxt ((2 : Fin 3).val + 1) c)) 2 c))) = redF X c 2) {Q} :
    Ctx X κ c ⊢ iprop(hasR X c 2 1 -∗ toR c 2 2 -∗ Owe c 21 -∗ outs X c T -∗ (∃ f, pc c (bD 2) fullShare f) -∗ (hasR X c 2 1 -∗ Owe c 21 -∗ hasR X c 2 2 -∗ outs X c (insert (2, c) T) -∗ ownD X c 2 0 -∗ ownD X c 2 1 -∗ ownD X c 2 2 -∗ ∀ w0 w1, Q ⟨w0, 4#32, w1⟩) -∗ runs c (at14 (k0_part38 (F := F)) c v2 v1251) Q) := by
  rw [k0_part38_eq_skeleton]; unfold k0_part38_skel
  simp only [at14, semSignalWord, semWaitWord, Prog.lift, Prog.bind_op, Prog.bind_ret, Prog.pure_eq_ret, wp_deviceId]
  iintro #HC HgR21 HwR22 HO Hout HD2 Hk
  iapply (readR X c 2 1 (rfl : (![2, 1, 0, 0] : Fin 4 → ℕ) = _)) $$ HgR21; iintro HgR21
  iapply (recvR X κ c 2 2 (rfl : (![2, 2] : Fin 2 → ℕ) = _) (rfl : 21 = _)) $$ HC HwR22 HO; iintro HO HgR22
  iapply (readR X c 2 2 (rfl : (![2, 2, 0, 0] : Fin 4 → ℕ) = _)) $$ HgR22; iintro HgR22
  iapply (load_O X c _) $$ Hout; iintro Hout %_v
  iapply (store_O X c _ 2 c (k0_off4_eq c 2) ((toOut _ h).trans (congrArg up3 (outB_own X c 2).symm))) $$ Hout; iintro Hout
  iapply (load_D c 2 (rfl : (![2, 0, 0] : Fin 3 → ℕ) = _)) $$ HD2; iintro HD2 %_v
  iapply (storeD X c 2 (rfl : (![2, 0, 0] : Fin 3 → ℕ) = _) (toRed _ h)) $$ HD2; iintro Hd20 Hd21 Hd22
  iapply runs_ret; iapply Hk $$ HgR21 HO HgR22 Hout Hd20 Hd21 Hd22

theorem run39 {v2 : BitVec 32} {v1286 : BitVec 32} {c4_i32_927 : BitVec 32} {v1287 : BitVec 1} {Q} :
    Ctx X κ c ⊢ iprop(ownD X c 2 0 -∗ shipA c 2 0 -∗ Owe c 21 -∗ (Owe c 22 -∗ pendA c 2 0 -∗ ∀ w0, Q w0) -∗ runs c (at14 (k0_part39 (F := F)) c v2 v1286 c4_i32_927 v1287) Q) := by
  rw [k0_part39_eq_skeleton]; unfold k0_part39_skel
  simp only [at14, semSignalWord, semWaitWord, Prog.lift, Prog.bind_op, Prog.bind_ret, Prog.pure_eq_ret, wp_deviceId]
  iintro #HC Hd20 HsA20 HO Hk
  iapply (sendA X κ c 2 0 (dst 21 c (k0_dev22_lt c) rfl) (rfl : (![2, 0, 0] : Fin 3 → ℕ) = _) (rfl : (![2, 2, 0, 0] : Fin 4 → ℕ) = _) (rfl : (![2, 0] : Fin 2 → ℕ) = _) (rfl : (![2, 2] : Fin 2 → ℕ) = _) (rfl : 21 = _) (rfl : 22 = _)) $$ HC Hd20 HsA20 HO; iintro HqA20 HO
  iapply runs_ret; iapply Hk $$ HO HqA20

theorem run40 {v2 : BitVec 32} {v1317 : BitVec 32} {Q} :
    Ctx X κ c ⊢ iprop(ownD X c 2 1 -∗ shipA c 2 1 -∗ Owe c 22 -∗ (Owe c 23 -∗ pendA c 2 1 -∗ Q ⟨⟩) -∗ runs c (at14 (k0_part40 (F := F)) c v2 v1317) Q) := by
  rw [k0_part40_eq_skeleton]; unfold k0_part40_skel
  simp only [at14, semSignalWord, semWaitWord, Prog.lift, Prog.bind_op, Prog.bind_ret, Prog.pure_eq_ret, wp_deviceId]
  iintro #HC Hd21 HsA21 HO Hk
  iapply (sendA X κ c 2 1 (dst 22 c (k0_dev23_lt c) rfl) (rfl : (![2, 0, 0] : Fin 3 → ℕ) = _) (rfl : (![2, 1, 0, 0] : Fin 4 → ℕ) = _) (rfl : (![2, 1] : Fin 2 → ℕ) = _) (rfl : (![2, 1] : Fin 2 → ℕ) = _) (rfl : 22 = _) (rfl : 23 = _)) $$ HC Hd21 HsA21 HO; iintro HqA21 HO
  iapply runs_ret; iapply Hk $$ HO HqA21

theorem run41 {v2 : BitVec 32} {Q} :
    Ctx X κ c ⊢ iprop(ownD X c 2 2 -∗ shipA c 2 2 -∗ Owe c 23 -∗ ownP X c 3 c -∗ toR c 3 0 -∗ (Owe c 24 -∗ pendA c 2 2 -∗ ownP X c 3 c -∗ hasR X c 3 0 -∗ Q (k0_pay81 (up3 (rowsOf (X c) 3 c)) (up4 (rowsOf (X (nxt ((0 : Fin 3).val + 1) c)) 3 c)))) -∗ runs c (at14 (k0_part41 (F := F)) c v2) Q) := by
  rw [k0_part41_eq_skeleton]; unfold k0_part41_skel
  simp only [at14, semSignalWord, semWaitWord, Prog.lift, Prog.bind_op, Prog.bind_ret, Prog.pure_eq_ret, wp_deviceId]
  iintro #HC Hd22 HsA22 HO Hr3 HwR30 Hk
  iapply (sendA X κ c 2 2 (dst 23 c (k0_dev24_lt c) rfl) (rfl : (![2, 0, 0] : Fin 3 → ℕ) = _) (rfl : (![2, 0, 0, 0] : Fin 4 → ℕ) = _) (rfl : (![2, 2] : Fin 2 → ℕ) = _) (rfl : (![2, 0] : Fin 2 → ℕ) = _) (rfl : 23 = _) (rfl : 24 = _)) $$ HC Hd22 HsA22 HO; iintro HqA22 HO
  iapply (load_P X c 3 (k0_off9_eq c)) $$ Hr3; iintro Hr3
  iapply (recvR X κ c 3 0 (rfl : (![3, 0] : Fin 2 → ℕ) = _) (rfl : 24 = _)) $$ HC HwR30 HO; iintro HO HgR30
  iapply (readR X c 3 0 (rfl : (![3, 0, 0, 0] : Fin 4 → ℕ) = _)) $$ HgR30; iintro HgR30
  iapply runs_ret; iapply Hk $$ HO HqA22 Hr3 HgR30

theorem run42 {v2 : BitVec 32} {v1365 : FVec F S64x1024 .f32} {T : Finset (Fin 4 × Fin 4)} (h : (k0_pay82 v1365 (up4 (rowsOf (X (nxt ((1 : Fin 3).val + 1) c)) 3 c)) (up4 (rowsOf (X (nxt ((2 : Fin 3).val + 1) c)) 3 c))) = redF X c 3) {Q} :
    Ctx X κ c ⊢ iprop(toR c 3 1 -∗ Owe c 24 -∗ toR c 3 2 -∗ outs X c T -∗ (∃ f, pc c (bD 3) fullShare f) -∗ (Owe c 24 -∗ hasR X c 3 1 -∗ hasR X c 3 2 -∗ outs X c (insert (3, c) T) -∗ (∃ f, pc c (bD 3) fullShare f) -∗ Q (k0_pay84 v1365 (up4 (rowsOf (X (nxt ((1 : Fin 3).val + 1) c)) 3 c)) (up4 (rowsOf (X (nxt ((2 : Fin 3).val + 1) c)) 3 c)))) -∗ runs c (at14 (k0_part42 (F := F)) c v2 v1365) Q) := by
  rw [k0_part42_eq_skeleton]; unfold k0_part42_skel
  simp only [at14, semSignalWord, semWaitWord, Prog.lift, Prog.bind_op, Prog.bind_ret, Prog.pure_eq_ret, wp_deviceId]
  iintro #HC HwR31 HO HwR32 Hout HD3 Hk
  iapply (recvR X κ c 3 1 (rfl : (![3, 1] : Fin 2 → ℕ) = _) (rfl : 24 = _)) $$ HC HwR31 HO; iintro HO HgR31
  iapply (readR X c 3 1 (rfl : (![3, 1, 0, 0] : Fin 4 → ℕ) = _)) $$ HgR31; iintro HgR31
  iapply (recvR X κ c 3 2 (rfl : (![3, 2] : Fin 2 → ℕ) = _) (rfl : 24 = _)) $$ HC HwR32 HO; iintro HO HgR32
  iapply (readR X c 3 2 (rfl : (![3, 2, 0, 0] : Fin 4 → ℕ) = _)) $$ HgR32; iintro HgR32
  iapply (load_O X c _) $$ Hout; iintro Hout %_v
  iapply (store_O X c _ 3 c (k0_off4_eq c 3) ((toOut _ h).trans (congrArg up3 (outB_own X c 3).symm))) $$ Hout; iintro Hout
  iapply (load_D c 3 (rfl : (![3, 0, 0] : Fin 3 → ℕ) = _)) $$ HD3; iintro HD3 %_v
  iapply runs_ret; iapply Hk $$ HO HgR31 HgR32 Hout HD3

theorem run43 {v2 : BitVec 32} {v1399 : FVec F S1x64x1024 .bf16} (h : v1399 = up3 (redB X c 3)) {Q} :
    Ctx X κ c ⊢ iprop((∃ f, pc c (bD 3) fullShare f) -∗ shipA c 3 0 -∗ Owe c 24 -∗ (ownD X c 3 1 -∗ ownD X c 3 2 -∗ Owe c 25 -∗ pendA c 3 0 -∗ ∀ w0 w1 w2, Q ⟨w0, w1, w2⟩) -∗ runs c (at14 (k0_part43 (F := F)) c v2 v1399) Q) := by
  rw [k0_part43_eq_skeleton]; unfold k0_part43_skel
  simp only [at14, semSignalWord, semWaitWord, Prog.lift, Prog.bind_op, Prog.bind_ret, Prog.pure_eq_ret, wp_deviceId]
  iintro #HC HD3 HsA30 HO Hk
  iapply (storeD X c 3 (rfl : (![3, 0, 0] : Fin 3 → ℕ) = _) h) $$ HD3; iintro Hd30 Hd31 Hd32
  iapply (sendA X κ c 3 0 (dst 24 c (k0_dev25_lt c) rfl) (rfl : (![3, 0, 0] : Fin 3 → ℕ) = _) (rfl : (![3, 2, 0, 0] : Fin 4 → ℕ) = _) (rfl : (![3, 0] : Fin 2 → ℕ) = _) (rfl : (![3, 2] : Fin 2 → ℕ) = _) (rfl : 24 = _) (rfl : 25 = _)) $$ HC Hd30 HsA30 HO; iintro HqA30 HO
  iapply runs_ret; iapply Hk $$ Hd31 Hd32 HO HqA30

theorem run44 {v2 : BitVec 32} {v1424 : BitVec 32} {v1429 : BitVec 1} {v1430 : BitVec 32} {Q} :
    Ctx X κ c ⊢ iprop(ownD X c 3 1 -∗ shipA c 3 1 -∗ Owe c 25 -∗ (Owe c 26 -∗ pendA c 3 1 -∗ Q ⟨⟩) -∗ runs c (at14 (k0_part44 (F := F)) c v2 v1424 v1429 v1430) Q) := by
  rw [k0_part44_eq_skeleton]; unfold k0_part44_skel
  simp only [at14, semSignalWord, semWaitWord, Prog.lift, Prog.bind_op, Prog.bind_ret, Prog.pure_eq_ret, wp_deviceId]
  iintro #HC Hd31 HsA31 HO Hk
  iapply (sendA X κ c 3 1 (dst 25 c (k0_dev26_lt c) rfl) (rfl : (![3, 0, 0] : Fin 3 → ℕ) = _) (rfl : (![3, 1, 0, 0] : Fin 4 → ℕ) = _) (rfl : (![3, 1] : Fin 2 → ℕ) = _) (rfl : (![3, 1] : Fin 2 → ℕ) = _) (rfl : 25 = _) (rfl : 26 = _)) $$ HC Hd31 HsA31 HO; iintro HqA31 HO
  iapply runs_ret; iapply Hk $$ HO HqA31

theorem run45 {v2 : BitVec 32} {Q} :
    Ctx X κ c ⊢ iprop(ownD X c 3 2 -∗ shipA c 3 2 -∗ Owe c 26 -∗ toA c 0 0 -∗ (Owe c 27 -∗ pendA c 3 2 -∗ hasA X c 0 0 -∗ ∀ w0, Q ⟨w0, k0_pay85 (up4 (redB X (nxt ((0 : Fin 3).val + 1) c) 0))⟩) -∗ runs c (at14 (k0_part45 (F := F)) c v2) Q) := by
  rw [k0_part45_eq_skeleton]; unfold k0_part45_skel
  simp only [at14, semSignalWord, semWaitWord, Prog.lift, Prog.bind_op, Prog.bind_ret, Prog.pure_eq_ret, wp_deviceId]
  iintro #HC Hd32 HsA32 HO HwA00 Hk
  iapply (sendA X κ c 3 2 (dst 26 c (k0_dev27_lt c) rfl) (rfl : (![3, 0, 0] : Fin 3 → ℕ) = _) (rfl : (![3, 0, 0, 0] : Fin 4 → ℕ) = _) (rfl : (![3, 2] : Fin 2 → ℕ) = _) (rfl : (![3, 0] : Fin 2 → ℕ) = _) (rfl : 26 = _) (rfl : 27 = _)) $$ HC Hd32 HsA32 HO; iintro HqA32 HO
  iapply (recvA X κ c 0 0 (rfl : (![0, 0] : Fin 2 → ℕ) = _) (rfl : 27 = _)) $$ HC HwA00 HO; iintro HO HgA00
  iapply (readA X c 0 0 (rfl : (![0, 0, 0, 0] : Fin 4 → ℕ) = _)) $$ HgA00; iintro HgA00
  iapply runs_ret; iapply Hk $$ HO HqA32 HgA00

theorem run46 {v2 : BitVec 32} {v1484 : BitVec 32} {T : Finset (Fin 4 × Fin 4)} {Q} :
    Ctx X κ c ⊢ iprop(outs X c T -∗ toA c 0 1 -∗ Owe c 27 -∗ (outs X c (insert (0, (nxt 1 c)) T) -∗ Owe c 27 -∗ hasA X c 0 1 -∗ ∀ w0, Q ⟨w0, (up4 (redB X (nxt ((1 : Fin 3).val + 1) c) 0))⟩) -∗ runs c (at14 (k0_part46 (F := F)) c v2 v1484 (k0_pay85 (up4 (redB X (nxt ((0 : Fin 3).val + 1) c) 0)))) Q) := by
  rw [k0_part46_eq_skeleton]; unfold k0_part46_skel
  simp only [at14, semSignalWord, semWaitWord, Prog.lift, Prog.bind_op, Prog.bind_ret, Prog.pure_eq_ret, wp_deviceId]
  iintro #HC Hout HwA01 HO Hk
  iapply (load_O X c _) $$ Hout; iintro Hout %_v
  iapply (store_O X c _ 0 (nxt 1 c) (outo 0 0 c) (gat X c 0 0)) $$ Hout; iintro Hout
  iapply (recvA X κ c 0 1 (rfl : (![0, 1] : Fin 2 → ℕ) = _) (rfl : 27 = _)) $$ HC HwA01 HO; iintro HO HgA01
  iapply (readA X c 0 1 (rfl : (![0, 1, 0, 0] : Fin 4 → ℕ) = _)) $$ HgA01; iintro HgA01
  iapply runs_ret; iapply Hk $$ Hout HO HgA01

theorem run47 {v2 : BitVec 32} {v1513 : BitVec 32} {T : Finset (Fin 4 × Fin 4)} {Q} :
    Ctx X κ c ⊢ iprop(outs X c T -∗ toA c 0 2 -∗ Owe c 27 -∗ (outs X c (insert (0, (nxt 2 c)) T) -∗ Owe c 27 -∗ hasA X c 0 2 -∗ ∀ w0, Q w0) -∗ runs c (at14 (k0_part47 (F := F)) c v2 v1513 (up4 (redB X (nxt ((1 : Fin 3).val + 1) c) 0))) Q) := by
  rw [k0_part47_eq_skeleton]; unfold k0_part47_skel
  simp only [at14, semSignalWord, semWaitWord, Prog.lift, Prog.bind_op, Prog.bind_ret, Prog.pure_eq_ret, wp_deviceId]
  iintro #HC Hout HwA02 HO Hk
  iapply (load_O X c _) $$ Hout; iintro Hout %_v
  iapply (store_O X c _ 0 (nxt 2 c) (outo 0 1 c) (gat X c 0 1)) $$ Hout; iintro Hout
  iapply (recvA X κ c 0 2 (rfl : (![0, 2] : Fin 2 → ℕ) = _) (rfl : 27 = _)) $$ HC HwA02 HO; iintro HO HgA02
  iapply runs_ret; iapply Hk $$ Hout HO HgA02

theorem run48 {v2 : BitVec 32} {v1542 : BitVec 32} {T : Finset (Fin 4 × Fin 4)} {Q} :
    Ctx X κ c ⊢ iprop(hasA X c 0 2 -∗ outs X c T -∗ toA c 1 0 -∗ Owe c 27 -∗ (hasA X c 0 2 -∗ outs X c (insert (0, (nxt 3 c)) T) -∗ Owe c 27 -∗ hasA X c 1 0 -∗ ∀ w0, Q w0) -∗ runs c (at14 (k0_part48 (F := F)) c v2 v1542) Q) := by
  rw [k0_part48_eq_skeleton]; unfold k0_part48_skel
  simp only [at14, semSignalWord, semWaitWord, Prog.lift, Prog.bind_op, Prog.bind_ret, Prog.pure_eq_ret, wp_deviceId]
  iintro #HC HgA02 Hout HwA10 HO Hk
  iapply (readA X c 0 2 (rfl : (![0, 2, 0, 0] : Fin 4 → ℕ) = _)) $$ HgA02; iintro HgA02
  iapply (load_O X c _) $$ Hout; iintro Hout %_v
  iapply (store_O X c _ 0 (nxt 3 c) (outo 0 2 c) (gat X c 0 2)) $$ Hout; iintro Hout
  iapply (recvA X κ c 1 0 (rfl : (![1, 0] : Fin 2 → ℕ) = _) (rfl : 27 = _)) $$ HC HwA10 HO; iintro HO HgA10
  iapply runs_ret; iapply Hk $$ HgA02 Hout HO HgA10

theorem run49 {v2 : BitVec 32} {v1571 : BitVec 32} {T : Finset (Fin 4 × Fin 4)} {Q} :
    Ctx X κ c ⊢ iprop(hasA X c 1 0 -∗ outs X c T -∗ toA c 1 1 -∗ Owe c 27 -∗ (hasA X c 1 0 -∗ outs X c (insert (1, (nxt 1 c)) T) -∗ Owe c 27 -∗ hasA X c 1 1 -∗ ∀ w0, Q w0) -∗ runs c (at14 (k0_part49 (F := F)) c v2 v1571) Q) := by
  rw [k0_part49_eq_skeleton]; unfold k0_part49_skel
  simp only [at14, semSignalWord, semWaitWord, Prog.lift, Prog.bind_op, Prog.bind_ret, Prog.pure_eq_ret, wp_deviceId]
  iintro #HC HgA10 Hout HwA11 HO Hk
  iapply (readA X c 1 0 (rfl : (![1, 0, 0, 0] : Fin 4 → ℕ) = _)) $$ HgA10; iintro HgA10
  iapply (load_O X c _) $$ Hout; iintro Hout %_v
  iapply (store_O X c _ 1 (nxt 1 c) (outo 1 0 c) (gat X c 1 0)) $$ Hout; iintro Hout
  iapply (recvA X κ c 1 1 (rfl : (![1, 1] : Fin 2 → ℕ) = _) (rfl : 27 = _)) $$ HC HwA11 HO; iintro HO HgA11
  iapply runs_ret; iapply Hk $$ HgA10 Hout HO HgA11

theorem run50 {v2 : BitVec 32} {v1600 : BitVec 32} {T : Finset (Fin 4 × Fin 4)} {Q} :
    Ctx X κ c ⊢ iprop(hasA X c 1 1 -∗ outs X c T -∗ toA c 1 2 -∗ Owe c 27 -∗ (hasA X c 1 1 -∗ outs X c (insert (1, (nxt 2 c)) T) -∗ Owe c 27 -∗ hasA X c 1 2 -∗ ∀ w0, Q w0) -∗ runs c (at14 (k0_part50 (F := F)) c v2 v1600) Q) := by
  rw [k0_part50_eq_skeleton]; unfold k0_part50_skel
  simp only [at14, semSignalWord, semWaitWord, Prog.lift, Prog.bind_op, Prog.bind_ret, Prog.pure_eq_ret, wp_deviceId]
  iintro #HC HgA11 Hout HwA12 HO Hk
  iapply (readA X c 1 1 (rfl : (![1, 1, 0, 0] : Fin 4 → ℕ) = _)) $$ HgA11; iintro HgA11
  iapply (load_O X c _) $$ Hout; iintro Hout %_v
  iapply (store_O X c _ 1 (nxt 2 c) (outo 1 1 c) (gat X c 1 1)) $$ Hout; iintro Hout
  iapply (recvA X κ c 1 2 (rfl : (![1, 2] : Fin 2 → ℕ) = _) (rfl : 27 = _)) $$ HC HwA12 HO; iintro HO HgA12
  iapply runs_ret; iapply Hk $$ HgA11 Hout HO HgA12

theorem run51 {v2 : BitVec 32} {v1629 : BitVec 32} {T : Finset (Fin 4 × Fin 4)} {Q} :
    Ctx X κ c ⊢ iprop(hasA X c 1 2 -∗ outs X c T -∗ toA c 2 0 -∗ Owe c 27 -∗ (hasA X c 1 2 -∗ outs X c (insert (1, (nxt 3 c)) T) -∗ Owe c 27 -∗ hasA X c 2 0 -∗ ∀ w0, Q w0) -∗ runs c (at14 (k0_part51 (F := F)) c v2 v1629) Q) := by
  rw [k0_part51_eq_skeleton]; unfold k0_part51_skel
  simp only [at14, semSignalWord, semWaitWord, Prog.lift, Prog.bind_op, Prog.bind_ret, Prog.pure_eq_ret, wp_deviceId]
  iintro #HC HgA12 Hout HwA20 HO Hk
  iapply (readA X c 1 2 (rfl : (![1, 2, 0, 0] : Fin 4 → ℕ) = _)) $$ HgA12; iintro HgA12
  iapply (load_O X c _) $$ Hout; iintro Hout %_v
  iapply (store_O X c _ 1 (nxt 3 c) (outo 1 2 c) (gat X c 1 2)) $$ Hout; iintro Hout
  iapply (recvA X κ c 2 0 (rfl : (![2, 0] : Fin 2 → ℕ) = _) (rfl : 27 = _)) $$ HC HwA20 HO; iintro HO HgA20
  iapply runs_ret; iapply Hk $$ HgA12 Hout HO HgA20

theorem run52 {v2 : BitVec 32} {v1658 : BitVec 32} {T : Finset (Fin 4 × Fin 4)} {Q} :
    Ctx X κ c ⊢ iprop(hasA X c 2 0 -∗ outs X c T -∗ toA c 2 1 -∗ Owe c 27 -∗ (hasA X c 2 0 -∗ outs X c (insert (2, (nxt 1 c)) T) -∗ Owe c 27 -∗ hasA X c 2 1 -∗ ∀ w0, Q ⟨w0, 512#32⟩) -∗ runs c (at14 (k0_part52 (F := F)) c v2 v1658) Q) := by
  rw [k0_part52_eq_skeleton]; unfold k0_part52_skel
  simp only [at14, semSignalWord, semWaitWord, Prog.lift, Prog.bind_op, Prog.bind_ret, Prog.pure_eq_ret, wp_deviceId]
  iintro #HC HgA20 Hout HwA21 HO Hk
  iapply (readA X c 2 0 (rfl : (![2, 0, 0, 0] : Fin 4 → ℕ) = _)) $$ HgA20; iintro HgA20
  iapply (load_O X c _) $$ Hout; iintro Hout %_v
  iapply (store_O X c _ 2 (nxt 1 c) (outo 2 0 c) (gat X c 2 0)) $$ Hout; iintro Hout
  iapply (recvA X κ c 2 1 (rfl : (![2, 1] : Fin 2 → ℕ) = _) (rfl : 27 = _)) $$ HC HwA21 HO; iintro HO HgA21
  iapply runs_ret; iapply Hk $$ HgA20 Hout HO HgA21

theorem run53 {v2 : BitVec 32} {v1686 : BitVec 32} {c512_i32_1342 : BitVec 32} {T : Finset (Fin 4 × Fin 4)} {Q} :
    Ctx X κ c ⊢ iprop(hasA X c 2 1 -∗ outs X c T -∗ toA c 2 2 -∗ Owe c 27 -∗ (hasA X c 2 1 -∗ outs X c (insert (2, (nxt 2 c)) T) -∗ Owe c 27 -∗ hasA X c 2 2 -∗ ∀ w0, Q w0) -∗ runs c (at14 (k0_part53 (F := F)) c v2 v1686 c512_i32_1342) Q) := by
  rw [k0_part53_eq_skeleton]; unfold k0_part53_skel
  simp only [at14, semSignalWord, semWaitWord, Prog.lift, Prog.bind_op, Prog.bind_ret, Prog.pure_eq_ret, wp_deviceId]
  iintro #HC HgA21 Hout HwA22 HO Hk
  iapply (readA X c 2 1 (rfl : (![2, 1, 0, 0] : Fin 4 → ℕ) = _)) $$ HgA21; iintro HgA21
  iapply (load_O X c _) $$ Hout; iintro Hout %_v
  iapply (store_O X c _ 2 (nxt 2 c) (outo 2 1 c) (gat X c 2 1)) $$ Hout; iintro Hout
  iapply (recvA X κ c 2 2 (rfl : (![2, 2] : Fin 2 → ℕ) = _) (rfl : 27 = _)) $$ HC HwA22 HO; iintro HO HgA22
  iapply runs_ret; iapply Hk $$ HgA21 Hout HO HgA22

theorem run54 {v2 : BitVec 32} {v1715 : BitVec 32} {T : Finset (Fin 4 × Fin 4)} {Q} :
    Ctx X κ c ⊢ iprop(hasA X c 2 2 -∗ outs X c T -∗ toA c 3 0 -∗ Owe c 27 -∗ (hasA X c 2 2 -∗ outs X c (insert (2, (nxt 3 c)) T) -∗ Owe c 27 -∗ hasA X c 3 0 -∗ ∀ w0, Q ⟨w0, 64#32⟩) -∗ runs c (at14 (k0_part54 (F := F)) c v2 v1715) Q) := by
  rw [k0_part54_eq_skeleton]; unfold k0_part54_skel
  simp only [at14, semSignalWord, semWaitWord, Prog.lift, Prog.bind_op, Prog.bind_ret, Prog.pure_eq_ret, wp_deviceId]
  iintro #HC HgA22 Hout HwA30 HO Hk
  iapply (readA X c 2 2 (rfl : (![2, 2, 0, 0] : Fin 4 → ℕ) = _)) $$ HgA22; iintro HgA22
  iapply (load_O X c _) $$ Hout; iintro Hout %_v
  iapply (store_O X c _ 2 (nxt 3 c) (outo 2 2 c) (gat X c 2 2)) $$ Hout; iintro Hout
  iapply (recvA X κ c 3 0 (rfl : (![3, 0] : Fin 2 → ℕ) = _) (rfl : 27 = _)) $$ HC HwA30 HO; iintro HO HgA30
  iapply runs_ret; iapply Hk $$ HgA22 Hout HO HgA30

theorem run55 {v2 : BitVec 32} {v1743 : BitVec 32} {c64_i32_1401 : BitVec 32} {T : Finset (Fin 4 × Fin 4)} {Q} :
    Ctx X κ c ⊢ iprop(hasA X c 3 0 -∗ outs X c T -∗ toA c 3 1 -∗ Owe c 27 -∗ (hasA X c 3 0 -∗ outs X c (insert (3, (nxt 1 c)) T) -∗ Owe c 27 -∗ hasA X c 3 1 -∗ ∀ w0, Q w0) -∗ runs c (at14 (k0_part55 (F := F)) c v2 v1743 c64_i32_1401) Q) := by
  rw [k0_part55_eq_skeleton]; unfold k0_part55_skel
  simp only [at14, semSignalWord, semWaitWord, Prog.lift, Prog.bind_op, Prog.bind_ret, Prog.pure_eq_ret, wp_deviceId]
  iintro #HC HgA30 Hout HwA31 HO Hk
  iapply (readA X c 3 0 (rfl : (![3, 0, 0, 0] : Fin 4 → ℕ) = _)) $$ HgA30; iintro HgA30
  iapply (load_O X c _) $$ Hout; iintro Hout %_v
  iapply (store_O X c _ 3 (nxt 1 c) (outo 3 0 c) (gat X c 3 0)) $$ Hout; iintro Hout
  iapply (recvA X κ c 3 1 (rfl : (![3, 1] : Fin 2 → ℕ) = _) (rfl : 27 = _)) $$ HC HwA31 HO; iintro HO HgA31
  iapply runs_ret; iapply Hk $$ HgA30 Hout HO HgA31

theorem run56 {v2 : BitVec 32} {v1772 : BitVec 32} {T : Finset (Fin 4 × Fin 4)} {Q} :
    Ctx X κ c ⊢ iprop(hasA X c 3 1 -∗ outs X c T -∗ toA c 3 2 -∗ Owe c 27 -∗ (hasA X c 3 1 -∗ outs X c (insert (3, (nxt 2 c)) T) -∗ Owe c 27 -∗ hasA X c 3 2 -∗ ∀ w0 w1 w2, Q ⟨w0, w1, w2⟩) -∗ runs c (at14 (k0_part56 (F := F)) c v2 v1772) Q) := by
  rw [k0_part56_eq_skeleton]; unfold k0_part56_skel
  simp only [at14, semSignalWord, semWaitWord, Prog.lift, Prog.bind_op, Prog.bind_ret, Prog.pure_eq_ret, wp_deviceId]
  iintro #HC HgA31 Hout HwA32 HO Hk
  iapply (readA X c 3 1 (rfl : (![3, 1, 0, 0] : Fin 4 → ℕ) = _)) $$ HgA31; iintro HgA31
  iapply (load_O X c _) $$ Hout; iintro Hout %_v
  iapply (store_O X c _ 3 (nxt 2 c) (outo 3 1 c) (gat X c 3 1)) $$ Hout; iintro Hout
  iapply (recvA X κ c 3 2 (rfl : (![3, 2] : Fin 2 → ℕ) = _) (rfl : 27 = _)) $$ HC HwA32 HO; iintro HO HgA32
  iapply runs_ret; iapply Hk $$ HgA31 Hout HO HgA32

theorem run57 {v1794 : BitVec 32} {v1799 : BitVec 1} {v1800 : BitVec 32} {T : Finset (Fin 4 × Fin 4)} {Q} :
    Ctx X κ c ⊢ iprop(hasA X c 3 2 -∗ outs X c T -∗ pendR c 0 0 -∗ Owe c 27 -∗ pendA c 0 0 -∗ (hasA X c 3 2 -∗ outs X c (insert (3, (nxt 3 c)) T) -∗ Owe c 27 -∗ doneR X c 0 0 -∗ doneA X c 0 0 -∗ Q ⟨⟩) -∗ runs c (at14 (k0_part57 (F := F)) c v1794 v1799 v1800) Q) := by
  rw [k0_part57_eq_skeleton]; unfold k0_part57_skel
  simp only [at14, semSignalWord, semWaitWord, Prog.lift, Prog.bind_op, Prog.bind_ret, Prog.pure_eq_ret, wp_deviceId]
  iintro #HC HgA32 Hout HqR00 HO HqA00 Hk
  iapply (readA X c 3 2 (rfl : (![3, 2, 0, 0] : Fin 4 → ℕ) = _)) $$ HgA32; iintro HgA32
  iapply (load_O X c _) $$ Hout; iintro Hout %_v
  iapply (store_O X c _ 3 (nxt 3 c) (outo 3 2 c) (gat X c 3 2)) $$ Hout; iintro Hout
  iapply (backR X κ c 0 0 (rfl : (![0, 0] : Fin 2 → ℕ) = _)) $$ HC HqR00 HO; iintro HO HzR00
  iapply (backA X κ c 0 0 (rfl : (![0, 0] : Fin 2 → ℕ) = _)) $$ HC HqA00 HO; iintro HO HzA00
  iapply runs_ret; iapply Hk $$ HgA32 Hout HO HzR00 HzA00

theorem run58 {Q} :
    Ctx X κ c ⊢ iprop(pendR c 0 1 -∗ Owe c 27 -∗ pendA c 0 1 -∗ pendR c 0 2 -∗ (Owe c 27 -∗ doneR X c 0 1 -∗ doneA X c 0 1 -∗ doneR X c 0 2 -∗ Q ⟨⟩) -∗ runs c (at14 (k0_part58 (F := F))) Q) := by
  rw [k0_part58_eq_skeleton]; unfold k0_part58_skel
  simp only [at14, semSignalWord, semWaitWord, Prog.lift, Prog.bind_op, Prog.bind_ret, Prog.pure_eq_ret, wp_deviceId]
  iintro #HC HqR01 HO HqA01 HqR02 Hk
  iapply (backR X κ c 0 1 (rfl : (![0, 1] : Fin 2 → ℕ) = _)) $$ HC HqR01 HO; iintro HO HzR01
  iapply (backA X κ c 0 1 (rfl : (![0, 1] : Fin 2 → ℕ) = _)) $$ HC HqA01 HO; iintro HO HzA01
  iapply (backR X κ c 0 2 (rfl : (![0, 2] : Fin 2 → ℕ) = _)) $$ HC HqR02 HO; iintro HO HzR02
  iapply runs_ret; iapply Hk $$ HO HzR01 HzA01 HzR02

theorem run59 {Q} :
    Ctx X κ c ⊢ iprop(pendA c 0 2 -∗ Owe c 27 -∗ pendR c 1 0 -∗ pendA c 1 0 -∗ (Owe c 27 -∗ doneA X c 0 2 -∗ doneR X c 1 0 -∗ doneA X c 1 0 -∗ Q ⟨⟩) -∗ runs c (at14 (k0_part59 (F := F))) Q) := by
  rw [k0_part59_eq_skeleton]; unfold k0_part59_skel
  simp only [at14, semSignalWord, semWaitWord, Prog.lift, Prog.bind_op, Prog.bind_ret, Prog.pure_eq_ret, wp_deviceId]
  iintro #HC HqA02 HO HqR10 HqA10 Hk
  iapply (backA X κ c 0 2 (rfl : (![0, 2] : Fin 2 → ℕ) = _)) $$ HC HqA02 HO; iintro HO HzA02
  iapply (backR X κ c 1 0 (rfl : (![1, 0] : Fin 2 → ℕ) = _)) $$ HC HqR10 HO; iintro HO HzR10
  iapply (backA X κ c 1 0 (rfl : (![1, 0] : Fin 2 → ℕ) = _)) $$ HC HqA10 HO; iintro HO HzA10
  iapply runs_ret; iapply Hk $$ HO HzA02 HzR10 HzA10

theorem run60 {Q} :
    Ctx X κ c ⊢ iprop(pendR c 1 1 -∗ Owe c 27 -∗ pendA c 1 1 -∗ pendR c 1 2 -∗ (Owe c 27 -∗ doneR X c 1 1 -∗ doneA X c 1 1 -∗ doneR X c 1 2 -∗ Q ⟨⟩) -∗ runs c (at14 (k0_part60 (F := F))) Q) := by
  rw [k0_part60_eq_skeleton]; unfold k0_part60_skel
  simp only [at14, semSignalWord, semWaitWord, Prog.lift, Prog.bind_op, Prog.bind_ret, Prog.pure_eq_ret, wp_deviceId]
  iintro #HC HqR11 HO HqA11 HqR12 Hk
  iapply (backR X κ c 1 1 (rfl : (![1, 1] : Fin 2 → ℕ) = _)) $$ HC HqR11 HO; iintro HO HzR11
  iapply (backA X κ c 1 1 (rfl : (![1, 1] : Fin 2 → ℕ) = _)) $$ HC HqA11 HO; iintro HO HzA11
  iapply (backR X κ c 1 2 (rfl : (![1, 2] : Fin 2 → ℕ) = _)) $$ HC HqR12 HO; iintro HO HzR12
  iapply runs_ret; iapply Hk $$ HO HzR11 HzA11 HzR12

theorem run61 {Q} :
    Ctx X κ c ⊢ iprop(pendA c 1 2 -∗ Owe c 27 -∗ pendR c 2 0 -∗ pendA c 2 0 -∗ (Owe c 27 -∗ doneA X c 1 2 -∗ doneR X c 2 0 -∗ doneA X c 2 0 -∗ Q ⟨⟩) -∗ runs c (at14 (k0_part61 (F := F))) Q) := by
  rw [k0_part61_eq_skeleton]; unfold k0_part61_skel
  simp only [at14, semSignalWord, semWaitWord, Prog.lift, Prog.bind_op, Prog.bind_ret, Prog.pure_eq_ret, wp_deviceId]
  iintro #HC HqA12 HO HqR20 HqA20 Hk
  iapply (backA X κ c 1 2 (rfl : (![1, 2] : Fin 2 → ℕ) = _)) $$ HC HqA12 HO; iintro HO HzA12
  iapply (backR X κ c 2 0 (rfl : (![2, 0] : Fin 2 → ℕ) = _)) $$ HC HqR20 HO; iintro HO HzR20
  iapply (backA X κ c 2 0 (rfl : (![2, 0] : Fin 2 → ℕ) = _)) $$ HC HqA20 HO; iintro HO HzA20
  iapply runs_ret; iapply Hk $$ HO HzA12 HzR20 HzA20

theorem run62 {Q} :
    Ctx X κ c ⊢ iprop(pendR c 2 1 -∗ Owe c 27 -∗ pendA c 2 1 -∗ pendR c 2 2 -∗ (Owe c 27 -∗ doneR X c 2 1 -∗ doneA X c 2 1 -∗ doneR X c 2 2 -∗ Q ⟨⟩) -∗ runs c (at14 (k0_part62 (F := F))) Q) := by
  rw [k0_part62_eq_skeleton]; unfold k0_part62_skel
  simp only [at14, semSignalWord, semWaitWord, Prog.lift, Prog.bind_op, Prog.bind_ret, Prog.pure_eq_ret, wp_deviceId]
  iintro #HC HqR21 HO HqA21 HqR22 Hk
  iapply (backR X κ c 2 1 (rfl : (![2, 1] : Fin 2 → ℕ) = _)) $$ HC HqR21 HO; iintro HO HzR21
  iapply (backA X κ c 2 1 (rfl : (![2, 1] : Fin 2 → ℕ) = _)) $$ HC HqA21 HO; iintro HO HzA21
  iapply (backR X κ c 2 2 (rfl : (![2, 2] : Fin 2 → ℕ) = _)) $$ HC HqR22 HO; iintro HO HzR22
  iapply runs_ret; iapply Hk $$ HO HzR21 HzA21 HzR22

theorem run63 {Q} :
    Ctx X κ c ⊢ iprop(pendA c 2 2 -∗ Owe c 27 -∗ pendR c 3 0 -∗ pendA c 3 0 -∗ (Owe c 27 -∗ doneA X c 2 2 -∗ doneR X c 3 0 -∗ doneA X c 3 0 -∗ Q ⟨⟩) -∗ runs c (at14 (k0_part63 (F := F))) Q) := by
  rw [k0_part63_eq_skeleton]; unfold k0_part63_skel
  simp only [at14, semSignalWord, semWaitWord, Prog.lift, Prog.bind_op, Prog.bind_ret, Prog.pure_eq_ret, wp_deviceId]
  iintro #HC HqA22 HO HqR30 HqA30 Hk
  iapply (backA X κ c 2 2 (rfl : (![2, 2] : Fin 2 → ℕ) = _)) $$ HC HqA22 HO; iintro HO HzA22
  iapply (backR X κ c 3 0 (rfl : (![3, 0] : Fin 2 → ℕ) = _)) $$ HC HqR30 HO; iintro HO HzR30
  iapply (backA X κ c 3 0 (rfl : (![3, 0] : Fin 2 → ℕ) = _)) $$ HC HqA30 HO; iintro HO HzA30
  iapply runs_ret; iapply Hk $$ HO HzA22 HzR30 HzA30

theorem run64 {Q} :
    Ctx X κ c ⊢ iprop(pendR c 3 1 -∗ Owe c 27 -∗ pendA c 3 1 -∗ pendR c 3 2 -∗ (Owe c 27 -∗ doneR X c 3 1 -∗ doneA X c 3 1 -∗ doneR X c 3 2 -∗ Q ⟨⟩) -∗ runs c (at14 (k0_part64 (F := F))) Q) := by
  rw [k0_part64_eq_skeleton]; unfold k0_part64_skel
  simp only [at14, semSignalWord, semWaitWord, Prog.lift, Prog.bind_op, Prog.bind_ret, Prog.pure_eq_ret, wp_deviceId]
  iintro #HC HqR31 HO HqA31 HqR32 Hk
  iapply (backR X κ c 3 1 (rfl : (![3, 1] : Fin 2 → ℕ) = _)) $$ HC HqR31 HO; iintro HO HzR31
  iapply (backA X κ c 3 1 (rfl : (![3, 1] : Fin 2 → ℕ) = _)) $$ HC HqA31 HO; iintro HO HzA31
  iapply (backR X κ c 3 2 (rfl : (![3, 2] : Fin 2 → ℕ) = _)) $$ HC HqR32 HO; iintro HO HzR32
  iapply runs_ret; iapply Hk $$ HO HzR31 HzA31 HzR32

end Cert.KernelIdeal.Own

end
-- ==== Proof.Body.lean ====
/- The kernel's run on one device, from its start to its end. -/
module

public import proofs.«01_k».proof.Proof.Ends
public import proofs.«01_k».proof.Proof.PartsA
public import proofs.«01_k».proof.Proof.PartsB
public import proofs.«01_k».proof.Proof.PartsC

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F)

set_option maxHeartbeats 0 in
set_option maxRecDepth 100000 in
/-- The kernel's run on device `c`: it leaves the inputs, and in the result the sums of the four devices' partial products. -/
theorem body_run (κ : GSem nD τ sig → ℕ) (c : Dev nD) (Q : PUnit → sProp 𝕄) :
    Ctx X κ c ⊢ iprop(insAt c (X c) -∗ outs X c ∅ -∗ starts c -∗ (insAt c (X c) -∗ outs X c Finset.univ -∗ leaves c -∗ Q ⟨⟩) -∗
      runs c (at14 (cc0__body (F := F))) Q) := by
  rw [cc0__body_eq_skeleton]
  unfold cc0__body_skel
  rw [k0_part65_eq_skeleton]
  unfold k0_part65_skel
  unfold starts scratch
  iintro #HC Hin Hout ⟨⟨⟨%fP, HP⟩, HR, ⟨%fD, HD⟩, HA⟩, HO, ⟨Ht0, Ht1, Ht2⟩, ⟨HcB, HaB⟩, HtR, HtA, HwR, HwA, HqR, HqA⟩ Hend
  ihave #HR0 : Rch c $$ []
  · unfold Ctx; icases HC with ⟨-, #H, -⟩; iexact H
  icases (deal c) $$ [HR HA] with ⟨Hh0, Hh1, Hh2⟩
  · isplitr; · iexact HR0
    isplitl [HR]; · iexact HR
    iexact HA
  icases (Entails.of_eq (whole_P c fP)) $$ HP with ⟨HP0, HP1, HP2, HP3⟩
  icases (Entails.of_eq (whole_D c fD)) $$ HD with ⟨HD0, HD1, HD2, HD3⟩
  icases HwR with ⟨⟨HwR00, HwR01, HwR02⟩, ⟨HwR10, HwR11, HwR12⟩, ⟨HwR20, HwR21, HwR22⟩, ⟨HwR30, HwR31, HwR32⟩⟩
  icases HwA with ⟨⟨HwA00, HwA01, HwA02⟩, ⟨HwA10, HwA11, HwA12⟩, ⟨HwA20, HwA21, HwA22⟩, ⟨HwA30, HwA31, HwA32⟩⟩
  iapply runs_bind
  iapply runs_bind
  iapply (run1 X κ c) $$ HC HO Hh0 Ht0 Hh1 Ht1; iintro HO %_w %_w %_w
  try dsimp only
  iapply runs_bind
  iapply (run2 X κ c) $$ HC HO Hh2 Ht2 HcB HaB Hin; iintro HO HaB Hg Hin
  icases (armAll c) $$ Hg HtR HtA HqR HqA with ⟨⟨⟨HsR00, HsR01, HsR02⟩, ⟨HsR10, HsR11, HsR12⟩, ⟨HsR20, HsR21, HsR22⟩, ⟨HsR30, HsR31, HsR32⟩⟩,
    ⟨⟨HsA00, HsA01, HsA02⟩, ⟨HsA10, HsA11, HsA12⟩, ⟨HsA20, HsA21, HsA22⟩, ⟨HsA30, HsA31, HsA32⟩⟩⟩
  try dsimp only
  iapply runs_bind
  iapply (run3 X κ c) $$ HC Hin; iintro Hin
  try dsimp only
  iapply runs_bind
  iapply (run4 X κ c) $$ HC Hin; iintro Hin
  try dsimp only
  iapply runs_bind
  iapply (run5 X κ c) $$ HC Hin; iintro Hin
  try dsimp only
  iapply runs_bind
  iapply (run6 X κ c) $$ HC Hin; iintro Hin
  try dsimp only
  iapply runs_bind
  iapply (run7 X κ c rfl) $$ HC Hin [HP0]
  · first | iexact HP0 | (iexists _; iexact HP0)
  iintro Hin Hr0 Hp00 Hp01 Hp02 %_w %_w %_w
  try dsimp only
  iapply runs_bind
  iapply (run8 X κ c) $$ HC Hp00 HsR00 HO; iintro HO HqR00 %_w
  try dsimp only
  iapply runs_bind
  iapply (run9 X κ c) $$ HC Hp01 HsR01 HO Hp02 HsR02; iintro HO HqR01 HqR02
  try dsimp only
  iapply runs_bind
  iapply (run10 X κ c) $$ HC Hin; iintro Hin
  try dsimp only
  iapply runs_bind
  iapply (run11 X κ c) $$ HC Hin; iintro Hin
  try dsimp only
  iapply runs_bind
  iapply (run12 X κ c) $$ HC Hin; iintro Hin
  try dsimp only
  iapply runs_bind
  iapply (run13 X κ c) $$ HC Hin; iintro Hin
  try dsimp only
  iapply runs_bind
  iapply (run14 X κ c rfl) $$ HC [HP1] HsR10 HO
  · first | iexact HP1 | (iexists _; iexact HP1)
  iintro Hr1 Hp11 Hp12 HO HqR10 %_w %_w %_w %_w
  try dsimp only
  iapply runs_bind
  iapply (run15 X κ c) $$ HC Hp11 HsR11 HO; iintro HO HqR11 %_w
  try dsimp only
  iapply runs_bind
  iapply (run16 X κ c) $$ HC Hp12 HsR12 HO Hr0 HwR00; iintro HO HqR12 Hr0 HgR00
  try dsimp only
  iapply runs_bind
  iapply (run17 X κ c) $$ HC HwR01 HO HwR02; iintro HO HgR01 HgR02
  try dsimp only
  iapply runs_bind
  iapply (run18 X κ c ((sumA _ _ _ _).trans (sum4_redF X c 0))) $$ HC Hout [HD0] HsA00 HO
  · first | iexact HD0 | (iexists _; iexact HD0)
  iintro Hout Hd01 Hd02 HO HqA00 %_w %_w
  try dsimp only
  iapply runs_bind
  iapply (run19 X κ c) $$ HC Hd01 HsA01 HO; iintro HO HqA01 %_w
  try dsimp only
  iapply runs_bind
  iapply (run20 X κ c) $$ HC Hd02 HsA02 HO Hin; iintro HO HqA02 Hin
  try dsimp only
  iapply runs_bind
  iapply (run21 X κ c) $$ HC Hin; iintro Hin
  try dsimp only
  iapply runs_bind
  iapply (run22 X κ c) $$ HC Hin; iintro Hin
  try dsimp only
  iapply runs_bind
  iapply (run23 X κ c) $$ HC Hin; iintro Hin
  try dsimp only
  iapply runs_bind
  iapply (run24 X κ c rfl) $$ HC Hin [HP2]
  · first | iexact HP2 | (iexists _; iexact HP2)
  iintro Hin Hr2 Hp20 Hp21 Hp22
  try dsimp only
  iapply runs_bind
  iapply (run25 X κ c) $$ HC Hp20 HsR20 HO Hp21 HsR21; iintro HO HqR20 HqR21 %_w %_w
  try dsimp only
  iapply runs_bind
  iapply (run26 X κ c) $$ HC Hp22 HsR22 HO Hr1; iintro HO HqR22 Hr1
  try dsimp only
  iapply runs_bind
  iapply (run27 X κ c) $$ HC HwR10 HO HwR11; iintro HO HgR10 HgR11
  try dsimp only
  iapply runs_bind
  iapply (run28 X κ c ((sumB _ _ _ _).trans (sum4_redF X c 1))) $$ HC HwR12 HO Hout [HD1]
  · first | iexact HD1 | (iexists _; iexact HD1)
  iintro HO HgR12 Hout Hd10 Hd11 Hd12 %_w
  try dsimp only
  iapply runs_bind
  iapply (run29 X κ c) $$ HC Hd10 HsA10 HO Hd11 HsA11; iintro HO HqA10 HqA11 %_w
  try dsimp only
  iapply runs_bind
  iapply (run30 X κ c) $$ HC Hd12 HsA12 HO Hin; iintro HO HqA12 Hin
  try dsimp only
  iapply runs_bind
  iapply (run31 X κ c) $$ HC Hin; iintro Hin
  try dsimp only
  iapply runs_bind
  iapply (run32 X κ c) $$ HC Hin; iintro Hin
  try dsimp only
  iapply runs_bind
  iapply (run33 X κ c) $$ HC Hin; iintro Hin
  try dsimp only
  iapply runs_bind
  iapply (run34 X κ c rfl) $$ HC Hin [HP3]
  · first | iexact HP3 | (iexists _; iexact HP3)
  iintro Hin Hr3 Hp30 Hp31 Hp32 %_w %_w %_w %_w %_w
  try dsimp only
  iapply runs_bind
  iapply (run35 X κ c) $$ HC Hp30 HsR30 HO; iintro HO HqR30
  try dsimp only
  iapply runs_bind
  iapply (run36 X κ c) $$ HC Hp31 HsR31 HO Hp32 HsR32; iintro HO HqR31 HqR32
  try dsimp only
  iapply runs_bind
  iapply (run37 X κ c) $$ HC Hr2 HwR20 HO HwR21; iintro Hr2 HO HgR20 HgR21
  try dsimp only
  iapply runs_bind
  iapply (run38 X κ c ((sumC _ _ _ _).trans (sum4_redF X c 2))) $$ HC HgR21 HwR22 HO Hout [HD2]
  · first | iexact HD2 | (iexists _; iexact HD2)
  iintro HgR21 HO HgR22 Hout Hd20 Hd21 Hd22 %_w %_w
  try dsimp only
  iapply runs_bind
  iapply (run39 X κ c) $$ HC Hd20 HsA20 HO; iintro HO HqA20 %_w
  try dsimp only
  iapply runs_bind
  iapply (run40 X κ c) $$ HC Hd21 HsA21 HO; iintro HO HqA21
  try dsimp only
  iapply runs_bind
  iapply (run41 X κ c) $$ HC Hd22 HsA22 HO Hr3 HwR30; iintro HO HqA22 Hr3 HgR30
  try dsimp only
  iapply runs_bind
  iapply (run42 X κ c ((sumD _ _ _ _).trans (sum4_redF X c 3))) $$ HC HwR31 HO HwR32 Hout [HD3]
  · first | iexact HD3 | (iexists _; iexact HD3)
  iintro HO HgR31 HgR32 Hout HD3
  try dsimp only
  iapply runs_bind
  iapply (run43 X κ c (toRed _ ((sumD _ _ _ _).trans (sum4_redF X c 3)))) $$ HC [HD3] HsA30 HO
  · first | iexact HD3 | (iexists _; iexact HD3)
  iintro Hd31 Hd32 HO HqA30 %_w %_w %_w
  try dsimp only
  iapply runs_bind
  iapply (run44 X κ c) $$ HC Hd31 HsA31 HO; iintro HO HqA31
  try dsimp only
  iapply runs_bind
  iapply (run45 X κ c) $$ HC Hd32 HsA32 HO HwA00; iintro HO HqA32 HgA00 %_w
  try dsimp only
  iapply runs_bind
  iapply (run46 X κ c) $$ HC Hout HwA01 HO; iintro Hout HO HgA01 %_w
  try dsimp only
  iapply runs_bind
  iapply (run47 X κ c) $$ HC Hout HwA02 HO; iintro Hout HO HgA02 %_w
  try dsimp only
  iapply runs_bind
  iapply (run48 X κ c) $$ HC HgA02 Hout HwA10 HO; iintro HgA02 Hout HO HgA10 %_w
  try dsimp only
  iapply runs_bind
  iapply (run49 X κ c) $$ HC HgA10 Hout HwA11 HO; iintro HgA10 Hout HO HgA11 %_w
  try dsimp only
  iapply runs_bind
  iapply (run50 X κ c) $$ HC HgA11 Hout HwA12 HO; iintro HgA11 Hout HO HgA12 %_w
  try dsimp only
  iapply runs_bind
  iapply (run51 X κ c) $$ HC HgA12 Hout HwA20 HO; iintro HgA12 Hout HO HgA20 %_w
  try dsimp only
  iapply runs_bind
  iapply (run52 X κ c) $$ HC HgA20 Hout HwA21 HO; iintro HgA20 Hout HO HgA21 %_w
  try dsimp only
  iapply runs_bind
  iapply (run53 X κ c) $$ HC HgA21 Hout HwA22 HO; iintro HgA21 Hout HO HgA22 %_w
  try dsimp only
  iapply runs_bind
  iapply (run54 X κ c) $$ HC HgA22 Hout HwA30 HO; iintro HgA22 Hout HO HgA30 %_w
  try dsimp only
  iapply runs_bind
  iapply (run55 X κ c) $$ HC HgA30 Hout HwA31 HO; iintro HgA30 Hout HO HgA31 %_w
  try dsimp only
  iapply runs_bind
  iapply (run56 X κ c) $$ HC HgA31 Hout HwA32 HO; iintro HgA31 Hout HO HgA32 %_w %_w %_w
  try dsimp only
  iapply runs_bind
  iapply (run57 X κ c) $$ HC HgA32 Hout HqR00 HO HqA00; iintro HgA32 Hout HO HzR00 HzA00
  try dsimp only
  iapply runs_bind
  iapply (run58 X κ c) $$ HC HqR01 HO HqA01 HqR02; iintro HO HzR01 HzA01 HzR02
  try dsimp only
  iapply runs_bind
  iapply (run59 X κ c) $$ HC HqA02 HO HqR10 HqA10; iintro HO HzA02 HzR10 HzA10
  try dsimp only
  iapply runs_bind
  iapply (run60 X κ c) $$ HC HqR11 HO HqA11 HqR12; iintro HO HzR11 HzA11 HzR12
  try dsimp only
  iapply (runs_ret c)
  iapply runs_bind
  iapply (run61 X κ c) $$ HC HqA12 HO HqR20 HqA20; iintro HO HzA12 HzR20 HzA20
  try dsimp only
  iapply runs_bind
  iapply (run62 X κ c) $$ HC HqR21 HO HqA21 HqR22; iintro HO HzR21 HzA21 HzR22
  try dsimp only
  iapply runs_bind
  iapply (run63 X κ c) $$ HC HqA22 HO HqR30 HqA30; iintro HO HzA22 HzR30 HzA30
  try dsimp only
  iapply runs_bind
  iapply (run64 X κ c) $$ HC HqR31 HO HqA31 HqR32; iintro HO HzR31 HzA31 HzR32
  try dsimp only
  simp only [Prog.lift, Prog.bind_op, Prog.bind_ret, Prog.pure_eq_ret]
  iapply (backA X κ c 3 2 (rfl : (![3, 2] : Fin 2 → ℕ) = _)) $$ HC HqA32 HO; iintro HO HzA32
  iapply (runs_ret c)
  icases (allP X c) $$ [Hr0 Hr1 Hr2 Hr3] [HzR00 HzR01 HzR02 HzR10 HzR11 HzR12 HzR20 HzR21 HzR22 HzR30 HzR31 HzR32] with ⟨HP, HzR⟩
  · isplitl [Hr0]; · iexact Hr0
    isplitl [Hr1]; · iexact Hr1
    isplitl [Hr2]; · iexact Hr2
    iexact Hr3
  · isplitl [HzR00 HzR01 HzR02]
    · isplitl [HzR00]; · iexact HzR00
      isplitl [HzR01]; · iexact HzR01
      iexact HzR02
    isplitl [HzR10 HzR11 HzR12]
    · isplitl [HzR10]; · iexact HzR10
      isplitl [HzR11]; · iexact HzR11
      iexact HzR12
    isplitl [HzR20 HzR21 HzR22]
    · isplitl [HzR20]; · iexact HzR20
      isplitl [HzR21]; · iexact HzR21
      iexact HzR22
    isplitl [HzR30]; · iexact HzR30
    isplitl [HzR31]; · iexact HzR31
    iexact HzR32
  icases (allD X c) $$ [HzA00 HzA01 HzA02 HzA10 HzA11 HzA12 HzA20 HzA21 HzA22 HzA30 HzA31 HzA32] with ⟨HD, HzA⟩
  · isplitl [HzA00 HzA01 HzA02]
    · isplitl [HzA00]; · iexact HzA00
      isplitl [HzA01]; · iexact HzA01
      iexact HzA02
    isplitl [HzA10 HzA11 HzA12]
    · isplitl [HzA10]; · iexact HzA10
      isplitl [HzA11]; · iexact HzA11
      iexact HzA12
    isplitl [HzA20 HzA21 HzA22]
    · isplitl [HzA20]; · iexact HzA20
      isplitl [HzA21]; · iexact HzA21
      iexact HzA22
    isplitl [HzA30]; · iexact HzA30
    isplitl [HzA31]; · iexact HzA31
    iexact HzA32
  icases (allR X c) $$ [HgR00 HgR01 HgR02 HgR10 HgR11 HgR12 HgR20 HgR21 HgR22 HgR30 HgR31 HgR32] with ⟨HR, HgR⟩
  · isplitl [HgR00 HgR01 HgR02]
    · isplitl [HgR00]; · iexact HgR00
      isplitl [HgR01]; · iexact HgR01
      iexact HgR02
    isplitl [HgR10 HgR11 HgR12]
    · isplitl [HgR10]; · iexact HgR10
      isplitl [HgR11]; · iexact HgR11
      iexact HgR12
    isplitl [HgR20 HgR21 HgR22]
    · isplitl [HgR20]; · iexact HgR20
      isplitl [HgR21]; · iexact HgR21
      iexact HgR22
    isplitl [HgR30]; · iexact HgR30
    isplitl [HgR31]; · iexact HgR31
    iexact HgR32
  icases (allA X c) $$ [HgA00 HgA01 HgA02 HgA10 HgA11 HgA12 HgA20 HgA21 HgA22 HgA30 HgA31 HgA32] with ⟨HA, HgA⟩
  · isplitl [HgA00 HgA01 HgA02]
    · isplitl [HgA00]; · iexact HgA00
      isplitl [HgA01]; · iexact HgA01
      iexact HgA02
    isplitl [HgA10 HgA11 HgA12]
    · isplitl [HgA10]; · iexact HgA10
      isplitl [HgA11]; · iexact HgA11
      iexact HgA12
    isplitl [HgA20 HgA21 HgA22]
    · isplitl [HgA20]; · iexact HgA20
      isplitl [HgA21]; · iexact HgA21
      iexact HgA22
    isplitl [HgA30]; · iexact HgA30
    isplitl [HgA31]; · iexact HgA31
    iexact HgA32
  rw [blocks c]
  iapply Hend $$ Hin Hout
  unfold leaves scratch
  isplitl [HP HR HD HA]
  · isplitl [HP]; · iexact HP
    isplitl [HR]; · iexact HR
    isplitl [HD]; · iexact HD
    iexact HA
  isplitl [HO]; · iexact HO
  isplitl [HaB]; · iexact HaB
  isplitl [HzR]; · iexact HzR
  isplitl [HgR]; · iexact HgR
  isplitl [HzA]; · iexact HzA
  iexact HgA

end Cert.KernelIdeal.Own

end
-- ==== Proof.Start.lean ====
/- From the launch to the kernel's start on one device: its 48 transfer cells opened, its tokens and its credit told apart;
   and back: the cells closed at its end. -/
module

public import proofs.«01_k».proof.Proof.Body

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Cert.KernelIdeal Cert.KernelIdeal.Gen

variable {F : FTy → Type} [FloatOps F] [Named F]

local notation "𝕄" => MT nD τ sig ℕ (Elt F) ℕ UU ℕ

variable (X : Dev nD → Ins F)

/-! ## The 48 transfer semaphores -/

/-- The kernel's own transfer semaphores, numbered. -/
def osem (k : Fin 48) : SemLoc sig := dS (6 + k.val) (by omega)

theorem osem_inj : Function.Injective osem := by decide +kernel

theorem dorm_eq : fam.dorm 0 = Finset.univ.map ⟨osem, osem_inj⟩ := by
  ext sm
  show sm ∈ (dorm 0).toFinset ↔ _
  simp only [dorm, List.mem_toFinset, List.mem_map, List.mem_finRange, true_and, Finset.mem_map, Finset.mem_univ, Function.Embedding.coeFn_mk]
  exact Iff.rfl

theorem over_dorm (Φ : SemLoc sig → sProp 𝕄) : bigSep (fam.dorm 0) Φ = bigSep Finset.univ fun k : Fin 48 => Φ (osem k) := by
  rw [dorm_eq, bigSep_map]; rfl

/-- The twelve places, by chunk. -/
def prod12 : List (Fin 4 × Fin 3) :=
  (List.finRange 3).map (fun i => (0, i)) ++ (List.finRange 3).map (fun i => (1, i)) ++ (List.finRange 3).map (fun i => (2, i)) ++ (List.finRange 3).map (fun i => (3, i))

theorem assocE (P Q R : sProp 𝕄) : iprop((P ∗ Q) ∗ R) = iprop(P ∗ Q ∗ R) := equiv_iff.mp ⟨BI.sep_assoc, BI.sep_assoc'⟩

theorem list3 (Ψ : Fin 3 → sProp 𝕄) : bigSepL (List.finRange 3) Ψ = M3 Ψ := rfl

theorem list12 (Ψ : Fin 4 × Fin 3 → sProp 𝕄) : bigSepL prod12 Ψ = M43 fun ch i => Ψ (ch, i) := by
  unfold prod12
  rw [bigSepL_append, bigSepL_append, bigSepL_append, bigSepL_map, bigSepL_map, bigSepL_map, bigSepL_map, list3, list3, list3, list3,
    assocE, assocE]

/-- The four groups of twelve. -/
theorem list48 : List.finRange 48 = prod12.map (fun p => Fin.ofNat 48 (3 * p.1.val + p.2.val)) ++ prod12.map (fun p => Fin.ofNat 48 (12 + 3 * p.1.val + p.2.val))
    ++ prod12.map (fun p => Fin.ofNat 48 (24 + 3 * p.1.val + p.2.val)) ++ prod12.map (fun p => Fin.ofNat 48 (36 + 3 * p.1.val + p.2.val)) := by decide +kernel

theorem osems : (∀ (ch : Fin 4) (i : Fin 3), osem (Fin.ofNat 48 (3 * ch.val + i.val)) = sRS ch i)
    ∧ (∀ (ch : Fin 4) (i : Fin 3), osem (Fin.ofNat 48 (12 + 3 * ch.val + i.val)) = sRR ch i)
    ∧ (∀ (ch : Fin 4) (i : Fin 3), osem (Fin.ofNat 48 (24 + 3 * ch.val + i.val)) = sGS ch i)
    ∧ ∀ (ch : Fin 4) (i : Fin 3), osem (Fin.ofNat 48 (36 + 3 * ch.val + i.val)) = sGR ch i := by decide +kernel

theorem all48 (Φ : SemLoc sig → sProp 𝕄) : bigSep Finset.univ (fun k : Fin 48 => Φ (osem k))
    = iprop(M43 (fun ch i => Φ (sRS ch i)) ∗ M43 (fun ch i => Φ (sRR ch i)) ∗ M43 (fun ch i => Φ (sGS ch i)) ∗ M43 (fun ch i => Φ (sGR ch i))) := by
  rw [bigSep_univ_eq_bigSepL (List.finRange 48) (by decide +kernel) (List.nodup_finRange 48), list48,
    bigSepL_append, bigSepL_append, bigSepL_append, bigSepL_map, bigSepL_map, bigSepL_map, bigSepL_map, list12, list12, list12, list12,
    assocE, assocE]
  simp only [osems.1, osems.2.1, osems.2.2.1, osems.2.2.2]

/-! ## Opening and closing the cells -/

/-- All the positions of device `c`'s transfer cells, at round `r`. -/
def at48 (c : Dev nD) (r : ℕ) : sProp 𝕄 :=
  iprop(M43 (fun ch i => atPos ER (cell c (sRS ch i)) r ∅ 0) ∗ M43 (fun ch i => atPos ER (cell c (sRR ch i)) r ∅ 0)
    ∗ M43 (fun ch i => atPos ER (cell c (sGS ch i)) r ∅ 0) ∗ M43 (fun ch i => atPos ER (cell c (sGR ch i)) r ∅ 0))

theorem at48_eq (c : Dev nD) (r : ℕ) : (at48 c r : sProp 𝕄) = bigSep Finset.univ fun k : Fin 48 => atPos ER (cell c (osem k)) r ∅ 0 :=
  (all48 fun sm => atPos ER (cell c sm) r ∅ 0).symm

theorem osem_mem (k : Fin 48) : osem k ∈ dorm 0 := List.mem_map.2 ⟨k, List.mem_finRange k, rfl⟩

/-- One name's invariants, one for every cell. -/
theorem invs48 (κ : GSem nD τ sig → ℕ) (c : Dev nD) : Inv X κ ⊢ bigSep Finset.univ fun k : Fin 48 => cellInv ER (Rd X) (κ (cell c (osem k))) (cell c (osem k)) := by
  refine (?_ : _ ⊢ iprop(Inv X κ ∗ bigSep Finset.univ fun _ : Fin 48 => (BI.emp : sProp 𝕄))).trans (bigSep_with_persistent fun k _ => ?_)
  · rw [bigSep_emp_const]; iintro H; isplitl [H]; · iexact H
    iempintro
  · iintro ⟨H, -⟩; iapply (inv_at X κ c (osem_mem k)); iexact H

theorem open48 (κ : GSem nD τ sig → ℕ) (c : Dev nD) :
    iprop(Inv X κ ∗ (bigSep (fam.dorm 0) fun sm => openTok ER (cell c sm)) ∗ Pipeline.ownSems0 osem c)
      ⊢ (|={Set.univ}=> iprop(at48 c 0 ∗ Rch c) : sProp 𝕄) := by
  rw [over_dorm, at48_eq, Rch, over_dorm]
  have h := Rounds.cells_open ER (Rd X) (Finset.univ : Finset (Fin 48)) (fun k => cell c (osem k)) (fun k => κ (cell c (osem k))) (Es := Set.univ) fun _ _ => Set.mem_univ _
  rw [bigSep_sep', bigSep_sep'] at h
  refine BIBase.Entails.trans ?_ h
  iintro ⟨HI, HT, HS⟩
  isplitl [HI HT]
  · isplitl [HI]; · iapply (invs48 X κ c); iexact HI
    iexact HT
  unfold Pipeline.ownSems0
  iexact HS

theorem close48 (κ : GSem nD τ sig → ℕ) (c : Dev nD) : iprop(Inv X κ ∗ at48 c 1) ⊢ (|={Set.univ}=> Pipeline.ownSems0 osem c : sProp 𝕄) := by
  rw [at48_eq]
  have h := Rounds.cells_close ER (Rd X) (Finset.univ : Finset (Fin 48)) (fun k => cell c (osem k)) (fun k => κ (cell c (osem k))) (Es := Set.univ)
    (fun _ _ => Set.mem_univ _) (fun _ _ => id) (fun _ => 1) (fun k _ r hr => Sched.later sB dorm rowsA nR hok (pay X) _ r hr)
  rw [bigSep_sep'] at h
  refine BIBase.Entails.trans ?_ h
  iintro ⟨HI, HA⟩
  isplitl [HI]; · iapply (invs48 X κ c); iexact HI
  iexact HA

/-! ## The tokens -/

/-- The token of payment `x`. -/
def tokOf (c : Dev nD) (x : Row × ℕ) : sProp 𝕄 := dutyTok ER (cellN sB (dorm 0) x.1.1 x.1.2.1) x.1.2.2.1 (c, x.2)

set_option maxRecDepth 100000 in
theorem rows_eq : ∀ c : Dev nD, (rowsA c 0).zipIdx
    = (List.finRange 3).map (fun o => ((((nxt (o.val + 1) c).val, 0, 0, 1, 1) : Row), o.val))
      ++ prod12.map (fun p => (((nxt (p.2.val + 1) c).val, 13 + 3 * p.1.val + p.2.rev.val, 0, 2 + p.1.val, N), 3 + 3 * p.1.val + p.2.val))
      ++ prod12.map (fun p => (((nxt (p.2.val + 1) c).val, 37 + 3 * p.1.val + p.2.rev.val, 0, 6 + p.1.val, N), 15 + 3 * p.1.val + p.2.val))
      ++ prod12.map (fun p => ((c.val, 1 + 3 * p.1.val + p.2.val, 0, 0, N), 27 + 3 * p.1.val + p.2.val))
      ++ prod12.map (fun p => ((c.val, 25 + 3 * p.1.val + p.2.val, 0, 0, N), 39 + 3 * p.1.val + p.2.val)) := by decide +kernel

theorem tokOf_eq (c d : Dev nD) {n i u k : ℕ} {sm : SemLoc sig} (h : (sB :: dorm 0).getD n sB = sm) :
    (tokOf c ((d.val, n, 0, i, u), k) : sProp 𝕄) = dutyTok ER (cell d sm) 0 (c, k) := by
  unfold tokOf
  show dutyTok ER (cellN sB (dorm 0) d.val n) 0 (c, k) = _
  rw [cellN_val, h]

theorem toks_eq (c : Dev nD) : (bigSepL (rowsA c 0).zipIdx (tokOf c) : sProp 𝕄)
    = iprop(M3 (fun o => dutyTok ER (cell (nxt (o.val + 1) c) sB) 0 (c, o.val))
      ∗ M43 (fun ch i => dutyTok ER (cell (nxt (i.val + 1) c) (sRR ch i.rev)) 0 (c, 3 + 3 * ch.val + i.val))
      ∗ M43 (fun ch i => dutyTok ER (cell (nxt (i.val + 1) c) (sGR ch i.rev)) 0 (c, 15 + 3 * ch.val + i.val))
      ∗ M43 (fun ch i => dutyTok ER (cell c (sRS ch i)) 0 (c, 27 + 3 * ch.val + i.val))
      ∗ M43 (fun ch i => dutyTok ER (cell c (sGS ch i)) 0 (c, 39 + 3 * ch.val + i.val))) := by
  rw [rows_eq, bigSepL_append, bigSepL_append, bigSepL_append, bigSepL_append, bigSepL_map, bigSepL_map, bigSepL_map, bigSepL_map, bigSepL_map,
    list3, list12, list12, list12, list12, assocE, assocE, assocE]
  have hB (o : Fin 3) := tokOf_eq (F := F) c (nxt (o.val + 1) c) (n := 0) (i := 1) (u := 1) (k := o.val) (sm := sB) rfl
  have hR (ch : Fin 4) (i : Fin 3) := tokOf_eq (F := F) c (nxt (i.val + 1) c) (i := 2 + ch.val) (u := N) (k := 3 + 3 * ch.val + i.val) (num_RR ch i.rev)
  have hA (ch : Fin 4) (i : Fin 3) := tokOf_eq (F := F) c (nxt (i.val + 1) c) (i := 6 + ch.val) (u := N) (k := 15 + 3 * ch.val + i.val) (num_GR ch i.rev)
  have hS (ch : Fin 4) (i : Fin 3) := tokOf_eq (F := F) c c (i := 0) (u := N) (k := 27 + 3 * ch.val + i.val) (num_RS ch i)
  have hG (ch : Fin 4) (i : Fin 3) := tokOf_eq (F := F) c c (i := 0) (u := N) (k := 39 + 3 * ch.val + i.val) (num_GS ch i)
  simp only [hB, hR, hA, hS, hG]

/-! ## The credit -/

/-- The credit of an incoming payment. -/
def credOf (x : Dev nD × ℕ × Row) : sProp 𝕄 := cred (payN sB (dorm 0) (rowPay x.2.2)).tally

set_option maxRecDepth 100000 in
theorem ins_eq : ∀ c : Dev nD, insS shapeDue prv c
    = (List.finRange 3).map (fun o => (prv (o.val + 1) c, o.val, ((c.val, 0, 0, 1, 1) : Row)))
      ++ (List.finRange 3).map (fun i => (prv (i.val + 1) c, 3 + i.val, (c.val, 13 + 3 * 0 + i.rev.val, 0, 2 + 0, N)))
      ++ (List.finRange 3).map (fun i => (prv (i.val + 1) c, 6 + i.val, (c.val, 13 + 3 * 1 + i.rev.val, 0, 2 + 1, N)))
      ++ (List.finRange 3).map (fun i => (prv (i.val + 1) c, 9 + i.val, (c.val, 37 + 3 * 0 + i.rev.val, 0, 6 + 0, N)))
      ++ (List.finRange 3).map (fun i => (prv (i.val + 1) c, 12 + i.val, (c.val, 13 + 3 * 2 + i.rev.val, 0, 2 + 2, N)))
      ++ (List.finRange 3).map (fun i => (prv (i.val + 1) c, 15 + i.val, (c.val, 37 + 3 * 1 + i.rev.val, 0, 6 + 1, N)))
      ++ (List.finRange 3).map (fun i => (prv (i.val + 1) c, 18 + i.val, (c.val, 13 + 3 * 3 + i.rev.val, 0, 2 + 3, N)))
      ++ (List.finRange 3).map (fun i => (prv (i.val + 1) c, 21 + i.val, (c.val, 37 + 3 * 2 + i.rev.val, 0, 6 + 2, N)))
      ++ (List.finRange 3).map (fun i => (prv (i.val + 1) c, 24 + i.val, (c.val, 37 + 3 * 3 + i.rev.val, 0, 6 + 3, N))) := by decide +kernel

theorem credOf_eq (c p : Dev nD) {n i u k : ℕ} {sm : SemLoc sig} (h : (sB :: dorm 0).getD n sB = sm) :
    (credOf (p, k, (c.val, n, 0, i, u)) : sProp 𝕄) = cred (tallyAt (cell c sm) i u) := by
  unfold credOf
  show cred (payN sB (dorm 0) (c.val, n, i, u)).tally = _
  rw [payN_val, h]

theorem in_permD (c : Dev nD) : (incoming rowsD 0 c).Perm (insS shapeDue prv c) :=
  incoming_perm_of_shape (peer := nxt) (fun _ => rfl) (fun _ _ c => ⟨prv_nxt _ c, nxt_prv _ c⟩) c

/-- What the launch lets device `c` owe. -/
def O₀ (c : Dev nD) : CellTallies nD τ sig ℕ := tallyL (duesR sB (dorm 0) (rowsD c 0))

theorem owed_start (c : Dev nD) : owed c 0 = O₀ c := by
  unfold owed O₀
  rw [List.drop_zero, addL_eq, zero_add]

/-- The credit of device `c`'s waits for others. -/
def credits (c : Dev nD) : sProp 𝕄 :=
  iprop(cred (tallyAt (cell c sB) 1 3) ∗ M43 (fun ch s => cred (tallyAt (cell c (sRR ch s)) (2 + ch.val) N))
    ∗ M43 (fun ch s => cred (tallyAt (cell c (sGR ch s)) (6 + ch.val) N)))

theorem flip3 (Ψ : Fin 3 → sProp 𝕄) : M3 (fun i => Ψ i.rev) ⊢ M3 Ψ := by
  show iprop(Ψ 2 ∗ Ψ 1 ∗ Ψ 0) ⊢ iprop(Ψ 0 ∗ Ψ 1 ∗ Ψ 2)
  iintro ⟨H2, H1, H0⟩
  isplitl [H0]; · iexact H0
  isplitl [H1]; · iexact H1
  iexact H2

theorem credits_of (c : Dev nD) : (Pipeline.launchCred O₀ c : sProp 𝕄) ⊢ credits c := by
  have h : (Pipeline.launchCred O₀ c : sProp 𝕄) = _ := launchCred_of sB (dorm 0) 0 c (in_permD c)
  refine (BIBase.Entails.of_eq h).trans ?_
  show bigSepL (insS shapeDue prv c) credOf ⊢ _
  have hB (o : Fin 3) := credOf_eq (F := F) c (prv (o.val + 1) c) (n := 0) (i := 1) (u := 1) (k := o.val) (sm := sB) rfl
  have hR (ch : Fin 4) (k : ℕ) (i : Fin 3) := credOf_eq (F := F) c (prv (i.val + 1) c) (i := 2 + ch.val) (u := N) (k := k + i.val) (num_RR ch i.rev)
  have hA (ch : Fin 4) (k : ℕ) (i : Fin 3) := credOf_eq (F := F) c (prv (i.val + 1) c) (i := 6 + ch.val) (u := N) (k := k + i.val) (num_GR ch i.rev)
  have e3 (ch : Fin 4) (k : ℕ) : (M3 fun i : Fin 3 => credOf (prv (i.val + 1) c, k + i.val, ((c.val, 13 + 3 * ch.val + i.rev.val, 0, 2 + ch.val, N) : Row)) : sProp 𝕄)
      ⊢ M3 fun s => cred (tallyAt (cell c (sRR ch s)) (2 + ch.val) N) := by
    refine BIBase.Entails.trans (BIBase.Entails.of_eq ?_) (flip3 fun s => cred (tallyAt (cell c (sRR ch s)) (2 + ch.val) N))
    simp only [hR ch k]
  have e4 (ch : Fin 4) (k : ℕ) : (M3 fun i : Fin 3 => credOf (prv (i.val + 1) c, k + i.val, ((c.val, 37 + 3 * ch.val + i.rev.val, 0, 6 + ch.val, N) : Row)) : sProp 𝕄)
      ⊢ M3 fun s => cred (tallyAt (cell c (sGR ch s)) (6 + ch.val) N) := by
    refine BIBase.Entails.trans (BIBase.Entails.of_eq ?_) (flip3 fun s => cred (tallyAt (cell c (sGR ch s)) (6 + ch.val) N))
    simp only [hA ch k]
  have e1 : (M3 fun o : Fin 3 => credOf (prv (o.val + 1) c, o.val, ((c.val, 0, 0, 1, 1) : Row)) : sProp 𝕄) ⊢ cred (tallyAt (cell c sB) 1 3) := by
    simp only [hB]
    rw [show (tallyAt (cell c sB) 1 3 : CellTallies nD τ sig ℕ) = tallyAt (cell c sB) 1 1 + (tallyAt (cell c sB) 1 1 + tallyAt (cell c sB) 1 1) from by
      rw [tallyAt_add, tallyAt_add]]
    iintro ⟨H0, H1, H2⟩
    iapply (cred_add _ _).2
    isplitl [H0]; · iexact H0
    iapply (cred_add _ _).2
    isplitl [H1]; · iexact H1
    iexact H2
  rw [ins_eq]
  simp only [bigSepL_append, bigSepL_map, list3]
  unfold credits
  iintro ⟨⟨⟨⟨⟨⟨⟨⟨HB, R0⟩, R1⟩, A0⟩, R2⟩, A1⟩, R3⟩, A2⟩, A3⟩
  isplitl [HB]; · iapply e1 $$ HB
  isplitl [R0 R1 R2 R3]
  · isplitl [R0]; · iapply (e3 0 3) $$ R0
    isplitl [R1]; · iapply (e3 1 6) $$ R1
    isplitl [R2]; · iapply (e3 2 12) $$ R2
    iapply (e3 3 18) $$ R3
  isplitl [A0]; · iapply (e4 0 9) $$ A0
  isplitl [A1]; · iapply (e4 1 15) $$ A1
  isplitl [A2]; · iapply (e4 2 21) $$ A2
  iapply (e4 3 24) $$ A3

end Cert.KernelIdeal.Own

end
-- ==== Proof.Region.lean ====
/- The kernel as a region of @main on one device: what its windows hold, what it enters with, what it leaves. -/
module

public import proofs.«01_k».proof.Proof.Start
public import proofs.«01_k».proof.Proof.Gen.KernelIdeal.Launch
public import proofs.«01_k».proof.Proof.Gen.KernelIdeal.Regions
public import Idealize.ShloMosaic.Lib.Pipeline.RegionTalk

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Idealize.ShloMosaic.Pipeline (Dat BodyObligation)
open Cert.KernelIdeal Cert.KernelIdeal.Gen

variable {F : FTy → Type} [FloatOps F] [Named F]

local notation "𝕄" => MT nD τ sig ℕ (Elt F) ℕ UU ℕ

variable (V : (c : Dev nD) → Valuation τ sig (Elt F))

/-! ## The contents -/

/-- The kernel's inputs on device `c`, at the contents `V` of every device's arrays. -/
def inX (c : Dev nD) : Ins F :=
  ⟨V c main_v5, V c main_v10, V c main_v17, V c main_v19, V c main_v15⟩

/-! ## Regrouping -/

theorem pair3 (Φ Ψ : Fin 3 → sProp 𝕄) : iprop(M3 Φ ∗ M3 Ψ) ⊢ M3 fun i => iprop(Φ i ∗ Ψ i) := by
  show iprop((Φ 0 ∗ Φ 1 ∗ Φ 2) ∗ (Ψ 0 ∗ Ψ 1 ∗ Ψ 2)) ⊢ iprop((Φ 0 ∗ Ψ 0) ∗ (Φ 1 ∗ Ψ 1) ∗ (Φ 2 ∗ Ψ 2))
  iintro ⟨⟨H0, H1, H2⟩, ⟨G0, G1, G2⟩⟩
  isplitl [H0 G0]; · isplitl [H0]; · iexact H0
                     iexact G0
  isplitl [H1 G1]; · isplitl [H1]; · iexact H1
                     iexact G1
  isplitl [H2]; · iexact H2
  iexact G2
theorem pair43 (Φ Ψ : Fin 4 → Fin 3 → sProp 𝕄) : iprop(M43 Φ ∗ M43 Ψ) ⊢ M43 fun ch i => iprop(Φ ch i ∗ Ψ ch i) := by
  show iprop((M3 (Φ 0) ∗ M3 (Φ 1) ∗ M3 (Φ 2) ∗ M3 (Φ 3)) ∗ (M3 (Ψ 0) ∗ M3 (Ψ 1) ∗ M3 (Ψ 2) ∗ M3 (Ψ 3))) ⊢ _
  iintro ⟨⟨H0, H1, H2, H3⟩, ⟨G0, G1, G2, G3⟩⟩
  isplitl [H0 G0]
  · iapply (pair3 (Φ 0) (Ψ 0)); isplitl [H0]; · iexact H0
    iexact G0
  isplitl [H1 G1]
  · iapply (pair3 (Φ 1) (Ψ 1)); isplitl [H1]; · iexact H1
    iexact G1
  isplitl [H2 G2]
  · iapply (pair3 (Φ 2) (Ψ 2)); isplitl [H2]; · iexact H2
    iexact G2
  iapply (pair3 (Φ 3) (Ψ 3)); isplitl [H3]; · iexact H3
  iexact G3

/-! ## Entering -/

variable (X : Dev nD → Ins F)

/-- What the launch of the program gives device `c`. -/
def Tk (c : Dev nD) : sProp 𝕄 := iprop(fam.launched ER (Rd X) (fun _ => Finset.univ) c ∗ Pipeline.launchCred O₀ c)

/-- What the run starts with, besides the scratch buffers and the debt. -/
def kit (c : Dev nD) : sProp 𝕄 :=
  iprop(M3 (fun o => tokB c o) ∗ (cred (tallyAt (cell c sB) 1 3) ∗ atPos ER (cell c sB) 0 ∅ 0)
    ∗ M43 (fun ch i => tokR c ch i) ∗ M43 (fun ch i => tokA c ch i)
    ∗ M43 (fun ch i => toR c ch i) ∗ M43 (fun ch i => toA c ch i)
    ∗ M43 (fun ch i => atPos ER (cell c (sRS ch i)) 0 ∅ 0) ∗ M43 (fun ch i => atPos ER (cell c (sGS ch i)) 0 ∅ 0))

/-- What enters the kernel. -/
def Xk (c : Dev nD) : sProp 𝕄 := iprop(∃ κ, Ctx X κ c ∗ kit c)
/-- What leaves it. -/
def Yk (c : Dev nD) : sProp 𝕄 := fam.barPos ER (Rd X) c 1 ∅

theorem rides_split (c : Dev nD) : (fam.rides ER (Rd X) c 0 : sProp 𝕄)
    = iprop((∃ κ, Inv X κ) ∗ (bigSep (fam.dorm 0) fun sm => openTok ER (cell c sm)) ∗ bigSepL (rowsA c 0).zipIdx (tokOf c)) := by
  have hn : (dorm 0).Nodup := by decide +kernel
  rw [Fam.rides_ofRows sB dorm rowsA hsem hrow ER (Rd X) c 0 hn, bigSep_eq_bigSepL_of_eq (S := fam.dorm 0) (dorm 0) rfl hn]
  rfl

theorem barsR (c : Dev nD) : (bigSep Finset.univ fun n : Dev nD => (reached ER (cell n sB) 0 : sProp 𝕄))
    ⊢ M3 fun o => reached ER (cell (nxt (o.val + 1) c) sB) 0 := by
  have h (n : Dev nD) : (bigSep Finset.univ fun n : Dev nD => (reached ER (cell n sB) 0 : sProp 𝕄)) ⊢ reached ER (cell n sB) 0 := bigSep_elim (Finset.mem_univ n)
  iintro #H
  isplitr; · iapply (h _); iexact H
  isplitr; · iapply (h _); iexact H
  iapply (h _); iexact H

theorem hopen (c : Dev nD) : iprop(Tk X c ∗ Pipeline.ownSems0 osem c ∗ Lev) ⊢ (|={Set.univ}=> Xk X c : sProp 𝕄) := by
  unfold Tk Fam.launched Fam.barPos
  rw [BI.bigSep_univ_of_subsingleton (0 : Fin 1), rides_split, toks_eq]
  iintro ⟨⟨⟨⟨-, Hat, Hbar⟩, ⟨⟨%κ, #HI⟩, Hop, HtB, HtR, HtA, HtS, HtG⟩⟩, Hc⟩, Hs, #HL⟩
  ihave Hc' := (credits_of c) $$ Hc
  ihave Hb := (show (bigSep ((fun _ : Dev nD => (Finset.univ : Finset (Dev nD))) c) fun n : Dev nD => (reached ER ((n.tc : Thread nD τ), fam.bar) 0 : sProp 𝕄))
    ⊢ M3 fun o => reached ER (cell (nxt (o.val + 1) c) sB) 0 from barsR c) $$ Hbar
  imod (open48 X κ c) $$ [Hop Hs] with ⟨H48, HR⟩
  · isplitr; · iexact HI
    isplitl [Hop]; · iexact Hop
    iexact Hs
  imodintro
  unfold Xk Ctx kit at48 credits
  icases Hc' with ⟨HcB, HcR, HcA⟩
  icases H48 with ⟨HaS, HaR, HaG, HaA⟩
  iexists κ
  isplitl [HR]
  · isplitr; · iexact HI
    isplitl [HR]; · iexact HR
    iexact HL
  isplitl [HtB Hb]
  · unfold tokB
    iapply (pair3 (fun o => dutyTok ER (cell (nxt (o.val + 1) c) sB) 0 (c, o.val)) (fun o => reached ER (cell (nxt (o.val + 1) c) sB) 0))
    isplitl [HtB]; · iexact HtB
    iexact Hb
  isplitl [HcB Hat]
  · isplitl [HcB]; · iexact HcB
    iexact Hat
  isplitl [HtS HtR]
  · unfold tokR
    iapply (pair43 (fun ch i => dutyTok ER (cell c (sRS ch i)) 0 (c, 27 + 3 * ch.val + i.val))
      (fun ch i => dutyTok ER (cell (nxt (i.val + 1) c) (sRR ch i.rev)) 0 (c, 3 + 3 * ch.val + i.val)))
    isplitl [HtS]; · iexact HtS
    iexact HtR
  isplitl [HtG HtA]
  · unfold tokA
    iapply (pair43 (fun ch i => dutyTok ER (cell c (sGS ch i)) 0 (c, 39 + 3 * ch.val + i.val))
      (fun ch i => dutyTok ER (cell (nxt (i.val + 1) c) (sGR ch i.rev)) 0 (c, 15 + 3 * ch.val + i.val)))
    isplitl [HtG]; · iexact HtG
    iexact HtA
  isplitl [HaR HcR]
  · unfold toR
    iapply (pair43 (fun ch i => atPos ER (cell c (sRR ch i)) 0 ∅ 0) (fun ch i => cred (tallyAt (cell c (sRR ch i)) (2 + ch.val) N)))
    isplitl [HaR]; · iexact HaR
    iexact HcR
  isplitl [HaA HcA]
  · unfold toA
    iapply (pair43 (fun ch i => atPos ER (cell c (sGR ch i)) 0 ∅ 0) (fun ch i => cred (tallyAt (cell c (sGR ch i)) (6 + ch.val) N)))
    isplitl [HaA]; · iexact HaA
    iexact HcA
  isplitl [HaS]; · iexact HaS
  iexact HaG

/-! ## The region's data -/

/-- The region on device `c`: its six arrays as they enter, its six staged blocks as the body leaves them, and what is
    owed before and after the body. -/
def dat (c : Dev nD) : Dat τ (Elt F) ℕ ℕ UU ℕ cfg0 c where
  A w := V c (Pipeline.arrRef spec0 w)
  after w _ := match w with
    | ⟨0, _⟩ => (inX V c).x
    | ⟨1, _⟩ => (inX V c).wq
    | ⟨2, _⟩ => (inX V c).k
    | ⟨3, _⟩ => (inX V c).v
    | ⟨4, _⟩ => (inX V c).wo
    | ⟨5, _⟩ => outC (inX V) c
  Φ t := if t.val = 0 then iprop(scratch c ∗ (∃ r, prngReg c r) ∗ Xk (inX V) c)
    else iprop(scratch c ∗ (∃ r, prngReg c r) ∗ Pipeline.ownSems0 osem c ∗ Yk (inX V) c)
  q _ := fullShare
  owed t := if t.val = 0 then O₀ c else 0

def pdats : (p : Fin 1) → (c : Dev nD) → Dat τ (Elt F) ℕ ℕ UU ℕ (Pipeline.pin (pcfgs (F := F)) adm p) c
  | ⟨0, _⟩ => fun c => dat V c

/-- Every window is its whole array. -/
theorem at_zero : (∀ a, win0_0.index t0_0 a * main_v5.ty.shape.size a = 0) ∧ (∀ a, win0_1.index t0_0 a * main_v10.ty.shape.size a = 0) ∧ (∀ a, win0_2.index t0_0 a * main_v17.ty.shape.size a = 0) ∧ (∀ a, win0_3.index t0_0 a * main_v19.ty.shape.size a = 0) ∧ (∀ a, win0_4.index t0_0 a * main_v15.ty.shape.size a = 0) ∧ (∀ a, win0_5.index t0_0 a * main_v20.ty.shape.size a = 0) := by decide +kernel

/-- A window's block, read: the array. -/
theorem read_0 (c : Dev nD) (f : Buf (Elt F) ((c : Thread nD τ).loc main_v5)) : (win0_0.blk t0_0).view.read (Elt F) f = f :=
  Memref.read_access_unit_zero (Elt F) main_v5 (funext at_zero.1) _ f
@[inherit_doc read_0] theorem read_1 (c : Dev nD) (f : Buf (Elt F) ((c : Thread nD τ).loc main_v10)) : (win0_1.blk t0_0).view.read (Elt F) f = f :=
  Memref.read_access_unit_zero (Elt F) main_v10 (funext at_zero.2.1) _ f
@[inherit_doc read_0] theorem read_2 (c : Dev nD) (f : Buf (Elt F) ((c : Thread nD τ).loc main_v17)) : (win0_2.blk t0_0).view.read (Elt F) f = f :=
  Memref.read_access_unit_zero (Elt F) main_v17 (funext at_zero.2.2.1) _ f
@[inherit_doc read_0] theorem read_3 (c : Dev nD) (f : Buf (Elt F) ((c : Thread nD τ).loc main_v19)) : (win0_3.blk t0_0).view.read (Elt F) f = f :=
  Memref.read_access_unit_zero (Elt F) main_v19 (funext at_zero.2.2.2.1) _ f
@[inherit_doc read_0] theorem read_4 (c : Dev nD) (f : Buf (Elt F) ((c : Thread nD τ).loc main_v15)) : (win0_4.blk t0_0).view.read (Elt F) f = f :=
  Memref.read_access_unit_zero (Elt F) main_v15 (funext at_zero.2.2.2.2.1) _ f
@[inherit_doc read_0] theorem read_5 (c : Dev nD) (f : Buf (Elt F) ((c : Thread nD τ).loc main_v20)) : (win0_5.blk t0_0).view.read (Elt F) f = f :=
  Memref.read_access_unit_zero (Elt F) main_v20 (funext at_zero.2.2.2.2.2) _ f

/-- Each input is fetched whole. -/
theorem before_0 (c : Dev nD) (d) : (dat V c).before 0 t0_0 d = (inX V c).x := by
  unfold Dat.before; rw [if_pos (by decide)]
  exact (show (dat V c).fetched 0 t0_0 d = (win0_0.blk t0_0).view.read (Elt F) (V c main_v5) from rfl).trans (read_0 c _)
@[inherit_doc before_0] theorem before_1 (c : Dev nD) (d) : (dat V c).before 1 t0_0 d = (inX V c).wq := by
  unfold Dat.before; rw [if_pos (by decide)]
  exact (show (dat V c).fetched 1 t0_0 d = (win0_1.blk t0_0).view.read (Elt F) (V c main_v10) from rfl).trans (read_1 c _)
@[inherit_doc before_0] theorem before_2 (c : Dev nD) (d) : (dat V c).before 2 t0_0 d = (inX V c).k := by
  unfold Dat.before; rw [if_pos (by decide)]
  exact (show (dat V c).fetched 2 t0_0 d = (win0_2.blk t0_0).view.read (Elt F) (V c main_v17) from rfl).trans (read_2 c _)
@[inherit_doc before_0] theorem before_3 (c : Dev nD) (d) : (dat V c).before 3 t0_0 d = (inX V c).v := by
  unfold Dat.before; rw [if_pos (by decide)]
  exact (show (dat V c).fetched 3 t0_0 d = (win0_3.blk t0_0).view.read (Elt F) (V c main_v19) from rfl).trans (read_3 c _)
@[inherit_doc before_0] theorem before_4 (c : Dev nD) (d) : (dat V c).before 4 t0_0 d = (inX V c).wo := by
  unfold Dat.before; rw [if_pos (by decide)]
  exact (show (dat V c).fetched 4 t0_0 d = (win0_4.blk t0_0).view.read (Elt F) (V c main_v15) from rfl).trans (read_4 c _)

/-- After the region the result's array holds the result. -/
theorem arrAt_5 (c : Dev nD) : (dat V c).arrAt 5 cfg0.N = outC (inX V) c := by
  have hw : ((cfg0.win 5).blk t0_0).view.read (Elt F) ((dat V c).arrAt 5 cfg0.N) = (dat V c).flushed 5 t0_0 := by
    rw [show cfg0.N = t0_0.val + 1 from rfl, (dat V c).arrAt_succ (5 : Fin 6) t0_0, flush0_5, if_pos rfl]
    exact View.read_write_univ _ _
  exact (read_5 c _).symm.trans hw

/-! ## The body -/

theorem hin (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ Xk (inX V) c)
      ⊢ (pdats V 0 c).Φ 0 := by
  show iprop(Pipeline.scopedRest spec0 c ∗ (∃ r, prngReg c r) ∗ StableHlo.held (c.tc : Thread nD τ) ∅ W ∗ Xk (inX V) c)
    ⊢ iprop(scratch c ∗ (∃ r, prngReg c r) ∗ Xk (inX V) c)
  rw [scopedRest0_eq]
  iintro ⟨HS, Hp, -, HX⟩
  isplitl [HS]; · unfold scratch; iexact HS
  isplitl [Hp]; · iexact Hp
  iexact HX

theorem hout (c : Dev nD) (W : Valuation τ sig (Elt F)) :
    (pdats V 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ W
        ∗ Pipeline.ownSems0 osem c ∗ Yk (inX V) c) := by
  show iprop(scratch c ∗ (∃ r, prngReg c r) ∗ Pipeline.ownSems0 osem c ∗ Yk (inX V) c)
    ⊢ iprop(Pipeline.scopedRest spec0 c ∗ (∃ r, prngReg c r) ∗ StableHlo.held (c.tc : Thread nD τ) ∅ W ∗ Pipeline.ownSems0 osem c ∗ Yk (inX V) c)
  rw [scopedRest0_eq, show (StableHlo.held (c.tc : Thread nD τ) ∅ W : sProp 𝕄) = iprop(emp) from BI.bigSep_empty]
  iintro ⟨HS, Hp, Ho, HY⟩
  isplitl [HS]; · unfold scratch; iexact HS
  isplitl [Hp]; · iexact Hp
  isplitr; · iempintro
  isplitl [Ho]; · iexact Ho
  iexact HY

theorem owes_in (c : Dev nD) : ((dat V c).owesAt 0 t0_0.castSucc : sProp 𝕄) ⊢ Owe c 0 := by
  have h : ((dat V c).owesAt 0 t0_0.castSucc : sProp 𝕄) ⊢ iprop(∃ W, owes (c : Thread nD τ) (O₀ c) W) := owesAt_elim (dat V c) 0 t0_0.castSucc (O₀ c) rfl
  unfold Owe; rw [owed_start]; exact h
theorem owes_out (c : Dev nD) : (Owe c 27 : sProp 𝕄) ⊢ (dat V c).owesAt 0 t0_0.succ := by
  have h (W) : (owes (c : Thread nD τ) 0 W : sProp 𝕄) ⊢ (dat V c).owesAt 0 t0_0.succ := owesAt_intro (dat V c) 0 t0_0.succ 0 rfl rfl W
  unfold Owe; rw [owed_end]
  iintro ⟨%W, H⟩; iapply (h W); iexact H

/-- The barrier's position, closed at its end. -/
theorem leave (κ : GSem nD τ sig → ℕ) (c : Dev nD) : Ctx X κ c ⊢ iprop(leaves c -∗ |={Set.univ}=> (scratch c ∗ Owe c 27 ∗ Pipeline.ownSems0 osem c ∗ Yk X c) : sProp 𝕄) := by
  unfold Ctx leaves Yk Fam.barPos
  iintro ⟨#HI, -, -⟩ ⟨HS, HO, HB, H1, H2, H3, H4⟩
  imod (close48 X κ c) $$ [H1 H2 H3 H4] with Hz
  · isplitr; · iexact HI
    unfold at48
    isplitl [H1]; · iexact H1
    isplitl [H2]; · iexact H2
    isplitl [H3]; · iexact H3
    iexact H4
  imodintro
  isplitl [HS]; · iexact HS
  isplitl [HO]; · iexact HO
  isplitl [Hz]; · iexact Hz
  isplitr; · iexists κ; iexact HI
  isplitl [HB]; · iexact HB
  rw [BI.bigSep_empty]; iempintro

theorem outs_all (c : Dev nD) : (outs X c Finset.univ : sProp 𝕄) ⊢ (mO.view.loc (c.tc : Thread nD τ) ↦{fullShare} outC X c) := by
  unfold outs
  iintro ⟨%f, %h, H⟩
  rw [show f = outC X c from funext fun i => h i (Finset.mem_univ _)]
  iexact H
theorem outs_none (c : Dev nD) (f : S1x1024x1024.Idx → F .f32) : ((mO.view.loc (c.tc : Thread nD τ) ↦{fullShare} f) : sProp 𝕄) ⊢ outs X c ∅ := by
  unfold outs
  iintro H
  iexists f
  isplitr; · ipureintro; exact fun i h => absurd h (Finset.notMem_empty _)
  iexact H

/-- The kernel's run with its two ends: entered with what the region holds, left with what it keeps. -/
theorem run_closed (κ : GSem nD τ sig → ℕ) (c : Dev nD) (Q : PUnit → sProp 𝕄) (f : S1x1024x1024.Idx → F .f32) :
    Ctx X κ c ⊢ iprop(kit c -∗ scratch c -∗ Owe c 0 -∗ insAt c (X c) -∗ (mO.view.loc (c.tc : Thread nD τ) ↦{fullShare} f)
      -∗ ((scratch c ∗ Owe c 27 ∗ Pipeline.ownSems0 osem c ∗ Yk X c) -∗ insAt c (X c) -∗ (mO.view.loc (c.tc : Thread nD τ) ↦{fullShare} outC X c) -∗ Q ⟨⟩)
      -∗ runs c (at14 (cc0__body (F := F))) Q) := by
  iintro #HC Hk HS HO Hi Ho HQ
  iapply (wp_fupd frame (wpE (defs₀ (F := F)) 𝒱₀ (c.tc : Thread nD τ) none) Set.univ (at14 (cc0__body (F := F))) Q)
  iapply (body_run X κ c fun a => iprop(|={Set.univ}=> Q a)) $$ HC Hi [Ho] [Hk HS HO]
  · iapply (outs_none X c f); iexact Ho
  · unfold starts kit
    isplitl [HS]; · iexact HS
    isplitl [HO]; · iexact HO
    iexact Hk
  iintro Hi Ho HL
  imod (leave X κ c) $$ HC HL with HE
  imodintro
  iapply HQ $$ HE Hi
  iapply (outs_all X c); iexact Ho

theorem body_obligation (c : Dev nD) : BodyObligation (dat V c) (defs₀ (F := F)) 𝒱₀ 0 Set.univ := fun t => by
  obtain rfl := fin_N0 t
  rw [bigSep_W0, bigSep_W0]
  simp only [owns_whole_eq]
  rw [show (dat V c).Φ t0_0.castSucc = iprop(scratch c ∗ (∃ r, prngReg c r) ∗ Xk (inX V) c) from rfl,
    show (dat V c).Φ t0_0.succ = iprop(scratch c ∗ (∃ r, prngReg c r) ∗ Pipeline.ownSems0 osem c ∗ Yk (inX V) c) from rfl]
  iintro ⟨⟨HS, Hp, HX⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before_0] at h0; rw [before_1] at h1; rw [before_2] at h2; rw [before_3] at h3; rw [before_4] at h4
  subst h0; subst h1; subst h2; subst h3; subst h4
  unfold Xk
  icases HX with ⟨%κ, #HC, Hk⟩
  ihave HO' := (owes_in V c) $$ HO
  iapply (run_closed (inX V) κ c _ f5) $$ HC Hk HS HO' [H0 H1 H2 H3 H4] H5
  · unfold insAt
    isplitl [H0]; · iexact H0
    isplitl [H1]; · iexact H1
    isplitl [H2]; · iexact H2
    isplitl [H3]; · iexact H3
    iexact H4
  iintro ⟨HS, HO, Hz, HY⟩ Hi H5
  unfold insAt
  icases Hi with ⟨H0, H1, H2, H3, H4⟩
  isplitl [HS Hp Hz HY]
  · isplitl [HS]; · iexact HS
    isplitl [Hp]; · iexact Hp
    isplitl [Hz]; · iexact Hz
    iexact HY
  isplitl [HO]; · iapply (owes_out V c); iexact HO
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

end Cert.KernelIdeal.Own

end
-- ==== Proof.Run.lean ====
/- The run of @main on the four devices: the host's operations, then the kernel; what every final memory holds. -/
module

public import proofs.«01_k».proof.Proof.Region
public import Idealize.ShloMosaic.Lib.Quiescent

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.TalkSites
open Idealize.ShloMosaic.Pipeline (Dat BodyObligation Seg)
open Cert.KernelIdeal Cert.KernelIdeal.Gen

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The contents -/

/-- The kernel's inputs, as the host's operations leave them. -/
abbrev insOf (c : Dev nD) : Ins F := inX (fun c => V1 m c) c

/-- What the kernel leaves in its result's array. -/
def outV : Outs (F := F) := fun _ => Function.update (fun r c => V0 m c r) main_v20 fun c => outC (insOf m) c
theorem outV_res (c : Dev nD) : outV m 2 main_v20 c = outC (insOf m) c := by unfold outV; rw [Function.update_self]

/-- Every device's arrays, after the kernel. -/
abbrev VE (c : Dev nD) : Valuation τ sig (Elt F) := V2 m (outV m) c

theorem VE_res (c : Dev nD) : VE m c main_v20 = outC (insOf m) c := by
  rw [← outV_res]; exact Function.update_self ..

/-! ## The region's record -/

/-- What lies above a staging copy's level: everything owed. -/
theorem owed_above (c : Dev nD) (g : GSem nD τ sig) (i : ℕ) (h : 0 < O₀ c g i) : i ∈ SiteBlocks.L 10 g ∧ 0 < SiteBlocks.lv g i := by
  obtain ⟨x, hx, rfl, rfl⟩ := tallyL_pos h
  simp only [duesR, List.mem_reverse, List.mem_map] at hx
  obtain ⟨r, hr, rfl⟩ := hx
  have hb : 0 < r.2.2.2.1 ∧ r.2.2.2.1 < 10 := (by decide +kernel : ∀ c : Dev nD, ∀ x ∈ rowsD c 0, 0 < x.2.2.2.1 ∧ x.2.2.2.1 < 10) c r hr
  exact ⟨SiteBlocks.mem_L' rfl hb.2, hb.1⟩

theorem cut (c : Dev nD) (t : Fin ((Pipeline.pin (pcfgs (F := F)) adm 0).N + 1)) (g : GSem nD τ sig) (i : ℕ)
    (h : 0 < (pdats (fun c => V1 m c) 0 c).owed t g i) : i ∈ SiteBlocks.L 10 g ∧ 0 < SiteBlocks.lv g i := by
  have h' : 0 < (if t.val = 0 then O₀ c else 0) g i := h
  split at h'
  · exact owed_above c g i h'
  · exact absurd h' (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownFacts : Pipeline.OwnSemFacts spec0 osem := by decide +kernel

/-- The buffers that the region leaves alone. -/
abbrev others : Finset (DevRef τ sig) := Pipeline.ucRefs τ sig \ Pipeline.arrRefs spec0

theorem arrs_sub : Pipeline.arrRefs spec0 ⊆ Pipeline.ucRefs τ sig := Pipeline.arrRefs_sub_ucRefs spec0 (by decide)

theorem others_same (c : Dev nD) (b : DevRef τ sig) (hb : b ∈ others \ ∅) : VE m c b = V1 m c b := by
  refine Function.update_of_ne ?_ _ _
  rintro rfl
  rw [Finset.sdiff_empty] at hb
  refine (Finset.mem_sdiff.1 hb).2 ?_
  exact Finset.mem_map.2 ⟨main_v20, Finset.mem_image.2 ⟨5, Finset.mem_univ _, rfl⟩, rfl⟩

theorem arrs_in (c : Dev nD) (w : Fin 6) : (dat (fun c => V1 m c) c).arrAt w cfg0.N = VE m c (Proc.devRef .tc (Pipeline.arrRef spec0 w)) := by
  match w with
  | 0 => exact ((dat (fun c => V1 m c) c).arrAt_in 0 rfl _).trans (V2_of m (outV m) c main_v5 (by decide)).symm
  | 1 => exact ((dat (fun c => V1 m c) c).arrAt_in 1 rfl _).trans (V2_of m (outV m) c main_v10 (by decide)).symm
  | 2 => exact ((dat (fun c => V1 m c) c).arrAt_in 2 rfl _).trans (V2_of m (outV m) c main_v17 (by decide)).symm
  | 3 => exact ((dat (fun c => V1 m c) c).arrAt_in 3 rfl _).trans (V2_of m (outV m) c main_v19 (by decide)).symm
  | 4 => exact ((dat (fun c => V1 m c) c).arrAt_in 4 rfl _).trans (V2_of m (outV m) c main_v15 (by decide)).symm
  | 5 => exact (arrAt_5 (fun c => V1 m c) c).trans (VE_res m c).symm

theorem share_all (V : (c : Dev nD) → Valuation τ sig (Elt F)) (c : Dev nD) (w : Fin 6) : (dat V c).share w = fullShare := by
  match w with
  | 0 => rfl
  | 1 => rfl
  | 2 => rfl
  | 3 => rfl
  | 4 => rfl
  | 5 => rfl

set_option backward.isDefEq.respectTransparency.types false in
/-- The kernel's region of the program, as the launch asks for it. -/
def reg : Pipeline.RegionSeg (pcfgs (F := F)) adm (pdats fun c => V1 m c) 0 (defs₀ (F := F)) 𝒱₀ (SiteBlocks.L 10) SiteBlocks.lv 0 :=
  Pipeline.RegionSeg.ofTalk (pcfgs (F := F)) adm (pdats fun c => V1 m c) 0 (defs₀ (F := F)) 𝒱₀ (SiteBlocks.L 10) SiteBlocks.lv 0 osem ownFacts
    ∅ others (Finset.empty_subset _) kitP rfl (fun c => (body_obligation (fun c => V1 m c) c).loose)
    (fun _ => 0) O₀ (fun c => (zero_add (O₀ c)).symm) (fun _ => rfl) (fun _ => rfl) (share_all fun c => V1 m c)
    (fun c => V1 m c) (VE m) (others_same m)
    (Tk (insOf m)) (Yk (insOf m)) (Xk (insOf m)) (Yk (insOf m)) (hopen (insOf m)) (fun c => hin (fun c => V1 m c) c _) (fun c => hout (fun c => V1 m c) c _)
    (fun c => by iintro H; imodintro; iexact H)
    (fun _ => 0) ⟨fun c _ _ => SiteBlocks.mem_L c _ (by decide), fun _ _ _ => le_refl 0, fun c t g i h => cut m c t g i h⟩
    (fun _ => iprop(emp)) (fun _ _ => rfl) (arrs_in m)

/-! ## The launch -/

/-- What the run carries beside the buffers: before the kernel, after it. -/
def E : Fin 2 → Dev nD → sProp 𝕄 :=
  ![fun c => iprop((∃ r, prngReg c r) ∗ Tk (insOf m) c ∗ ∃ W, owes (c : Thread nD τ) (O₀ c) W),
    fun c => iprop((∃ r, prngReg c r) ∗ Yk (insOf m) c ∗ ∃ W, owes (c : Thread nD τ) (0 : CellTallies nD τ sig ℕ) W)]

theorem pre0 (c : Dev nD) : iprop(StableHlo.held (c : Thread nD τ) (Pipeline.ucRefs τ sig) (V1 m c) ∗ E m 0 c) ⊢ (reg m).pre c := by
  show iprop(StableHlo.held (c : Thread nD τ) (Pipeline.ucRefs τ sig) (V1 m c) ∗ ((∃ r, prngReg c r) ∗ Tk (insOf m) c ∗ ∃ W, owes (c : Thread nD τ) (O₀ c) W))
    ⊢ iprop(StableHlo.held (c.tc : Thread nD τ) (Pipeline.arrRefs spec0) (V1 m c) ∗ (∃ r, prngReg c r)
      ∗ (StableHlo.held (c.tc : Thread nD τ) others (V1 m c) ∗ emp) ∗ Tk (insOf m) c ∗ ∃ Wd, owes (c : Thread nD τ) (0 + O₀ c) Wd)
  rw [StableHlo.held_sub_split (c.tc : Thread nD τ) arrs_sub (V1 m c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem post0 (c : Dev nD) : (reg m).post c ⊢ iprop(StableHlo.held (c : Thread nD τ) (Pipeline.ucRefs τ sig) (VE m c) ∗ E m 1 c) := by
  show iprop(StableHlo.held (c.tc : Thread nD τ) (Pipeline.arrRefs spec0) (VE m c) ∗ (∃ r, prngReg c r)
      ∗ (StableHlo.held (c.tc : Thread nD τ) others (VE m c) ∗ emp) ∗ Yk (insOf m) c ∗ ∃ Wd, owes (c : Thread nD τ) (0 : CellTallies nD τ sig ℕ) Wd)
    ⊢ iprop(StableHlo.held (c : Thread nD τ) (Pipeline.ucRefs τ sig) (VE m c) ∗ ((∃ r, prngReg c r) ∗ Yk (insOf m) c ∗ ∃ W, owes (c : Thread nD τ) (0 : CellTallies nD τ sig ℕ) W))
  rw [StableHlo.held_sub_split (c.tc : Thread nD τ) arrs_sub (VE m c)]
  iintro ⟨Ha, Hp, ⟨Hr, -⟩, HT, HO⟩
  isplitl [Ha Hr]
  · isplitl [Ha]; · iexact Ha
    iexact Hr
  isplitl [Hp]; · iexact Hp
  isplitl [HT]; · iexact HT
  iexact HO

/-- A resource, all of it on device `c₀`. -/
def lone (c₀ : Dev nD) (P : sProp 𝕄) (c : Dev nD) : sProp 𝕄 := if c = c₀ then P else iprop(emp)
theorem bigSep_lone (c₀ : Dev nD) (P : sProp 𝕄) : bigSep Finset.univ (lone c₀ P) = P := by
  rw [bigSep_univ_at _ c₀, bigSep_congr (s := Finset.univ.erase c₀) (Ψ := fun _ => (BI.emp : sProp 𝕄))
    fun c hc => by unfold lone; rw [if_neg (Finset.ne_of_mem_erase hc)]; rfl, BI.bigSep_emp_const]
  unfold lone; rw [if_pos rfl]
  exact BI.equiv_iff.mp sep_emp

/-- The conversation's launch element, kept on one device until the launch is over. -/
def G : Dev nD → sProp 𝕄 := lone 0 (BI.own (ER (launchOf fam.S fam.Sd fam.T)))
def u₀ : UU :=
  (initOf (Pipeline.cells (Pipeline.pin (pcfgs (F := F)) adm) cellOf_inj) (Pipeline.launchToks (Pipeline.pin (pcfgs (F := F)) adm) cellOf_inj),
    launchOf fam.S fam.Sd fam.T)

theorem sems0 (c : Dev nD) : (unscopedSems0 c : sProp 𝕄) = semVal (cell c sB) 0 := by
  unfold unscopedSems0
  rw [show (Finset.univ.filter fun sm : SemLoc sig => ¬ sm.isScoped .tc) = {sB} from by decide +kernel, BI.bigSep_singleton]

/-- The barriers' counters and the launch element make every device's part. -/
theorem fund (X : Dev nD → Ins F) : iprop((bigSep Finset.univ fun c : Dev nD => iprop(semVal (cell c sB) 0 ∗ Pipeline.launchCred O₀ c)) ∗ BI.own (ER (launchOf fam.S fam.Sd fam.T)))
    ⊢ (|={Set.univ}=> bigSep Finset.univ fun c : Dev nD => iprop(Pipeline.launchCred O₀ c ∗ fam.launched ER (Rd X) (fun _ => Finset.univ) c) : sProp 𝕄) := by
  have h := pass O₀ (Fam.funds fam ER (Rd X) (fun g _ h => h) (fun _ => Finset.univ) (Es := Set.univ))
  simp only [zero_add] at h
  exact h

theorem hE0 : iprop((bigSep Finset.univ fun c : Dev nD => iprop(unscopedSems0 c ∗ owes (c : Thread nD τ) (O₀ c) ∅ ∗ Pipeline.launchCred O₀ c ∗ prngReg c (ρ c) ∗ G c))
      ∗ levAts (SiteBlocks.L 10) SiteBlocks.lv)
    ⊢ (|={Set.univ}=> bigSep Finset.univ (E m 0) : sProp 𝕄) := by
  have h1 (c : Dev nD) : iprop(unscopedSems0 c ∗ owes (c : Thread nD τ) (O₀ c) ∅ ∗ Pipeline.launchCred O₀ c ∗ prngReg c (ρ c) ∗ G c)
      ⊢ (iprop((semVal (cell c sB) 0 ∗ Pipeline.launchCred O₀ c) ∗ (G c ∗ ((∃ r, prngReg c r) ∗ ∃ W, owes (c : Thread nD τ) (O₀ c) W))) : sProp 𝕄) := by
    rw [sems0]
    iintro ⟨Hs, HO, Hc, Hp, HG⟩
    isplitl [Hs Hc]
    · isplitl [Hs]; · iexact Hs
      iexact Hc
    isplitl [HG]; · iexact HG
    isplitl [Hp]; · iexists (ρ c); iexact Hp
    iexists ∅; iexact HO
  have h2 (c : Dev nD) : iprop((Pipeline.launchCred O₀ c ∗ fam.launched ER (Rd (insOf m)) (fun _ => Finset.univ) c)
        ∗ ((∃ r, prngReg c r) ∗ ∃ W, owes (c : Thread nD τ) (O₀ c) W)) ⊢ (E m 0 c : sProp 𝕄) := by
    show _ ⊢ iprop((∃ r, prngReg c r) ∗ Tk (insOf m) c ∗ ∃ W, owes (c : Thread nD τ) (O₀ c) W)
    unfold Tk
    iintro ⟨⟨Hc, Hl⟩, Hp, HO⟩
    isplitl [Hp]; · iexact Hp
    isplitl [Hc Hl]
    · isplitl [Hl]; · iexact Hl
      iexact Hc
    iexact HO
  have h1' : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => iprop(semVal (cell c sB) 0 ∗ Pipeline.launchCred O₀ c)) ∗ bigSep Finset.univ G
        ∗ bigSep Finset.univ fun c : Dev nD => iprop((∃ r, prngReg c r) ∗ ∃ W, owes (c : Thread nD τ) (O₀ c) W)) : sProp 𝕄) := by
    rw [← bigSep_sep', ← bigSep_sep']; exact bigSep_mono fun c _ => h1 c
  have h2' : iprop((bigSep Finset.univ fun c : Dev nD => iprop(Pipeline.launchCred O₀ c ∗ fam.launched ER (Rd (insOf m)) (fun _ => Finset.univ) c))
        ∗ bigSep Finset.univ fun c : Dev nD => iprop((∃ r, prngReg c r) ∗ ∃ W, owes (c : Thread nD τ) (O₀ c) W)) ⊢ (bigSep Finset.univ (E m 0) : sProp 𝕄) := by
    rw [← bigSep_sep']; exact bigSep_mono fun c _ => h2 c
  iintro ⟨H, -⟩
  ihave H' := h1' $$ H
  icases H' with ⟨Hv, HG, Hr⟩
  ihave Hu := (show bigSep Finset.univ (G (F := F)) ⊢ BI.own (ER (launchOf fam.S fam.Sd fam.T)) from
    BIBase.Entails.of_eq (bigSep_lone 0 (BI.own (ER (launchOf fam.S fam.Sd fam.T))))) $$ HG
  imod (fund (insOf m)) $$ [Hv Hu] with Hl
  · isplitl [Hv]; · iexact Hv
    iexact Hu
  imodintro
  iapply h2'
  isplitl [Hl]; · iexact Hl
  iexact Hr

theorem unscoped_bar : ∀ sm : SemLoc sig, sm.isScoped .tc = false → sm = sB := by decide +kernel

theorem bar_done (X : Dev nD → Ins F) (c : Dev nD) : (Rd X).duties (cell c sB) 1 = ∅ := Sched.later sB dorm rowsA nR hok (pay X) _ 1 le_rfl

/-! ## The run -/

/-- What a final memory holds on device `c`. -/
def Final (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v20) = outC (insOf m) c

theorem hfin (c : Dev nD) (s' : Phys nD τ sig (Elt F)) :
    iprop((StableHlo.held (c : Thread nD τ) (Pipeline.ucRefs τ sig) (VE m c) ∗ Yk (insOf m) c) ∗ SI s')
      ⊢ (|={Set.univ}=> iprop(⌜Final m c s'.mem ∧ s'.mem.sem (cell c sB) = 0⌝ ∗ SI s') : sProp 𝕄) := by
  unfold StableHlo.held
  iintro ⟨⟨Hh, HY⟩, HSI⟩
  ihave Hr := (pointsTo_read_all (Pipeline.ucRefs τ sig) (fun b => ((c : Thread nD τ).1, b)) (VE m c) s') $$ [Hh HSI]
  · isplitl [Hh] <;> iassumption
  icases Hr with ⟨%h, HSI⟩
  unfold Yk
  imod (Fam.barPos_read fam ER (Rd (insOf m)) c (bar_done (insOf m) c) ∅ s') $$ [HY HSI] with ⟨%hb, HSI⟩
  · isplitl [HY] <;> iassumption
  imodintro
  isplitr
  · ipureintro
    have at' (r : Ref sig .tc) (hr : ¬ (Proc.devRef (τ := τ) .tc r).isScoped) := h (Proc.devRef .tc r) (Finset.mem_filter.mpr ⟨StableHlo.devRef_mem_tcRefs r, hr⟩)
    exact ⟨⟨⟨(at' main_arg0 (by decide)).trans (V2_main_arg0 m (outV m) c), (at' main_arg1 (by decide)).trans (V2_main_arg1 m (outV m) c),
      (at' main_arg2 (by decide)).trans (V2_main_arg2 m (outV m) c), (at' main_arg3 (by decide)).trans (V2_main_arg3 m (outV m) c),
      (at' main_arg4 (by decide)).trans (V2_main_arg4 m (outV m) c)⟩, (at' main_v20 (by decide)).trans (VE_res m c)⟩, hb⟩
  · iexact HSI

set_option backward.isDefEq.respectTransparency.types false in
/-- Every fair run of the program ends, every array that it was given as it was, the result what `outC` says, every counter zero. -/
theorem run_main : θ_run (defs (F := F)) (onTc (τ := τ) (main (F := F))) ⟨m, fun _ => 0, ρ⟩
    (fun r => (∀ c : Dev nD, Final m c r.2) ∧ r.2.sem = fun _ => 0) := by
  refine Pipeline.θ_run_regions_kit_dev_sems (pcfgs (F := F)) adm (pdats fun c => V1 m c) 0 cellOf_inj EP (defs₀ (F := F)) 𝒱₀ (SiteBlocks.L 10) SiteBlocks.lv m ρ main
    (segs m 𝒱₀ (SiteBlocks.L 10) SiteBlocks.lv (E m) 0 (pdats fun c => V1 m c) (reg m))
    (fun c Q => by
      rewrite [main_chain c, Pipeline.Seg.run_eq_chain,
        show (segs m 𝒱₀ (SiteBlocks.L 10) SiteBlocks.lv (E m) 0 (pdats fun c => V1 m c) (reg m) c).map Seg.prog = [
          StableHlo.seq (hostOps0 c),
          Prog.lift (.customCall (Pipeline.entry 0) ()) ] from rfl]
      exact .rfl)
    (fun c => by simp only [segs, Seg.pipes_host, Seg.pipes_region, Seg.pipes_nil]; decide) O₀ (SiteBlocks.hL 10) (G (F := F)) (u₀ (F := F)) ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (VE m c) ∗ Yk (insOf m) c))
    (hch := fun c => ⟨.rfl, pre0 m c, (post0 m c).trans ?_⟩)
    (hinit := ?_) (QY := fun c s => Final m c s ∧ s.sem (cell c sB) = 0) (hfin := hfin m) (hQ := fun s h hs => ⟨fun c => (h c).1, ?_⟩)
  · unfold u₀ G
    iintro Hu
    ihave H := (ownU_pair _ _) $$ Hu
    icases H with ⟨HP, HX⟩
    imodintro
    isplitl [HP]; · iexact HP
    rw [bigSep_lone]; iexact HX
  · show iprop(StableHlo.held (c : Thread nD τ) (Pipeline.ucRefs τ sig) (VE m c) ∗ ((∃ r, prngReg c r) ∗ Yk (insOf m) c ∗ ∃ W, owes (c : Thread nD τ) (0 : CellTallies nD τ sig ℕ) W))
      ⊢ iprop((StableHlo.held (c : Thread nD τ) (Pipeline.ucRefs τ sig) (VE m c) ∗ Yk (insOf m) c) ∗ ∃ W, owes (c.tc : Thread nD τ) (0 : CellTallies nD τ sig ℕ) W)
    iintro ⟨Hh, -, HY, HO⟩
    isplitl [Hh HY]
    · isplitl [Hh]; · iexact Hh
      iexact HY
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (hE0 m ρ) $$ [Hr Hla] with HE
    · isplitl [Hr]; · iexact Hr
      iexact Hla
    imodintro
    rw [bigSep_sep']
    isplitl [Hh]; · iexact Hh
    iexact HE
  · exact sem_eq_zero hs fun c sm hsm => by
      obtain rfl := unscoped_bar sm hsm
      exact (h c).2

end Cert.KernelIdeal.Own

end
-- ==== Proof.Frames.lean ====
/- The frames of the two kernels, from the one run; the named constant's rule. -/
module

public import proofs.«01_k».proof.Defs
public import proofs.«01_k».proof.Proof.Gen.Kernel
public import proofs.«01_k».proof.Proof.Run

@[expose] public section

noncomputable section

namespace Cert.Proof.Frames

open Idealize.ShloMosaic Idealize.SL.Sem

/-- On hardware floats a named constant is the pattern it was printed as. -/
@[instance_reducible] def namedBits : Named Bits where
  named _ _ {φ} b := FloatOps.ofBits φ b

/-- The run's post condition, its values dropped. -/
theorem frame {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3)
        ∧ r.2.mem ((c.tc : Thread _ Cert.KernelIdeal.τ).loc Cert.KernelIdeal.main_arg4) = m ((c.tc : Thread _ Cert.KernelIdeal.τ).loc Cert.KernelIdeal.main_arg4))
        ∧ r.2.sem = fun _ => 0) :=
  (θ_run Cert.KernelIdeal.defs _ _).mono (fun _ h => ⟨fun c => (h.1 c).1, h.2⟩) (Cert.KernelIdeal.Own.run_main (F := F) m ρ)

theorem frame_pi : Cert.quiescent_KernelIdeal := fun m ρ _ => frame (F := Ideal) m ρ

local instance : Named Bits := namedBits

set_option maxHeartbeats 0 in
/-- The two programs have the same kernel, the mask's constant read as its pattern. -/
theorem same_body : Cert.KernelIdeal.cc0__body (F := Bits) = Cert.Kernel.cc0__body (F := Bits) := rfl

theorem same_defs₀ : Cert.KernelIdeal.defs₀ (F := Bits) = Cert.Kernel.defs₀ (F := Bits) := congrArg Defs.onTc (by
  funext l ts
  match l, ts with
  | 0, (t, s) =>
    show Cert.KernelIdeal.cc0__body .. = Cert.Kernel.cc0__body ..
    rw [same_body])

theorem same_defs : Cert.KernelIdeal.defs (F := Bits) = Cert.Kernel.defs (F := Bits) :=
  show Pipeline.defs Cert.KernelIdeal.pcfgs (Cert.KernelIdeal.defs₀ (F := Bits)) = Pipeline.defs Cert.Kernel.pcfgs (Cert.Kernel.defs₀ (F := Bits)) from
    congrArg (Pipeline.defs Cert.Kernel.pcfgs) same_defs₀

theorem same_main : Cert.KernelIdeal.main (F := Bits) = Cert.Kernel.main (F := Bits) := rfl

theorem frame_p : Cert.quiescent_Kernel := fun m ρ _ => by
  have h := frame (F := Bits) m ρ
  rw [same_defs, same_main] at h
  exact h

/-- The mask's literal stands for −∞. -/
theorem preserves : Cert.preserves_Kernel_KernelIdeal :=
  IdealRules.named_const.statement Cert.KernelIdeal.κ "mask" .f32 0xCE6E6B28#32 ⊥ rfl

end Cert.Proof.Frames

end
-- ==== Proof.Weights.lean ====
/-
  Softmax weights over the extended reals.

  Scores are real and some keys are masked. The kernel divides the weighted sum of the values by the sum of the
  weights, over the keys that it reads; the reference shifts every score by the row's maximum, divides each weight by
  the sum of all weights and then sums. Both come to the same sum of values, each times a real weight.
-/
module

public import Idealize.ShloMosaic.PureOps.Ideal
public import Idealize.ShloMosaic.Lib.FinSumWindow

@[expose] public section

noncomputable section

open scoped BigOperators

namespace Cert.Proof.Weights

open Idealize.ShloMosaic

/-- The real that the scale's literal denotes. -/
def SC : ℝ := (Ideal.ofBits .f32 0x3DB504F3#32).toReal

theorem ofBits_SC : Ideal.ofBits .f32 0x3DB504F3#32 = (SC : EReal) := by
  have h : ∃ r : ℝ, Ideal.ofBits .f32 0x3DB504F3#32 = (r : EReal) := by
    unfold Ideal.ofBits
    simp [Ideal.ieee]
    exact ⟨_, rfl⟩
  obtain ⟨r, hr⟩ := h
  rw [SC, hr, EReal.toReal_coe]

/-- A row attends to a key when the key's block of 64 is not after the row's. -/
abbrev keep (R : Fin 1024) (j : Fin 1024) : Prop := j.val / 64 ≤ R.val / 64

/-- A sum of reals is the same sum in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A product with a nonnegative real distributes over any sum of extended reals. -/
theorem sum_mul_coe {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert b s h ih =>
    rw [Finset.sum_insert h, Finset.sum_insert h, ← ih,
      EReal.right_distrib_of_nonneg_of_ne_top (by exact_mod_cast ha) (EReal.coe_ne_top _)]

/-- A sum of real products is the product's sum, taken in the extended reals. -/
theorem sum_mul_coe_coe {ι : Type} (s : Finset ι) (f g : ι → ℝ) :
    ∑ i ∈ s, (f i : EReal) * (g i : EReal) = ((∑ i ∈ s, f i * g i : ℝ) : EReal) := by
  rw [← sum_coe]; exact Finset.sum_congr rfl fun i _ => (EReal.coe_mul _ _).symm

section
variable {n : ℕ} (P : Fin n → Prop) [DecidablePred P] (s : Fin n → ℝ)

/-- A key's weight: the exponential of its score where it is not masked, zero where it is. -/
def wt (j : Fin n) : ℝ := if P j then Real.exp (s j) else 0

/-- The sum of the weights. -/
def den : ℝ := ∑ j, wt P s j

theorem wt_nonneg (j : Fin n) : 0 ≤ wt P s j := by
  unfold wt; split
  · exact (Real.exp_pos _).le
  · exact le_refl _

theorem den_pos (h : ∃ j, P j) : 0 < den P s := by
  obtain ⟨j, hj⟩ := h
  refine Finset.sum_pos' (fun i _ => wt_nonneg P s i) ⟨j, Finset.mem_univ _, ?_⟩
  unfold wt; rw [if_pos hj]; exact Real.exp_pos _

/-- What attention gives at a row: each value times its real weight. -/
def attn (v : Fin n → EReal) : EReal := ∑ j, v j * ((wt P s j / den P s : ℝ) : EReal)

/-- The exponential of a score with the mask's minus infinity added is the key's weight. -/
theorem exp_bias (j : Fin n) : Ideal.exp ((s j : EReal) + (if P j then 0 else ⊥)) = (wt P s j : EReal) := by
  unfold wt
  by_cases h : P j
  · rw [if_pos h, if_pos h, add_zero, Ideal.exp_coe]
  · rw [if_neg h, if_neg h, EReal.add_bot, Ideal.exp_bot, EReal.coe_zero]

/-- A sum over all keys of a term that vanishes from key `K` on is the sum over the first `K`. -/
theorem sum_first {M : Type*} [AddCommMonoid M] {K : ℕ} (hK : K ≤ n) (f : Fin n → M) (h : ∀ j, K ≤ j.val → f j = 0) :
    ∑ j, f j = ∑ j : Fin K, f (Fin.castLE hK j) := by
  rw [FinSumWindow.sum_window 0 (by omega : 0 + K ≤ n) f (fun j hj => h j (by omega))]
  exact Finset.sum_congr rfl fun j _ => congrArg f (Fin.ext (Nat.zero_add _))

/-- The kernel's ratio over the first `K` keys, the others being masked. -/
theorem ratio_eq {K : ℕ} (hK : K ≤ n) (hP : ∀ j, P j → j.val < K) (hne : ∃ j, P j) (v : Fin n → EReal) :
    Ideal.div (∑ j : Fin K, (wt P s (Fin.castLE hK j) : EReal) * v (Fin.castLE hK j)) (∑ j : Fin K, (wt P s (Fin.castLE hK j) : EReal))
      = attn P s v := by
  have z : ∀ j : Fin n, K ≤ j.val → wt P s j = 0 := fun j hj => if_neg fun h => absurd (hP j h) (by omega)
  have hD := den_pos P s hne
  rw [← sum_first hK (fun j => (wt P s j : EReal) * v j) (fun j hj => by simp [z j hj]),
    ← sum_first hK (fun j => (wt P s j : EReal)) (fun j hj => by simp [z j hj]), sum_coe]
  show Ideal.div _ ((den P s : ℝ) : EReal) = _
  rw [Ideal.div_coe hD.ne', sum_mul_coe _ _ (by positivity)]
  refine Finset.sum_congr rfl fun j _ => ?_
  rw [mul_comm (wt P s j : EReal) (v j), mul_assoc, ← EReal.coe_mul, mul_one_div]

/-- The reference's masked score. -/
def msk (j : Fin n) : EReal := if P j then (s j : EReal) else ⊥

/-- The exponential of a masked score less a real is the key's weight scaled. -/
theorem exp_shift (M : ℝ) (j : Fin n) : Ideal.exp (msk P s j - (M : EReal)) = ((wt P s j * Real.exp (-M) : ℝ) : EReal) := by
  unfold msk wt
  by_cases h : P j
  · rw [if_pos h, if_pos h, ← EReal.coe_sub, Ideal.exp_coe, sub_eq_add_neg, Real.exp_add]
  · rw [if_neg h, if_neg h, EReal.bot_sub, Ideal.exp_bot, zero_mul, EReal.coe_zero]

/-- The reference's weighted sum. -/
theorem weighted_eq (M : ℝ) (hne : ∃ j, P j) (v : Fin n → EReal) :
    ∑ j, v j * Ideal.div (Ideal.exp (msk P s j - (M : EReal))) (0 + ∑ i, Ideal.exp (msk P s i - (M : EReal))) = attn P s v := by
  have hD := den_pos P s hne
  have he := Real.exp_pos (-M)
  have hs : 0 + ∑ i, Ideal.exp (msk P s i - (M : EReal)) = ((den P s * Real.exp (-M) : ℝ) : EReal) := by
    rw [zero_add, Finset.sum_congr rfl fun i _ => exp_shift P s M i, sum_coe, ← Finset.sum_mul]; rfl
  refine Finset.sum_congr rfl fun j _ => ?_
  rw [hs, exp_shift, Ideal.div_coe (by positivity), ← EReal.coe_mul]
  congr 2
  field_simp

/-- A fold of `max` from minus infinity over values none of which is plus infinity and one of which is real. -/
theorem foldl_max_real {ι : Type} (f : ι → EReal) (l : List ι) (h : ∀ i ∈ l, f i ≠ ⊤) (h' : ∃ i ∈ l, f i ≠ ⊥) :
    ∃ M : ℝ, l.foldl (fun r i => max r (f i)) ⊥ = (M : EReal) := by
  have up : ∀ (l : List ι) (a : EReal), a ≤ l.foldl (fun r i => max r (f i)) a ∧ ∀ i ∈ l, f i ≤ l.foldl (fun r i => max r (f i)) a := by
    intro l; induction l with
    | nil => intro a; simp
    | cons b l ih =>
      intro a
      obtain ⟨h1, h2⟩ := ih (max a (f b))
      refine ⟨(le_max_left _ _).trans h1, fun i hi => ?_⟩
      rcases List.mem_cons.1 hi with rfl | hi
      · exact (le_max_right _ _).trans h1
      · exact h2 i hi
  have lo : ∀ (l : List ι) (a : EReal), a ≠ ⊤ → (∀ i ∈ l, f i ≠ ⊤) → l.foldl (fun r i => max r (f i)) a ≠ ⊤ := by
    intro l; induction l with
    | nil => intro a ha _; exact ha
    | cons b l ih =>
      intro a ha hl
      refine ih _ ?_ fun i hi => hl i (List.mem_cons_of_mem _ hi)
      show max a (f b) ≠ ⊤
      rcases max_choice a (f b) with e | e <;> rw [e]
      · exact ha
      · exact hl b List.mem_cons_self
  obtain ⟨i, hi, hb⟩ := h'
  refine ⟨(l.foldl (fun r i => max r (f i)) ⊥).toReal, (EReal.coe_toReal (lo l ⊥ bot_ne_top h) ?_).symm⟩
  intro e
  exact hb (le_bot_iff.1 (e ▸ (up l ⊥).2 i hi))

end

end Cert.Proof.Weights

end
-- ==== Proof.KerValue.lean ====
/-
  What the kernel computes, read at an entry over the extended reals.

  From real tokens, query columns and keys, a device's context of head `h` at row `R` is the softmax-weighted sum of
  the head's values, a key masked when its block of 64 is after the row's. A device's partial product at row `R` is
  the sum over its heads and their 128 columns of that context times its rows of `Wo`.
-/
module

public import proofs.«01_k».proof.Proof.Spec
public import proofs.«01_k».proof.Proof.Weights
public import Idealize.ShloMosaic.Lib.MatmulPlain
public import Idealize.ShloMosaic.Lib.IdealHost
public import Idealize.ShloMosaic.PureOps.Ideal.Laws
public import Idealize.ShloMosaic.Lib.Pipeline.Value

@[expose] public section

noncomputable section

open scoped BigOperators

namespace Cert.KernelIdeal.Own

open Idealize.ShloMosaic Idealize.ShloMosaic.ValueIdx
open Cert.KernelIdeal Cert.KernelIdeal.Gen Cert.Proof.Weights

/-- The rectangle of a staged buffer read at an entry. -/
theorem ld_apply {M : Memref sig .tc .vmem S1024x1024 .bf16} (e : M = mX ∨ M = mQ ∨ M = mK ∨ M = mV ∨ M = mW)
    (f : Vec Ideal S1024x1024 .bf16) (o0 o1 n0 n1 : ℕ) (g : M.view.ty.Contents (Elt Ideal)) (hg : HEq g f)
    (inb : ∀ a, (![o0, o1] : Fin 2 → ℕ) a + (![n0, n1] : Fin 2 → ℕ) a ≤ S1024x1024.size a) (a : Fin n0) (b : Fin n1) (h0 : o0 + a.val < 1024) (h1 : o1 + b.val < 1024) :
    (ld (F := Ideal) M g ![o0, o1] ![n0, n1] inb : (⟨2, ![n0, n1]⟩ : Shape).Idx → EReal) (ix2 a b)
      = f (ix2 (⟨o0 + a.val, h0⟩ : Fin 1024) (⟨o1 + b.val, h1⟩ : Fin 1024)) := by
  rcases e with rfl | rfl | rfl | rfl | rfl <;>
  · obtain rfl := eq_of_heq hg
    refine congrArg g (funext fun d => ?_)
    apply Fin.ext
    match d with
    | ⟨0, _⟩ => show o0 + 1 * a.val = o0 + a.val; omega
    | ⟨1, _⟩ => show o1 + 1 * b.val = o1 + b.val; omega

/-- Column `t` of head `h`, of a device's eight. -/
def col (h : Fin 8) (t : Fin 128) : Fin 1024 := ⟨128 * h.val + t.val, by have := h.isLt; have := t.isLt; omega⟩

/-- Head `h`'s score of key `j` at row `R`. -/
def score (xr qr kr : Fin 1024 → Fin 1024 → ℝ) (R : Fin 1024) (h : Fin 8) (j : Fin 1024) : ℝ :=
  ∑ t : Fin 128, ((∑ i, xr R i * qr i (col h t)) * SC) * kr j (col h t)

section
variable (I : Ins Ideal) (xr qr kr : Fin 1024 → Fin 1024 → ℝ)

/-- Head `h`'s context at row `R`, column `t`. -/
def ctxv (R : Fin 1024) (h : Fin 8) (t : Fin 128) : EReal :=
  attn (keep R) (score xr qr kr R h) (fun j => I.v (ix2 j (col h t)))

/-- A device's partial product: its heads' contexts through its rows of `Wo`. -/
def devPart (R c : Fin 1024) : EReal := ∑ h : Fin 8, ∑ t : Fin 128, ctxv I xr qr kr R h t * I.wo (ix2 (col h t) c)

theorem qOf_apply (hx : ∀ R i, I.x (ix2 R i) = (xr R i : EReal)) (hq : ∀ i a, I.wq (ix2 i a) = (qr i a : EReal)) (R a : Fin 1024) :
    (qOf (F := Ideal) I : S1024x1024.Idx → EReal) (ix2 R a) = (((∑ i, xr R i * qr i a) * SC : ℝ) : EReal) := by
  have hX : ∀ i, (ld (F := Ideal) mX I.x ![0, 0] S1024x1024.size inb_S1024x1024_S1024x1024_0_0 : S1024x1024.Idx → EReal) (ix2 R i) = (xr R i : EReal) := fun i => by
    refine (ld_apply (.inl rfl) I.x 0 0 1024 1024 I.x HEq.rfl _ R i (by have := R.isLt; omega) (by have := i.isLt; omega)).trans ?_
    rw [← hx R i]
    exact congrArg I.x (congrArg₂ ix2 (Fin.ext (Nat.zero_add _)) (Fin.ext (Nat.zero_add _)))
  have hQ : ∀ i, (ld (F := Ideal) mQ I.wq ![0, 0] S1024x1024.size inb_S1024x1024_S1024x1024_0_0 : S1024x1024.Idx → EReal) (ix2 i a) = (qr i a : EReal) := fun i => by
    refine (ld_apply (.inr (.inl rfl)) I.wq 0 0 1024 1024 I.wq HEq.rfl _ i a (by have := i.isLt; omega) (by have := a.isLt; omega)).trans ?_
    rw [← hq i a]
    exact congrArg I.wq (congrArg₂ ix2 (Fin.ext (Nat.zero_add _)) (Fin.ext (Nat.zero_add _)))
  unfold qOf k0_pay1
  simp only [shapeCast_self]
  refine (congrArg₂ (· * ·) (Ideal.matmul_plain_apply (M := 1024) (K := 1024) (N := 1024) none _ _ _ R a) (ofBits_SC)).trans ?_
  refine (congrArg (· * (SC : EReal)) ((congrArg₂ (· + ·) Ideal.ofBits_zero_f32 (Finset.sum_congr rfl fun i _ => congrArg₂ (· * ·) (hX i) (hQ i))).trans (zero_add _))).trans ?_
  rw [sum_mul_coe_coe, EReal.coe_mul]
end

/-- One head's context at an entry, from the row's scores, its bias and the column of values. -/
theorem headCtx_apply {m : ℕ} (hm : m ≤ 1024) (red : (⟨2, ![256, m]⟩ : Shape).Reduces [1] S256)
    (cast : (⟨2, ![m, 128]⟩ : Shape).ShapeCasts ⟨2, ![m, 128]⟩) (bias : FVec Ideal ⟨2, ![256, m]⟩ .f32) (qh : FVec Ideal S256x128 .bf16)
    (kh vh : Vec Ideal ⟨2, ![m, 128]⟩ .bf16) (i : Fin 256) (a : Fin 128) (P : Fin 1024 → Prop) [DecidablePred P] (s : Fin 1024 → ℝ)
    (v : Fin 1024 → EReal) (hP : ∀ j, P j → j.val < m) (hne : ∃ j, P j)
    (hs : ∀ j : Fin m, ∑ t : Fin 128, (qh (ix2 i t) : EReal) * kh (ix2 j t) = (s (Fin.castLE hm j) : EReal))
    (hb : ∀ j : Fin m, (bias (ix2 i j) : EReal) = if P (Fin.castLE hm j) then 0 else ⊥)
    (hv : ∀ j : Fin m, (vh (ix2 j a) : EReal) = v (Fin.castLE hm j)) :
    (headCtx (F := Ideal) (DotDims.transposedRhs 256 128 m) (DotDims.plain 256 m 128) red cast bias qh kh vh : S256x128.Idx → EReal) (ix2 i a) = attn P s v := by
  unfold headCtx
  simp only [shapeCast_self]
  have he : ∀ j : Fin m, (exp (addf (matmul (DotDims.transposedRhs 256 128 m) none qh (kh : FVec Ideal ⟨2, ![m, 128]⟩ .bf16) (constant ⟨2, ![256, m]⟩ .f32 0x00000000#32)) bias) :
      (⟨2, ![256, m]⟩ : Shape).Idx → EReal) (ix2 i j) = (wt P s (Fin.castLE hm j) : EReal) := fun j => by
    refine Eq.trans ?_ (exp_bias P s (Fin.castLE hm j))
    refine congrArg Ideal.exp (congrArg₂ (· + ·) ?_ (hb j))
    exact (Ideal.matmul_transposedRhs_apply (φ₂ := .bf16) (M := 256) (K := 128) (N := m) none qh kh _ i j).trans ((congrArg₂ (· + ·) Ideal.ofBits_zero_f32 (hs j)).trans (zero_add _))
  refine Eq.trans ?_ (ratio_eq P s hm hP hne v)
  refine congrArg₂ Ideal.div ?_ ?_
  · refine (Ideal.matmul_plain_apply (M := 256) (K := m) (N := 128) none _ _ _ i a).trans ?_
    refine (congrArg₂ (· + ·) Ideal.ofBits_zero_f32 (Finset.sum_congr rfl fun j _ => congrArg₂ (· * ·) (he j) (hv j))).trans (zero_add _)
  · refine (broadcastTo_apply _ _ (ix2 i a) (ix2 i (0 : Fin 1)) (fun b => by match b with | ⟨0, _⟩ => rfl | ⟨1, _⟩ => rfl)).trans ?_
    refine (shapeCast_apply _ _ (ix2 i (0 : Fin 1)) (ix1 i) (by
      show (S256.rowMajor (ix1 i)).val = (S256x1.rowMajor (ix2 i (0 : Fin 1))).val
      rw [Shape.rowMajor_val_one, Shape.rowMajor_val_two]; show i.val = i.val * 1 + 0; omega)).trans ?_
    refine (Ideal.multiReduction_add_single _ _ red (.inl rfl) rfl (ix1 i)).trans ?_
    refine Finset.sum_congr rfl fun j _ => Eq.trans (congrArg _ ?_) (he j)
    funext b
    apply Fin.ext
    match b with
    | ⟨0, _⟩ => rfl
    | ⟨1, _⟩ => rfl

section
variable (I : Ins Ideal) (xr qr kr : Fin 1024 → Fin 1024 → ℝ)

/-- The first `n` heads of a chunk at an entry. -/
theorem heads_apply {m R0 : ℕ} (hm : m ≤ 1024) (hR : m = R0 + 256) (red : (⟨2, ![256, m]⟩ : Shape).Reduces [1] S256)
    (cast : (⟨2, ![m, 128]⟩ : Shape).ShapeCasts ⟨2, ![m, 128]⟩) (bias : FVec Ideal ⟨2, ![256, m]⟩ .f32) (qc : FVec Ideal S256x1024 .bf16)
    (hk : ∀ j a, I.k (ix2 j a) = (kr j a : EReal)) (i : Fin 256) (R : Fin 1024) (hi : R.val = R0 + i.val)
    (h64 : 64 ∣ m)
    (hb : ∀ j : Fin m, (bias (ix2 i j) : EReal) = if j.val / 64 ≤ R.val / 64 then 0 else ⊥)
    (hq : ∀ a : Fin 1024, (qc (ix2 i a) : EReal) = (((∑ i, xr R i * qr i a) * SC : ℝ) : EReal)) (c : Fin 1024) :
    ∀ (n : ℕ) (hn : n ≤ 8), (heads (F := Ideal) I m hm (DotDims.transposedRhs 256 128 m) (DotDims.plain 256 m 128) red cast bias qc n hn :
      S256x1024.Idx → EReal) (ix2 i c) = ∑ h : Fin n, ∑ t : Fin 128, ctxv I xr qr kr R (Fin.castLE hn h) t * I.wo (ix2 (col (Fin.castLE hn h) t) c)
  | 0, _ => (Ideal.ofBits_zero_f32).trans (by simp)
  | n + 1, hn => by
    rw [Fin.sum_univ_castSucc]
    refine congrArg₂ (· + ·) (heads_apply hm hR red cast bias qc hk i R hi h64 hb hq c n (Nat.le_of_succ_le hn)) ?_
    simp only [shapeCast_self]
    refine (Ideal.matmul_plain_apply (M := 256) (K := 128) (N := 1024) none _ _ _ i c).trans ?_
    refine (congrArg₂ (· + ·) Ideal.ofBits_zero_f32 (Finset.sum_congr rfl fun t _ => congrArg₂ (· * ·) ?_ ?_)).trans (zero_add _)
    · refine headCtx_apply hm red cast bias _ _ _ i t (keep R) _ _ (fun j hj => ?_) ⟨R, le_refl _⟩ (fun j => ?_) hb (fun j => ?_)
      · have : j.val / 64 ≤ R.val / 64 := hj
        have := i.isLt
        obtain ⟨w, rfl⟩ := h64
        omega
      · rw [score, ← sum_coe]
        refine Finset.sum_congr rfl fun t _ => ?_
        rw [EReal.coe_mul]
        refine congrArg₂ (· * ·) ?_ ?_
        · refine Eq.trans ?_ (hq (col ⟨n, hn⟩ t))
          refine extractStridedSlice_apply _ _ _ (ix2 i t) (ix2 i (col ⟨n, hn⟩ t)) (fun b => ?_)
          match b with
          | ⟨0, _⟩ => exact (Nat.zero_add _).symm
          | ⟨1, _⟩ => rfl
        · refine (ld_apply (.inr (.inr (.inl rfl))) I.k 0 (128 * n) m 128 I.k HEq.rfl _ j t (by have := j.isLt; omega) (by have := t.isLt; omega)).trans ?_
          rw [← hk]
          exact congrArg I.k (congrArg₂ ix2 (Fin.ext (Nat.zero_add _)) rfl)
      · refine (ld_apply (.inr (.inr (.inr (.inl rfl)))) I.v 0 (128 * n) m 128 I.v HEq.rfl _ j t (by have := j.isLt; omega) (by have := t.isLt; omega)).trans ?_
        exact congrArg I.v (congrArg₂ ix2 (Fin.ext (Nat.zero_add _)) rfl)
    · refine (ld_apply (.inr (.inr (.inr (.inr rfl)))) I.wo (128 * n) 0 128 1024 I.wo HEq.rfl _ t c (by have := t.isLt; omega) (by have := c.isLt; omega)).trans ?_
      exact congrArg I.wo (congrArg₂ ix2 rfl (Fin.ext (Nat.zero_add _)))
end

end Cert.KernelIdeal.Own

end
-- ==== Proof.MaskValue.lean ====
/-
  The kernel's mask, read at an entry over the extended reals: zero where the key's block of 64 is not after the row's,
  minus infinity elsewhere; and the bias of each chunk, zero on the keys before the chunk's own.
-/
module

public import proofs.«01_k».proof.Proof.Spec
public import Idealize.ShloMosaic.Lib.IdealHost
public import Idealize.ShloMosaic.Lib.Pipeline.Value

@[expose] public section

noncomputable section

namespace Cert.KernelIdeal.Own

open Idealize.ShloMosaic Idealize.ShloMosaic.ValueIdx
open Cert.KernelIdeal Cert.KernelIdeal.Gen

/-- The quotient by 64 rounded down, as the kernel computes it from the quotient rounded to zero. -/
abbrev kdiv {s : Shape} (x : IVec s 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt 64#32 0#32)) (Scalar.extui (Scalar.cmpi .slt 64#32 0#32)))))
    (cmpi .ne (remsi x (broadcast s 64#32)) (broadcast s 0#32)))
    (subi (divsi x (broadcast s 64#32)) (broadcast s 1#32)) (divsi x (broadcast s 64#32))

theorem kdiv_word : ∀ i : Fin 256, kdiv (s := ⟨0, ![]⟩) (fun _ => BitVec.ofNat 32 i.val) (fun a => a.elim0) = BitVec.ofNat 32 (i.val / 64) := by
  decide +kernel

theorem sle_word : ∀ a b : Fin 16, IntOp.cmpi .sle (BitVec.ofNat 32 a.val) (BitVec.ofNat 32 b.val) = if a.val ≤ b.val then 1#1 else 0#1 := by
  decide +kernel

theorem maskV_apply (i j : Fin 256) : (maskV (F := Ideal) : S256x256.Idx → EReal) (ix2 i j) = if j.val / 64 ≤ i.val / 64 then 0 else ⊥ := by
  have h : (maskV (F := Ideal) : S256x256.Idx → EReal) (ix2 i j)
      = if IntOp.cmpi .sle (kdiv (s := ⟨0, ![]⟩) (fun _ => iota .tc S256x256 32 [1] iota_S256x256_d1_w32 (ix2 i j)) (fun a => a.elim0))
          (kdiv (s := ⟨0, ![]⟩) (fun _ => iota .tc S256x256 32 [0] iota_S256x256_d0_w32 (ix2 i j)) (fun a => a.elim0)) = 1#1
        then Ideal.ofBits .f32 0x00000000#32 else (Named.named κ "mask" 0xCE6E6B28#32 : Ideal .f32) := rfl
  rw [h, iota_single_apply, iota_single_apply]
  show (if IntOp.cmpi .sle (kdiv (s := ⟨0, ![]⟩) (fun _ => BitVec.ofNat 32 j.val) (fun a => a.elim0))
          (kdiv (s := ⟨0, ![]⟩) (fun _ => BitVec.ofNat 32 i.val) (fun a => a.elim0)) = 1#1 then _ else _) = _
  rw [kdiv_word, kdiv_word, sle_word ⟨j.val / 64, by have := j.isLt; omega⟩ ⟨i.val / 64, by have := i.isLt; omega⟩, Ideal.ofBits_zero_f32,
    IdealRules.named_const.ideal_named_scalar _ _ _ _ rfl]
  by_cases hh : j.val / 64 ≤ i.val / 64 <;> simp [hh]

/-- A chunk's bias: its zeros before the chunk's own keys, then the mask; row `i` of the chunk that starts at row `m`. -/
theorem bias_apply {m n : ℕ} (hn : n = m + 256) (h64 : 64 ∣ m)
    (h : Shape.Concatenates [⟨2, ![256, m]⟩, S256x256] ⟨2, ![256, n]⟩ 1) (i : Fin 256) (j : Fin n) :
    (concatenate (⟨2, ![256, n]⟩ : Shape) 1 [⟨⟨2, ![256, m]⟩, zeros (F := Ideal) ⟨2, ![256, m]⟩⟩, ⟨S256x256, maskV (F := Ideal)⟩] h :
      (⟨2, ![256, n]⟩ : Shape).Idx → EReal) (ix2 i j) = if j.val / 64 ≤ (m + i.val) / 64 then 0 else ⊥ := by
  by_cases hj : j.val < m
  · refine (concatenate_pair_apply_left (t := ⟨2, ![256, n]⟩) (s₁ := ⟨2, ![256, m]⟩) (s₂ := S256x256) 1 (zeros (F := Ideal) ⟨2, ![256, m]⟩) (maskV (F := Ideal)) h (ix2 i j) rfl (ix2 i ⟨j.val, hj⟩) (fun b => ?_)).trans ?_
    · match b with
      | ⟨0, _⟩ => rfl
      | ⟨1, _⟩ => rfl
    · rw [if_pos (by omega)]; exact Ideal.ofBits_zero_f32
  · refine (concatenate_pair_apply_right (t := ⟨2, ![256, n]⟩) (s₁ := ⟨2, ![256, m]⟩) (s₂ := S256x256) 1 (zeros (F := Ideal) ⟨2, ![256, m]⟩) (maskV (F := Ideal)) h (ix2 i j) rfl rfl
      (ix2 i ⟨j.val - m, by have := j.isLt; omega⟩) (fun b hb => ?_) ?_).trans ?_
    · match b, hb with
      | ⟨0, _⟩, _ => rfl
      | ⟨1, _⟩, hb => exact absurd rfl hb
    · show j.val - m + m = j.val; omega
    · rw [maskV_apply]
      obtain ⟨w, rfl⟩ := h64
      exact if_congr (by show (j.val - 64 * w) / 64 ≤ _ ↔ _; omega) rfl rfl

end Cert.KernelIdeal.Own

end
-- ==== Proof.OutValue.lean ====
/-
  The kernel's result, read at an entry over the extended reals: the sum over the devices of their partial products.
-/
module

public import proofs.«01_k».proof.Proof.KerValue
public import proofs.«01_k».proof.Proof.MaskValue

@[expose] public section

noncomputable section

open scoped BigOperators

namespace Cert.KernelIdeal.Own

open Idealize.ShloMosaic Idealize.ShloMosaic.ValueIdx
open Cert.KernelIdeal Cert.KernelIdeal.Gen Cert.Proof.Weights

theorem chunkOut_apply (acc : FVec Ideal S256x1024 .f32) (i : Fin 256) (c : Fin 1024) :
    (chunkOut (F := Ideal) acc : S1x256x1024.Idx → EReal) (ix3 (0 : Fin 1) i c) = acc (ix2 i c) := by
  refine shapeCast_apply _ _ (ix3 (0 : Fin 1) i c) (ix2 i c) ?_
  rw [Shape.rowMajor_val_two, Shape.rowMajor_val_three]
  show i.val * 1024 + c.val = (0 * 256 + i.val) * 1024 + c.val
  omega

/-- Row `i` of chunk `ch`. -/
def rowOf (ch : Fin 4) (i : Fin 256) : Fin 1024 := ⟨256 * ch.val + i.val, by have := ch.isLt; have := i.isLt; omega⟩

section
variable (I : Ins Ideal) (xr qr kr : Fin 1024 → Fin 1024 → ℝ)

/-- A chunk's queries are the device's queries at the chunk's rows. -/
theorem chunkQ_apply (hx : ∀ R i, I.x (ix2 R i) = (xr R i : EReal)) (hq : ∀ i a, I.wq (ix2 i a) = (qr i a : EReal)) (ch : Fin 4)
    (o : ℕ) (ho : o = 256 * ch.val) (h : S1024x1024.Slices ![o, 0] S256x1024) (i : Fin 256) (a : Fin 1024) :
    (extractStridedSlice S256x1024 ![o, 0] (qOf (F := Ideal) I) h : S256x1024.Idx → EReal) (ix2 i a)
      = (((∑ j, xr (rowOf ch i) j * qr j a) * SC : ℝ) : EReal) := by
  refine Eq.trans ?_ (qOf_apply I xr qr hx hq (rowOf ch i) a)
  refine extractStridedSlice_apply _ _ _ (ix2 i a) (ix2 (rowOf ch i) a) (fun b => ?_)
  match b with
  | ⟨0, _⟩ => show 256 * ch.val + i.val = o + i.val; omega
  | ⟨1, _⟩ => exact (Nat.zero_add _).symm

theorem part_apply (hx : ∀ R i, I.x (ix2 R i) = (xr R i : EReal)) (hq : ∀ i a, I.wq (ix2 i a) = (qr i a : EReal))
    (hk : ∀ j a, I.k (ix2 j a) = (kr j a : EReal)) (ch : Fin 4) (i : Fin 256) (c : Fin 1024) :
    (part (F := Ideal) I ch : S1x256x1024.Idx → EReal) (ix3 (0 : Fin 1) i c) = devPart I xr qr kr (rowOf ch i) c := by
  match ch with
  | 0 =>
    refine (chunkOut_apply _ i c).trans ?_
    exact heads_apply I xr qr kr (m := 256) (R0 := 0) (by decide) rfl _ _ _ _ hk i (rowOf 0 i) rfl (by decide)
      (fun j => (maskV_apply i j).trans (if_congr (by show _ ↔ _ / 64 ≤ (256 * 0 + i.val) / 64; omega) rfl rfl)) (fun a => chunkQ_apply I xr qr hx hq 0 0 rfl _ i a) c 8 (le_refl _)
  | 1 =>
    refine (chunkOut_apply _ i c).trans ?_
    exact heads_apply I xr qr kr (m := 512) (R0 := 256) (by decide) rfl _ _ _ _ hk i (rowOf 1 i) rfl (by decide)
      (fun j => bias_apply (m := 256) rfl (by decide) _ i j) (fun a => chunkQ_apply I xr qr hx hq 1 256 rfl _ i a) c 8 (le_refl _)
  | 2 =>
    refine (chunkOut_apply _ i c).trans ?_
    exact heads_apply I xr qr kr (m := 768) (R0 := 512) (by decide) rfl _ _ _ _ hk i (rowOf 2 i) rfl (by decide)
      (fun j => bias_apply (m := 512) rfl (by decide) _ i j) (fun a => chunkQ_apply I xr qr hx hq 2 512 rfl _ i a) c 8 (le_refl _)
  | 3 =>
    refine (chunkOut_apply _ i c).trans ?_
    exact heads_apply I xr qr kr (m := 1024) (R0 := 768) (by decide) rfl _ _ _ _ hk i (rowOf 3 i) rfl (by decide)
      (fun j => bias_apply (m := 768) rfl (by decide) _ i j) (fun a => chunkQ_apply I xr qr hx hq 3 768 rfl _ i a) c 8 (le_refl _)
end

/-- The four devices summed from any one round. -/
theorem sum_round (f : Fin 4 → EReal) (p : Fin 4) : f p + f (nxt 1 p) + f (nxt 2 p) + f (nxt 3 p) = ∑ d, f d := by
  rw [Fin.sum_univ_four]
  match p with
  | 0 => rfl
  | 1 => show f 1 + f 2 + f 3 + f 0 = _; abel
  | 2 => show f 2 + f 3 + f 0 + f 1 = _; abel
  | 3 => show f 3 + f 0 + f 1 + f 2 = _; abel

theorem outC_apply (X : Fin 4 → Ins Ideal) (xr : Fin 1024 → Fin 1024 → ℝ) (qr kr : Fin 4 → Fin 1024 → Fin 1024 → ℝ)
    (hx : ∀ d R i, (X d).x (ix2 R i) = (xr R i : EReal)) (hq : ∀ d i a, (X d).wq (ix2 i a) = (qr d i a : EReal))
    (hk : ∀ d j a, (X d).k (ix2 j a) = (kr d j a : EReal)) (c : Fin 4) (R n : Fin 1024) :
    (outC (F := Ideal) X c : S1x1024x1024.Idx → EReal) (ix3 (0 : Fin 1) R n) = ∑ d : Fin 4, devPart (X d) xr (qr d) (kr d) R n := by
  have hrow : ∀ (d : Fin 4) (ch p : Fin 4) (r : Fin 64), rowOf ch ⟨64 * p.val + r.val, by have := p.isLt; have := r.isLt; omega⟩ = R →
      (rowsOf (F := Ideal) (X d) ch p : S64x1024.Idx → EReal) (ix2 r n) = devPart (X d) xr (qr d) (kr d) R n := fun d ch p r e => by
    rw [← e]; exact part_apply (X d) xr (qr d) (kr d) (hx d) (hq d) (hk d) ch _ n
  have hred : ∀ (ch p : Fin 4) (r : Fin 64), rowOf ch ⟨64 * p.val + r.val, by have := p.isLt; have := r.isLt; omega⟩ = R →
      (redF (F := Ideal) X p ch : S64x1024.Idx → EReal) (ix2 r n) = ∑ d : Fin 4, devPart (X d) xr (qr d) (kr d) R n := fun ch p r e => by
    refine Eq.trans ?_ (sum_round (fun d => devPart (X d) xr (qr d) (kr d) R n) p)
    exact congrArg₂ (· + ·) (congrArg₂ (· + ·) (congrArg₂ (· + ·) (hrow p ch p r e) (hrow (nxt 1 p) ch p r e)) (hrow (nxt 2 p) ch p r e)) (hrow (nxt 3 p) ch p r e)
  have hR : rowOf ⟨R.val / 256, by have := R.isLt; omega⟩ ⟨64 * (R.val % 256 / 64) + R.val % 64, by omega⟩ = R :=
    Fin.ext (by show 256 * (R.val / 256) + (64 * (R.val % 256 / 64) + R.val % 64) = R.val; omega)
  show (outB (F := Ideal) X c ⟨R.val / 256, _⟩ ⟨R.val % 256 / 64, _⟩ : S64x1024.Idx → EReal) (ix2 ⟨R.val % 64, _⟩ n) = _
  unfold outB
  split
  · rename_i e
    rw [← e]
    exact hred _ _ ⟨R.val % 64, by omega⟩ hR
  · exact hred _ _ ⟨R.val % 64, by omega⟩ hR

end Cert.KernelIdeal.Own

end
-- ==== Proof.RefMask.lean ====
/-
  The reference's mask, read at an entry: a row attends to a key when the key's block of 64 is not after the row's, and
  every row attends to some key.
-/
module

public import proofs.«01_k».proof.Proof.Gen.ReferenceIdeal
public import Idealize.ShloMosaic.Lib.IdealHost
public import Idealize.ShloMosaic.Lib.Pipeline.Value

@[expose] public section

noncomputable section

namespace Cert.ReferenceIdeal.Own

open Idealize.ShloMosaic Idealize.ShloMosaic.ValueIdx
open Cert.ReferenceIdeal Cert.ReferenceIdeal.Gen

/-- The quotient by 64 rounded down, as the reference computes it from the quotient rounded to zero. -/
abbrev rdiv {s : Shape} (b : S_.BroadcastsInDim s ![]) (x : IVec s 32) : IVec s 32 :=
  select (andi (cmpi .ne (signi x) (broadcastInDim s ![] b (signi (id (constantI S_ 32 64#32)))))
      (cmpi .ne (Host.remsi x (broadcastInDim s ![] b (id (constantI S_ 32 64#32)))) (broadcastInDim s ![] b (constantI S_ 32 0#32))))
    (subi (Host.divsi x (broadcastInDim s ![] b (id (constantI S_ 32 64#32)))) (broadcastInDim s ![] b (constantI S_ 32 1#32)))
    (Host.divsi x (broadcastInDim s ![] b (id (constantI S_ 32 64#32))))

/-- A row's block of 64, for every row. -/
def blkV : IVec S1024 32 := rdiv bcast_S_S1024 (iotaInDim S1024 32 0)

/-- The mask. -/
def maskR : IVec S1024x1024 1 :=
  cmpi .sle (broadcastInDim S1024x1024 ![0, 1] bcast_S1x1024_S1024x1024_0_1 (broadcastInDim S1x1024 ![1] bcast_S1024_S1x1024_1 blkV))
    (broadcastInDim S1024x1024 ![0, 1] bcast_S1024x1_S1024x1024_0_1 (broadcastInDim S1024x1 ![0] bcast_S1024_S1024x1_0 blkV))

/-- Whether a row attends to any key. -/
def keepR : IVec S1024 1 := Host.reduce IntOp.ori maskR (constantI S_ 1 0#1) reducesTo_S1024x1024_S1024_d1 h_S_

theorem rdiv_word : ∀ i : Fin 1024, rdiv (s := S_) (by decide) (fun _ => BitVec.ofNat 32 i.val) (fun a => a.elim0) = BitVec.ofNat 32 (i.val / 64) := by
  decide +kernel

theorem rle_word : ∀ a b : Fin 16, IntOp.cmpi .sle (BitVec.ofNat 32 a.val) (BitVec.ofNat 32 b.val) = if a.val ≤ b.val then 1#1 else 0#1 := by
  decide +kernel

theorem blkV_apply (R : Fin 1024) : blkV (ix1 R) = BitVec.ofNat 32 (R.val / 64) := (rdiv_word R ▸ rfl)

theorem maskR_apply (R j : Fin 1024) : maskR (ix2 R j) = if j.val / 64 ≤ R.val / 64 then 1#1 else 0#1 := by
  have h1 : broadcastInDim S1024x1024 ![0, 1] bcast_S1x1024_S1024x1024_0_1 (broadcastInDim S1x1024 ![1] bcast_S1024_S1x1024_1 blkV) (ix2 R j) = blkV (ix1 j) :=
    (broadcastInDim_apply _ _ _ (ix2 R j) (ix2 (0 : Fin 1) j) (fun a => by match a with | ⟨0, _⟩ => rfl | ⟨1, _⟩ => rfl)).trans
      (broadcastInDim_apply _ _ _ (ix2 (0 : Fin 1) j) (ix1 j) (fun a => by match a with | ⟨0, _⟩ => rfl))
  have h2 : broadcastInDim S1024x1024 ![0, 1] bcast_S1024x1_S1024x1024_0_1 (broadcastInDim S1024x1 ![0] bcast_S1024_S1024x1_0 blkV) (ix2 R j) = blkV (ix1 R) :=
    (broadcastInDim_apply _ _ _ (ix2 R j) (ix2 R (0 : Fin 1)) (fun a => by match a with | ⟨0, _⟩ => rfl | ⟨1, _⟩ => rfl)).trans
      (broadcastInDim_apply _ _ _ (ix2 R (0 : Fin 1)) (ix1 R) (fun a => by match a with | ⟨0, _⟩ => rfl))
  refine (congrArg₂ (IntOp.cmpi .sle) (h1.trans (blkV_apply j)) (h2.trans (blkV_apply R))).trans ?_
  exact rle_word ⟨j.val / 64, by have := j.isLt; omega⟩ ⟨R.val / 64, by have := R.isLt; omega⟩

/-- The or of bits one of which is set is set. -/
theorem foldl_or_one {ι : Type} (f : ι → BitVec 1) : ∀ (l : List ι) (a : BitVec 1), (a = 1#1 ∨ ∃ i ∈ l, f i = 1#1) →
    l.foldl (fun r i => IntOp.ori r (f i)) a = 1#1
  | [], a, h => by simpa using h
  | b :: l, a, h => by
    refine foldl_or_one f l _ ?_
    have hor : ∀ x y : BitVec 1, x = 1#1 ∨ y = 1#1 → IntOp.ori x y = 1#1 := by decide
    rcases h with h | ⟨i, hi, h⟩
    · exact .inl (hor _ _ (.inl h))
    · rcases List.mem_cons.1 hi with rfl | hi
      · exact .inl (hor _ _ (.inr h))
      · exact .inr ⟨i, hi, h⟩

theorem keepR_apply (R : Fin 1024) : keepR (ix1 R) = 1#1 := by
  unfold keepR Host.reduce
  refine foldl_or_one _ _ _ (.inr ⟨S1024x1024.rowMajor (ix2 R R), ?_, ?_⟩)
  · rw [List.mem_filter]
    refine ⟨List.mem_finRange _, ?_⟩
    rw [Equiv.symm_apply_apply, decide_eq_true_eq]
    funext b
    match b with
    | ⟨0, _⟩ => rfl
  · rw [Equiv.symm_apply_apply, maskR_apply, if_pos (le_refl _)]

end Cert.ReferenceIdeal.Own

end
-- ==== Proof.RefDots.lean ====
/-
  The reference's four products, read at an entry over the extended reals: each the sum, over the contracted
  coordinate, of the products of the entries.
-/
module

public import proofs.«01_k».proof.Proof.Gen.ReferenceIdeal
public import Idealize.ShloMosaic.Lib.ValueIdx
public import Idealize.ShloMosaic.PureOps.Ideal.Laws

@[expose] public section

noncomputable section

open scoped BigOperators

namespace Cert.ReferenceIdeal.Own

open Idealize.ShloMosaic Idealize.ShloMosaic.ValueIdx
open Cert.ReferenceIdeal Cert.ReferenceIdeal.Gen

/-- A product with one contracted axis, its operands' entries named. -/
theorem dot_sum {sl sr so : Shape} {φ₁ φ₂ : FTy} (D : DotDims sl sr so) (n : ℕ) (hr : D.contr.rank = 1) (hs : D.contr.size ⟨0, by omega⟩ = n)
    (A : FVec Ideal sl φ₁) (B : FVec Ideal sr φ₂) (j : so.Idx) (L : Fin n → sl.Idx) (R : Fin n → sr.Idx)
    (hL : ∀ c, D.lhsIdx j ((contrEquiv1 D n hr hs).symm c) = L c) (hR : ∀ c, D.rhsIdx j ((contrEquiv1 D n hr hs).symm c) = R c) :
    (Host.dotGeneral D none A B j : EReal) = ∑ c : Fin n, (A (L c) : EReal) * B (R c) := by
  refine (Ideal.dotGeneral_apply D none _ A B j).trans ?_
  rw [← Equiv.sum_comp (contrEquiv1 D n hr hs).symm]
  exact Finset.sum_congr rfl fun c _ => by rw [hL, hR]

/-- The queries. -/
theorem dotQ (A : FVec Ideal S1x1024x1024 .f32) (B : FVec Ideal S1024x4096 .f32) (R : Fin 1024) (n : Fin 4096) :
    (Host.dotGeneral dot_S1x1024x1024_S1024x4096_S1x1024x4096_2_0_01_1_n_n none A B (ix3 (0 : Fin 1) R n) : EReal)
      = ∑ i : Fin 1024, (A (ix3 (0 : Fin 1) R i) : EReal) * B (ix2 i n) := by
  refine dot_sum _ 1024 rfl rfl A B _ (fun i => ix3 (0 : Fin 1) R i) (fun i => ix2 i n) (fun i => ?_) (fun i => ?_)
  all_goals
    have hk := contrEquiv1_symm_val dot_S1x1024x1024_S1024x4096_S1x1024x4096_2_0_01_1_n_n 1024 rfl rfl i
    funext ax; apply Fin.ext
  · match ax with
    | ⟨0, _⟩ => rfl
    | ⟨1, _⟩ => rfl
    | ⟨2, _⟩ => exact hk
  · match ax with
    | ⟨0, _⟩ => exact hk
    | ⟨1, _⟩ => rfl

/-- The scores, head by head. -/
theorem dotS (A B : FVec Ideal S1x1024x32x128 .f32) (H : Fin 32) (R j : Fin 1024) :
    (Host.dotGeneral dot_S1x1024x32x128_S1x1024x32x128_S1x32x1024x1024_3_3_1_1_02_02 none A B (ix4 (0 : Fin 1) H R j) : EReal)
      = ∑ t : Fin 128, (A (ix4 (0 : Fin 1) R H t) : EReal) * B (ix4 (0 : Fin 1) j H t) := by
  refine dot_sum _ 128 rfl rfl A B _ (fun t => ix4 (0 : Fin 1) R H t) (fun t => ix4 (0 : Fin 1) j H t) (fun t => ?_) (fun t => ?_)
  all_goals
    have hk := contrEquiv1_symm_val dot_S1x1024x32x128_S1x1024x32x128_S1x32x1024x1024_3_3_1_1_02_02 128 rfl rfl t
    funext ax; apply Fin.ext
    match ax with
    | ⟨0, _⟩ => rfl
    | ⟨1, _⟩ => rfl
    | ⟨2, _⟩ => rfl
    | ⟨3, _⟩ => exact hk

/-- The contexts, head by head. -/
theorem dotC (A : FVec Ideal S1x1024x32x128 .f32) (B : FVec Ideal S1x32x1024x1024 .f32) (H : Fin 32) (t : Fin 128) (R : Fin 1024) :
    (Host.dotGeneral dot_S1x1024x32x128_S1x32x1024x1024_S1x32x128x1024_1_3_3_2_02_01 none A B (ix4 (0 : Fin 1) H t R) : EReal)
      = ∑ j : Fin 1024, (A (ix4 (0 : Fin 1) j H t) : EReal) * B (ix4 (0 : Fin 1) H R j) := by
  refine dot_sum _ 1024 rfl rfl A B _ (fun j => ix4 (0 : Fin 1) j H t) (fun j => ix4 (0 : Fin 1) H R j) (fun j => ?_) (fun j => ?_)
  all_goals
    have hk := contrEquiv1_symm_val dot_S1x1024x32x128_S1x32x1024x1024_S1x32x128x1024_1_3_3_2_02_01 1024 rfl rfl j
    funext ax; apply Fin.ext
  · match ax with
    | ⟨0, _⟩ => rfl
    | ⟨1, _⟩ => exact hk
    | ⟨2, _⟩ => rfl
    | ⟨3, _⟩ => rfl
  · match ax with
    | ⟨0, _⟩ => rfl
    | ⟨1, _⟩ => rfl
    | ⟨2, _⟩ => rfl
    | ⟨3, _⟩ => exact hk

/-- The output projection. -/
theorem dotO (A : FVec Ideal S1x1024x4096 .f32) (B : FVec Ideal S4096x1024 .f32) (R n : Fin 1024) :
    (Host.dotGeneral dot_S1x1024x4096_S4096x1024_S1x1024x1024_2_0_01_1_n_n none A B (ix3 (0 : Fin 1) R n) : EReal)
      = ∑ a : Fin 4096, (A (ix3 (0 : Fin 1) R a) : EReal) * B (ix2 a n) := by
  refine dot_sum _ 4096 rfl rfl A B _ (fun a => ix3 (0 : Fin 1) R a) (fun a => ix2 a n) (fun a => ?_) (fun a => ?_)
  all_goals
    have hk := contrEquiv1_symm_val dot_S1x1024x4096_S4096x1024_S1x1024x1024_2_0_01_1_n_n 4096 rfl rfl a
    funext ax; apply Fin.ext
  · match ax with
    | ⟨0, _⟩ => rfl
    | ⟨1, _⟩ => rfl
    | ⟨2, _⟩ => exact hk
  · match ax with
    | ⟨0, _⟩ => exact hk
    | ⟨1, _⟩ => rfl

end Cert.ReferenceIdeal.Own

end
-- ==== Proof.RefValue.lean ====
/-
  The reference's result, read at an entry over the extended reals.

  From real tokens, query columns and keys, the context of head `H` at row `R` is the softmax-weighted sum of the
  head's values; the result at row `R` is the sum over the 32 heads and their 128 columns of that context times the
  rows of `Wo`.
-/
module

public import proofs.«01_k».proof.Proof.RefMask
public import proofs.«01_k».proof.Proof.RefDots
public import proofs.«01_k».proof.Proof.Weights
public import proofs.«01_k».proof.Proof.Gen.ReferenceIdeal.Run

@[expose] public section

noncomputable section

open scoped BigOperators

namespace Cert.ReferenceIdeal.Own

open Idealize.ShloMosaic Idealize.ShloMosaic.ValueIdx Idealize.ShloMosaic.TcCoe
open Cert.ReferenceIdeal Cert.ReferenceIdeal.Gen Cert.Proof.Weights

/-! ## The reference's stages -/

/-- The masked scores. -/
def scR (x : FVec Ideal S1x1024x1024 .bf16) (wq : FVec Ideal S1024x4096 .bf16) (k : FVec Ideal S1x1024x32x128 .bf16) : FVec Ideal S1x32x1024x1024 .f32 :=
  select (broadcastInDim S1x32x1024x1024 ![0, 1, 2, 3] bcast_S1x1x1024x1024_S1x32x1024x1024_0_1_2_3 (broadcastInDim S1x1x1024x1024 ![2, 3] bcast_S1024x1024_S1x1x1024x1024_2_3 maskR))
    (mulf (Host.dotGeneral dot_S1x1024x32x128_S1x1024x32x128_S1x32x1024x1024_3_3_1_1_02_02 none
      (shapeCast S1x1024x32x128 (Host.dotGeneral dot_S1x1024x1024_S1024x4096_S1x1024x4096_2_0_01_1_n_n none (extf .f32 x bitsLt_bf16_f32) (extf .f32 wq bitsLt_bf16_f32))
        shapeCasts_S1x1024x4096_S1x1024x32x128) (extf .f32 k bitsLt_bf16_f32))
      (broadcastInDim S1x32x1024x1024 ![] bcast_S_S1x32x1024x1024 (constant S_ .f32 0x3DB504F3#32)))
    (broadcastInDim S1x32x1024x1024 ![] bcast_S_S1x32x1024x1024 (id (constant S_ .f32 0xFF800000#32)))

/-- Each row's greatest score. -/
def mxR (sc : FVec Ideal S1x32x1024x1024 .f32) : FVec Ideal S1x32x1024 .f32 :=
  Host.reduce FloatOps.maximumf sc (constant S_ .f32 0xFF800000#32) reducesTo_S1x32x1024x1024_S1x32x1024_d3 h_S_

/-- The exponentials of the scores less their row's greatest. -/
def exR (sc : FVec Ideal S1x32x1024x1024 .f32) : FVec Ideal S1x32x1024x1024 .f32 :=
  Host.exp (subf sc (broadcastInDim S1x32x1024x1024 ![0, 1, 2, 3] bcast_S1x32x1024x1_S1x32x1024x1024_0_1_2_3
    (broadcastInDim S1x32x1024x1 ![0, 1, 2] bcast_S1x32x1024_S1x32x1024x1_0_1_2 (mxR sc))))

/-- What each row's exponentials are divided by. -/
def dnR (e : FVec Ideal S1x32x1024x1024 .f32) : FVec Ideal S1x32x1024x1 .f32 :=
  select (broadcastInDim S1x32x1024x1 ![0, 1, 2, 3] bcast_S1x1x1024x1_S1x32x1024x1_0_1_2_3 (broadcastInDim S1x1x1024x1 ![2] bcast_S1024_S1x1x1024x1_2 keepR))
    (broadcastInDim S1x32x1024x1 ![0, 1, 2] bcast_S1x32x1024_S1x32x1024x1_0_1_2
      (Host.reduceAdd e (constant S_ .f32 0x00000000#32) reducesTo_S1x32x1024x1024_S1x32x1024_d3 h_S_))
    (broadcastInDim S1x32x1024x1 ![] bcast_S_S1x32x1024x1 (id (constant S_ .f32 0x3F800000#32)))

/-- The weights. -/
def wtR (e : FVec Ideal S1x32x1024x1024 .f32) : FVec Ideal S1x32x1024x1024 .f32 :=
  select (broadcastInDim S1x32x1024x1024 ![0, 1, 2, 3] bcast_S1x1x1024x1_S1x32x1024x1024_0_1_2_3 (broadcastInDim S1x1x1024x1 ![2] bcast_S1024_S1x1x1024x1_2 keepR))
    (Host.divf e (broadcastInDim S1x32x1024x1024 ![0, 1, 2, 3] bcast_S1x32x1024x1_S1x32x1024x1024_0_1_2_3 (dnR e)))
    (broadcastInDim S1x32x1024x1024 ![] bcast_S_S1x32x1024x1024 (id (constant S_ .f32 0x00000000#32)))

/-- The contexts, a row's heads side by side. -/
def cxR (w : FVec Ideal S1x32x1024x1024 .f32) (v : FVec Ideal S1x1024x32x128 .bf16) : FVec Ideal S1x1024x4096 .f32 :=
  shapeCast S1x1024x4096 (transpose S1x1024x32x128 [0, 3, 1, 2] (Host.dotGeneral dot_S1x1024x32x128_S1x32x1024x1024_S1x32x128x1024_1_3_3_2_02_01 none
    (extf .f32 v bitsLt_bf16_f32) w) transposes_S1x32x128x1024_S1x1024x32x128_0_3_1_2) shapeCasts_S1x1024x32x128_S1x1024x4096

/-- The result. -/
def outR (x : FVec Ideal S1x1024x1024 .bf16) (wq : FVec Ideal S1024x4096 .bf16) (k v : FVec Ideal S1x1024x32x128 .bf16) (wo : FVec Ideal S4096x1024 .bf16) :
    FVec Ideal S1x1024x1024 .f32 :=
  Host.dotGeneral dot_S1x1024x4096_S4096x1024_S1x1024x1024_2_0_01_1_n_n none (cxR (wtR (exR (scR x wq k))) v) (extf .f32 wo bitsLt_bf16_f32)

set_option maxRecDepth 8192 in
set_option maxHeartbeats 1000000 in
theorem res_eq (m : (ℓ : Loc nD τ sig) → Buf (Elt Ideal) ℓ) (c : Dev nD) :
    Cert.ReferenceIdeal.Value.res_main_v38 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v38 outR cxR wtR dnR exR mxR scR keepR maskR blkV
  rfl

/-! ## The stages at an entry -/

/-- Column `t` of head `H`, of all thirty-two. -/
def gcol (H : Fin 32) (t : Fin 128) : Fin 4096 := ⟨128 * H.val + t.val, by have := H.isLt; have := t.isLt; omega⟩

/-- Head `H`'s score of key `j` at row `R`. -/
def gscore (xr : Fin 1024 → Fin 1024 → ℝ) (qr : Fin 1024 → Fin 4096 → ℝ) (kr : Fin 1024 → Fin 32 → Fin 128 → ℝ) (H : Fin 32) (R j : Fin 1024) : ℝ :=
  (∑ t : Fin 128, (∑ i, xr R i * qr i (gcol H t)) * kr j H t) * SC

theorem ofBits_neg_inf : Ideal.ofBits .f32 0xFF800000#32 = ⊥ := by simp [Ideal.ofBits, Ideal.ieee]

section
variable (x : FVec Ideal S1x1024x1024 .bf16) (wq : FVec Ideal S1024x4096 .bf16) (k v : FVec Ideal S1x1024x32x128 .bf16) (wo : FVec Ideal S4096x1024 .bf16)
  (xr : Fin 1024 → Fin 1024 → ℝ) (qr : Fin 1024 → Fin 4096 → ℝ) (kr : Fin 1024 → Fin 32 → Fin 128 → ℝ)

theorem scR_apply (hx : ∀ R i, (x (ix3 (0 : Fin 1) R i) : EReal) = xr R i) (hq : ∀ i n, (wq (ix2 i n) : EReal) = qr i n)
    (hk : ∀ j H t, (k (ix4 (0 : Fin 1) j H t) : EReal) = kr j H t) (H : Fin 32) (R j : Fin 1024) :
    (scR x wq k (ix4 (0 : Fin 1) H R j) : EReal) = msk (keep R) (gscore xr qr kr H R) j := by
  have hm : broadcastInDim S1x32x1024x1024 ![0, 1, 2, 3] bcast_S1x1x1024x1024_S1x32x1024x1024_0_1_2_3
      (broadcastInDim S1x1x1024x1024 ![2, 3] bcast_S1024x1024_S1x1x1024x1024_2_3 maskR) (ix4 (0 : Fin 1) H R j) = if j.val / 64 ≤ R.val / 64 then 1#1 else 0#1 :=
    ((broadcastInDim_apply _ _ _ (ix4 (0 : Fin 1) H R j) (ix4 (0 : Fin 1) (0 : Fin 1) R j)
        (fun a => by match a with | ⟨0, _⟩ => rfl | ⟨1, _⟩ => rfl | ⟨2, _⟩ => rfl | ⟨3, _⟩ => rfl)).trans
      (broadcastInDim_apply _ _ _ (ix4 (0 : Fin 1) (0 : Fin 1) R j) (ix2 R j) (fun a => by match a with | ⟨0, _⟩ => rfl | ⟨1, _⟩ => rfl))).trans (maskR_apply R j)
  have hs : (Host.dotGeneral dot_S1x1024x32x128_S1x1024x32x128_S1x32x1024x1024_3_3_1_1_02_02 none
      (shapeCast S1x1024x32x128 (Host.dotGeneral dot_S1x1024x1024_S1024x4096_S1x1024x4096_2_0_01_1_n_n none (extf .f32 x bitsLt_bf16_f32) (extf .f32 wq bitsLt_bf16_f32))
        shapeCasts_S1x1024x4096_S1x1024x32x128) (extf .f32 k bitsLt_bf16_f32) (ix4 (0 : Fin 1) H R j) : EReal)
      = ((∑ t : Fin 128, (∑ i, xr R i * qr i (gcol H t)) * kr j H t : ℝ) : EReal) := by
    refine (dotS _ _ H R j).trans ?_
    rw [← sum_coe]
    refine Finset.sum_congr rfl fun t _ => ?_
    rw [EReal.coe_mul]
    refine congrArg₂ (· * ·) ?_ (hk j H t)
    refine (shapeCast_apply _ _ (ix4 (0 : Fin 1) R H t) (ix3 (0 : Fin 1) R (gcol H t)) ?_).trans ?_
    · rw [Shape.rowMajor_val_three, Shape.rowMajor_val_four]
      show (0 * 1024 + R.val) * 4096 + (128 * H.val + t.val) = ((0 * 1024 + R.val) * 32 + H.val) * 128 + t.val
      omega
    · refine (dotQ _ _ R (gcol H t)).trans ?_
      rw [← sum_mul_coe_coe]
      exact Finset.sum_congr rfl fun i _ => congrArg₂ (· * ·) (hx R i) (hq i _)
  refine (show (scR x wq k (ix4 (0 : Fin 1) H R j) : EReal) = if _ = 1#1 then _ else _ from rfl).trans ?_
  rw [hm]
  unfold msk
  by_cases hj : j.val / 64 ≤ R.val / 64
  · rw [if_pos hj, if_pos rfl, if_pos hj, gscore, EReal.coe_mul]
    exact congrArg₂ (· * ·) hs ofBits_SC
  · rw [if_neg hj, if_neg (by decide), if_neg hj]
    exact ofBits_neg_inf

section
variable (sc : FVec Ideal S1x32x1024x1024 .f32) (s : Fin 32 → Fin 1024 → Fin 1024 → ℝ)
  (hsc : ∀ H R j, (sc (ix4 (0 : Fin 1) H R j) : EReal) = msk (keep R) (s H R) j)
include hsc

/-- A row's greatest score is real: the row's own key is not masked, and no score is plus infinity. -/
theorem mxR_apply (H : Fin 32) (R : Fin 1024) : ∃ M : ℝ, (mxR sc (ix3 (0 : Fin 1) H R) : EReal) = M := by
  have hb : (constant S_ .f32 0xFF800000#32 : FVec Ideal S_ .f32) (Shape.Idx.first h_S_) = (⊥ : EReal) := ofBits_neg_inf
  unfold mxR Host.reduce
  rw [hb]
  refine foldl_max_real (fun n => sc (S1x32x1024x1024.rowMajor.symm n)) _ (fun n _ => ?_) ⟨S1x32x1024x1024.rowMajor (ix4 (0 : Fin 1) H R R), ?_, ?_⟩
  · obtain ⟨a, b, c, d, e⟩ : ∃ (a : Fin 1) (b : Fin 32) (c d : Fin 1024), S1x32x1024x1024.rowMajor.symm n = ix4 a b c d := ⟨_, _, _, _, eq_ix4 _⟩
    obtain rfl : a = 0 := Subsingleton.elim _ _
    show sc (S1x32x1024x1024.rowMajor.symm n) ≠ (⊤ : EReal)
    rw [e, hsc]
    unfold msk
    split
    · exact EReal.coe_ne_top _
    · exact bot_ne_top
  · rw [List.mem_filter]
    refine ⟨List.mem_finRange _, ?_⟩
    rw [Equiv.symm_apply_apply, decide_eq_true_eq]
    funext b
    match b with
    | ⟨0, _⟩ => rfl
    | ⟨1, _⟩ => rfl
    | ⟨2, _⟩ => rfl
  · show sc (S1x32x1024x1024.rowMajor.symm _) ≠ (⊥ : EReal)
    rw [Equiv.symm_apply_apply, hsc]
    unfold msk
    rw [if_pos (le_refl _)]
    exact EReal.coe_ne_bot _

/-- A row's exponentials: of its scores less one real. -/
theorem exR_apply (H : Fin 32) (R : Fin 1024) : ∃ M : ℝ, ∀ j, (exR sc (ix4 (0 : Fin 1) H R j) : EReal) = Ideal.exp (msk (keep R) (s H R) j - (M : EReal)) := by
  obtain ⟨M, hM⟩ := mxR_apply sc s hsc H R
  refine ⟨M, fun j => ?_⟩
  refine congrArg Ideal.exp (congrArg₂ (· - ·) (hsc H R j) ?_)
  exact ((broadcastInDim_apply _ _ _ (ix4 (0 : Fin 1) H R j) (ix4 (0 : Fin 1) H R (0 : Fin 1))
        (fun a => by match a with | ⟨0, _⟩ => rfl | ⟨1, _⟩ => rfl | ⟨2, _⟩ => rfl | ⟨3, _⟩ => rfl)).trans
      (broadcastInDim_apply _ _ _ (ix4 (0 : Fin 1) H R (0 : Fin 1)) (ix3 (0 : Fin 1) H R) (fun a => by match a with | ⟨0, _⟩ => rfl | ⟨1, _⟩ => rfl | ⟨2, _⟩ => rfl))).trans hM
end

theorem reduces_d3 : S1x32x1024x1024.Reduces [3] S1x32x1024 := by decide

theorem dnR_apply (e : FVec Ideal S1x32x1024x1024 .f32) (H : Fin 32) (R : Fin 1024) :
    (dnR e (ix4 (0 : Fin 1) H R (0 : Fin 1)) : EReal) = 0 + ∑ j, (e (ix4 (0 : Fin 1) H R j) : EReal) := by
  have hm : broadcastInDim S1x32x1024x1 ![0, 1, 2, 3] bcast_S1x1x1024x1_S1x32x1024x1_0_1_2_3 (broadcastInDim S1x1x1024x1 ![2] bcast_S1024_S1x1x1024x1_2 keepR)
      (ix4 (0 : Fin 1) H R (0 : Fin 1)) = 1#1 :=
    ((broadcastInDim_apply _ _ _ (ix4 (0 : Fin 1) H R (0 : Fin 1)) (ix4 (0 : Fin 1) (0 : Fin 1) R (0 : Fin 1))
        (fun a => by match a with | ⟨0, _⟩ => rfl | ⟨1, _⟩ => rfl | ⟨2, _⟩ => rfl | ⟨3, _⟩ => rfl)).trans
      (broadcastInDim_apply _ _ _ (ix4 (0 : Fin 1) (0 : Fin 1) R (0 : Fin 1)) (ix1 R) (fun a => by match a with | ⟨0, _⟩ => rfl))).trans (keepR_apply R)
  unfold dnR
  rw [select_apply, hm, select_one]
  refine (broadcastInDim_apply _ _ _ (ix4 (0 : Fin 1) H R (0 : Fin 1)) (ix3 (0 : Fin 1) H R) (fun a => by match a with | ⟨0, _⟩ => rfl | ⟨1, _⟩ => rfl | ⟨2, _⟩ => rfl)).trans ?_
  rw [hostReduceAdd_apply, Ideal.hostReduceAdd_single reducesTo_S1x32x1024x1024_S1x32x1024_d3 reduces_d3]
  refine congrArg₂ (· + ·) Ideal.ofBits_zero_f32 (Finset.sum_congr rfl fun j _ => congrArg e ?_)
  funext b
  apply Fin.ext
  match b with
  | ⟨0, _⟩ => rfl
  | ⟨1, _⟩ => rfl
  | ⟨2, _⟩ => rfl
  | ⟨3, _⟩ => rfl

theorem wtR_apply (e : FVec Ideal S1x32x1024x1024 .f32) (H : Fin 32) (R j : Fin 1024) :
    (wtR e (ix4 (0 : Fin 1) H R j) : EReal) = Ideal.div (e (ix4 (0 : Fin 1) H R j)) (0 + ∑ i, (e (ix4 (0 : Fin 1) H R i) : EReal)) := by
  have hm : broadcastInDim S1x32x1024x1024 ![0, 1, 2, 3] bcast_S1x1x1024x1_S1x32x1024x1024_0_1_2_3 (broadcastInDim S1x1x1024x1 ![2] bcast_S1024_S1x1x1024x1_2 keepR)
      (ix4 (0 : Fin 1) H R j) = 1#1 :=
    ((broadcastInDim_apply _ _ _ (ix4 (0 : Fin 1) H R j) (ix4 (0 : Fin 1) (0 : Fin 1) R (0 : Fin 1))
        (fun a => by match a with | ⟨0, _⟩ => rfl | ⟨1, _⟩ => rfl | ⟨2, _⟩ => rfl | ⟨3, _⟩ => rfl)).trans
      (broadcastInDim_apply _ _ _ (ix4 (0 : Fin 1) (0 : Fin 1) R (0 : Fin 1)) (ix1 R) (fun a => by match a with | ⟨0, _⟩ => rfl))).trans (keepR_apply R)
  unfold wtR
  rw [select_apply, hm, select_one]
  rw [hostDivf_apply, ← dnR_apply e H R]
  refine congrArg (Ideal.div (e (ix4 (0 : Fin 1) H R j))) ?_
  exact broadcastInDim_apply _ _ _ (ix4 (0 : Fin 1) H R j) (ix4 (0 : Fin 1) H R (0 : Fin 1))
        (fun a => by match a with | ⟨0, _⟩ => rfl | ⟨1, _⟩ => rfl | ⟨2, _⟩ => rfl | ⟨3, _⟩ => rfl)

/-- Head `H`'s context at row `R`, column `t`. -/
def gctx (H : Fin 32) (R : Fin 1024) (t : Fin 128) : EReal := attn (keep R) (gscore xr qr kr H R) (fun j => v (ix4 (0 : Fin 1) j H t))

theorem cxR_apply (w : FVec Ideal S1x32x1024x1024 .f32) (H : Fin 32) (R : Fin 1024) (t : Fin 128) :
    (cxR w v (ix3 (0 : Fin 1) R (gcol H t)) : EReal) = ∑ j : Fin 1024, (v (ix4 (0 : Fin 1) j H t) : EReal) * w (ix4 (0 : Fin 1) H R j) := by
  refine (shapeCast_apply _ _ (ix3 (0 : Fin 1) R (gcol H t)) (ix4 (0 : Fin 1) R H t) ?_).trans ?_
  · rw [Shape.rowMajor_val_three, Shape.rowMajor_val_four]
    show ((0 * 1024 + R.val) * 32 + H.val) * 128 + t.val = (0 * 1024 + R.val) * 4096 + (128 * H.val + t.val)
    omega
  · refine (transpose_apply _ _ _ (ix4 (0 : Fin 1) R H t) (ix4 (0 : Fin 1) H t R)
      (fun b => by match b with | ⟨0, _⟩ => rfl | ⟨1, _⟩ => rfl | ⟨2, _⟩ => rfl | ⟨3, _⟩ => rfl)).trans ?_
    exact dotC _ _ H t R

/-- A column of the projection is a head and one of its columns. -/
theorem sum_cols (f : Fin 4096 → EReal) : ∑ a, f a = ∑ H : Fin 32, ∑ t : Fin 128, f (gcol H t) := by
  rw [← Finset.sum_product' (f := fun H t => f (gcol H t))]
  refine (Finset.sum_bij (fun (p : Fin 32 × Fin 128) _ => gcol p.1 p.2) (fun _ _ => Finset.mem_univ _) (fun p _ q _ h => ?_) (fun a _ => ?_) (fun _ _ => rfl)).symm
  · have h' : 128 * p.1.val + p.2.val = 128 * q.1.val + q.2.val := congrArg Fin.val h
    have := p.2.isLt; have := q.2.isLt
    exact Prod.ext (Fin.ext (by omega)) (Fin.ext (by omega))
  · have := a.isLt
    exact ⟨(⟨a.val / 128, by omega⟩, ⟨a.val % 128, by omega⟩), Finset.mem_univ _, Fin.ext (by show 128 * (a.val / 128) + a.val % 128 = a.val; omega)⟩

theorem outR_apply (hx : ∀ R i, (x (ix3 (0 : Fin 1) R i) : EReal) = xr R i) (hq : ∀ i n, (wq (ix2 i n) : EReal) = qr i n)
    (hk : ∀ j H t, (k (ix4 (0 : Fin 1) j H t) : EReal) = kr j H t) (R n : Fin 1024) :
    (outR x wq k v wo (ix3 (0 : Fin 1) R n) : EReal) = ∑ H : Fin 32, ∑ t : Fin 128, gctx v xr qr kr H R t * wo (ix2 (gcol H t) n) := by
  refine (dotO _ _ R n).trans ?_
  rw [sum_cols]
  refine Finset.sum_congr rfl fun H _ => Finset.sum_congr rfl fun t _ => congrArg₂ (· * ·) ?_ rfl
  obtain ⟨M, hM⟩ := exR_apply (scR x wq k) (gscore xr qr kr) (scR_apply x wq k xr qr kr hx hq hk) H R
  refine (cxR_apply v _ H R t).trans (Eq.trans ?_ (weighted_eq (keep R) (gscore xr qr kr H R) M ⟨R, le_refl _⟩ (fun j => v (ix4 (0 : Fin 1) j H t))))
  refine Finset.sum_congr rfl fun j _ => congrArg (_ * ·) ?_
  rw [wtR_apply]
  simp only [hM]
end

end Cert.ReferenceIdeal.Own

end
-- ==== Proof.HostValue.lean ====
/-
  What the host's operations before the kernel leave in the kernel's inputs: the tokens without their unit axis; the
  device's columns of `Wq` and rows of `Wo`; its heads of the keys and values, a row's heads side by side.
-/
module

public import proofs.«01_k».proof.Proof.Run
public import Idealize.ShloMosaic.Lib.DynamicIndex
public import Idealize.ShloMosaic.Lib.Pipeline.Value

@[expose] public section

noncomputable section

namespace Cert.KernelIdeal.Own

open Idealize.ShloMosaic Idealize.ShloMosaic.TcCoe Idealize.ShloMosaic.ValueIdx Idealize.ShloMosaic.StableHlo
open Cert.KernelIdeal Cert.KernelIdeal.Gen

variable {F : FTy → Type} [FloatOps F] [Named F]
variable (m : (ℓ : Loc nD τ sig) → Buf (Elt F) ℓ)

/-- The host's number of the device times 1024, as a block's start. -/
abbrev startW (c : Dev nD) : IVec S_ 32 :=
  select (cmpi .slt (muli (id (Host.remui (Host.divui (constantI S_ 32 (Dev.word c)) (constantI S_ 32 1#32)) (constantI S_ 32 4#32))) (constantI S_ 32 1024#32)) (constantI S_ 32 0#32))
    (addi (muli (id (Host.remui (Host.divui (constantI S_ 32 (Dev.word c)) (constantI S_ 32 1#32)) (constantI S_ 32 4#32))) (constantI S_ 32 1024#32)) (constantI S_ 32 4096#32))
    (muli (id (Host.remui (Host.divui (constantI S_ 32 (Dev.word c)) (constantI S_ 32 1#32)) (constantI S_ 32 4#32))) (constantI S_ 32 1024#32))

theorem v5_eq (c : Dev nD) : V1 m c main_v5 = shapeCast S1024x1024 (m ((c.tc : Thread nD τ).loc main_arg0)) shapeCasts_S1x1024x1024_S1024x1024 := by
  simp only [V1, V0, hostOps0]
  after_results_simp <;> rfl

theorem v17_eq (c : Dev nD) : V1 m c main_v17 = shapeCast S1024x1024 (shapeCast S1024x8x128 (m ((c.tc : Thread nD τ).loc main_arg2)) shapeCasts_S1x1024x8x128_S1024x8x128)
    shapeCasts_S1024x8x128_S1024x1024 := by
  simp only [V1, V0, hostOps0]
  after_results_simp <;> rfl

theorem v19_eq (c : Dev nD) : V1 m c main_v19 = shapeCast S1024x1024 (shapeCast S1024x8x128 (m ((c.tc : Thread nD τ).loc main_arg3)) shapeCasts_S1x1024x8x128_S1024x8x128)
    shapeCasts_S1024x8x128_S1024x1024 := by
  simp only [V1, V0, hostOps0]
  after_results_simp <;> rfl

theorem v10_eq (c : Dev nD) : V1 m c main_v10 = Host.dynamicSlice S1024x1024 (m ((c.tc : Thread nD τ).loc main_arg1))
    (fun k => ((![constantI S_ 32 0#32, startW c] : Fin 2 → IVec S_ 32) k (Shape.Idx.first h_S_)).toInt) sliceFits_S1024x4096_S1024x1024 := by
  simp only [V1, V0, hostOps0]
  after_results_simp
  refine congrArg (fun st => Host.dynamicSlice S1024x1024 (m ((c.tc : Thread nD τ).loc main_arg1)) st sliceFits_S1024x4096_S1024x1024) (funext fun k => ?_)
  match k with
  | 0 =>
    refine congrArg (fun v : IVec S_ 32 => (v (Shape.Idx.first h_S_)).toInt) (?_ : _ = constantI S_ 32 0#32)
    refine (cast_eq _ _).trans ?_
    dsimp only [Matrix.cons_val_zero]
    after_results_simp <;> rfl
  | 1 =>
    refine congrArg (fun v : IVec S_ 32 => (v (Shape.Idx.first h_S_)).toInt) (?_ : _ = startW c)
    refine (cast_eq _ _).trans ?_
    dsimp only [Matrix.cons_val_one, Matrix.cons_val_zero]
    after_results_simp <;> rfl

theorem v15_eq (c : Dev nD) : V1 m c main_v15 = Host.dynamicSlice S1024x1024 (m ((c.tc : Thread nD τ).loc main_arg4))
    (fun k => ((![startW c, constantI S_ 32 0#32] : Fin 2 → IVec S_ 32) k (Shape.Idx.first h_S_)).toInt) sliceFits_S4096x1024_S1024x1024 := by
  simp only [V1, V0, hostOps0]
  after_results_simp
  refine congrArg (fun st => Host.dynamicSlice S1024x1024 (m ((c.tc : Thread nD τ).loc main_arg4)) st sliceFits_S4096x1024_S1024x1024) (funext fun k => ?_)
  match k with
  | 0 =>
    refine congrArg (fun v : IVec S_ 32 => (v (Shape.Idx.first h_S_)).toInt) (?_ : _ = startW c)
    refine (cast_eq _ _).trans ?_
    dsimp only [Matrix.cons_val_zero]
    after_results_simp <;> rfl
  | 1 =>
    refine congrArg (fun v : IVec S_ 32 => (v (Shape.Idx.first h_S_)).toInt) (?_ : _ = constantI S_ 32 0#32)
    refine (cast_eq _ _).trans ?_
    dsimp only [Matrix.cons_val_one, Matrix.cons_val_zero]
    after_results_simp <;> rfl

/-! ## At an entry -/

theorem startW_val : ∀ c : Dev nD, (startW c (Shape.Idx.first h_S_)).toInt = ((1024 * c.val : ℕ) : Int) := by decide +kernel

theorem slQ4 (c : Dev nD) : S1024x4096.Slices ![0, 1024 * c.val] S1024x1024 := by revert c; decide
theorem slO4 (c : Dev nD) : S4096x1024.Slices ![1024 * c.val, 0] S1024x1024 := by revert c; decide

/-- Column `a` of device `d`'s columns of `Wq`, and row `a` of its rows of `Wo`. -/
def dcol (d : Fin 4) (a : Fin 1024) : Fin 4096 := ⟨1024 * d.val + a.val, by have := d.isLt; have := a.isLt; omega⟩

theorem in_x (c : Dev nD) (R i : Fin 1024) : (insOf m c).x (ix2 R i) = m ((c.tc : Thread nD τ).loc main_arg0) (ix3 (0 : Fin 1) R i) := by
  refine (congrFun (v5_eq m c) (ix2 R i)).trans (shapeCast_apply _ _ (ix2 R i) (ix3 (0 : Fin 1) R i) ?_)
  rw [Shape.rowMajor_val_two, Shape.rowMajor_val_three]
  show (0 * 1024 + R.val) * 1024 + i.val = R.val * 1024 + i.val
  omega

theorem in_wq (c : Dev nD) (i a : Fin 1024) : (insOf m c).wq (ix2 i a) = m ((c.tc : Thread nD τ).loc main_arg1) (ix2 i (dcol c a)) := by
  refine (congrFun (v10_eq m c) (ix2 i a)).trans ?_
  rw [Host.dynamicSlice_eq_extractStridedSlice S1024x1024 _ _ ![0, 1024 * c.val] sliceFits_S1024x4096_S1024x1024 (slQ4 c)
    (fun k => by match k with | 0 => rfl | 1 => exact startW_val c)]
  exact extractStridedSlice_apply _ _ _ (ix2 i a) (ix2 i (dcol c a)) (fun b => by match b with | ⟨0, _⟩ => exact (Nat.zero_add _).symm | ⟨1, _⟩ => rfl)

theorem in_wo (c : Dev nD) (a n : Fin 1024) : (insOf m c).wo (ix2 a n) = m ((c.tc : Thread nD τ).loc main_arg4) (ix2 (dcol c a) n) := by
  refine (congrFun (v15_eq m c) (ix2 a n)).trans ?_
  rw [Host.dynamicSlice_eq_extractStridedSlice S1024x1024 _ _ ![1024 * c.val, 0] sliceFits_S4096x1024_S1024x1024 (slO4 c)
    (fun k => by match k with | 0 => exact startW_val c | 1 => rfl)]
  exact extractStridedSlice_apply _ _ _ (ix2 a n) (ix2 (dcol c a) n) (fun b => by match b with | ⟨0, _⟩ => rfl | ⟨1, _⟩ => exact (Nat.zero_add _).symm)

/-- A row's heads laid side by side. -/
theorem flat_apply {α : Type} (x : S1x1024x8x128.Idx → α) (j : Fin 1024) (h : Fin 8) (t : Fin 128) (a : Fin 1024) (ha : a.val = 128 * h.val + t.val) :
    shapeCast S1024x1024 (shapeCast S1024x8x128 x shapeCasts_S1x1024x8x128_S1024x8x128) shapeCasts_S1024x8x128_S1024x1024 (ix2 j a) = x (ix4 (0 : Fin 1) j h t) := by
  refine (shapeCast_apply _ _ (ix2 j a) (ix3 j h t) ?_).trans (shapeCast_apply _ _ (ix3 j h t) (ix4 (0 : Fin 1) j h t) ?_)
  · rw [Shape.rowMajor_val_two, Shape.rowMajor_val_three]
    show (j.val * 8 + h.val) * 128 + t.val = j.val * 1024 + a.val
    omega
  · rw [Shape.rowMajor_val_three, Shape.rowMajor_val_four]
    show ((0 * 1024 + j.val) * 8 + h.val) * 128 + t.val = (j.val * 8 + h.val) * 128 + t.val
    omega

theorem in_k (c : Dev nD) (j : Fin 1024) (h : Fin 8) (t : Fin 128) (a : Fin 1024) (ha : a.val = 128 * h.val + t.val) :
    (insOf m c).k (ix2 j a) = m ((c.tc : Thread nD τ).loc main_arg2) (ix4 (0 : Fin 1) j h t) :=
  (congrFun (v17_eq m c) (ix2 j a)).trans (flat_apply _ j h t a ha)

theorem in_v (c : Dev nD) (j : Fin 1024) (h : Fin 8) (t : Fin 128) (a : Fin 1024) (ha : a.val = 128 * h.val + t.val) :
    (insOf m c).v (ix2 j a) = m ((c.tc : Thread nD τ).loc main_arg3) (ix4 (0 : Fin 1) j h t) :=
  (congrFun (v19_eq m c) (ix2 j a)).trans (flat_apply _ j h t a ha)

end Cert.KernelIdeal.Own

end
-- ==== Proof.Equation.lean ====
/-
  The kernel's result is the reference's: device `d`'s eight heads are heads `8d` to `8d+7` of the thirty-two, and the
  sum over the devices of their partial products is the product over all heads.
-/
module

public import proofs.«01_k».proof.Proof.OutValue
public import proofs.«01_k».proof.Proof.RefValue
public import proofs.«01_k».proof.Proof.HostValue

@[expose] public section

noncomputable section

open scoped BigOperators

namespace Cert.Proof.Equation

open Idealize.ShloMosaic Idealize.ShloMosaic.ValueIdx
open Cert.Proof.Weights Cert.KernelIdeal.Own Cert.ReferenceIdeal.Own

/-- Head `h` of device `d`'s eight, of all thirty-two. -/
def dhead (d : Fin 4) (h : Fin 8) : Fin 32 := ⟨8 * d.val + h.val, by have := d.isLt; have := h.isLt; omega⟩

theorem dcol_col (d : Fin 4) (h : Fin 8) (t : Fin 128) : dcol d (col h t) = gcol (dhead d h) t :=
  Fin.ext (by show 1024 * d.val + (128 * h.val + t.val) = 128 * (8 * d.val + h.val) + t.val; omega)

/-- All heads are the devices' heads. -/
theorem sum_heads (f : Fin 32 → EReal) : ∑ H, f H = ∑ d : Fin 4, ∑ h : Fin 8, f (dhead d h) := by
  rw [← Finset.sum_product' (f := fun d h => f (dhead d h))]
  refine (Finset.sum_bij (fun (p : Fin 4 × Fin 8) _ => dhead p.1 p.2) (fun _ _ => Finset.mem_univ _) (fun p _ q _ h => ?_) (fun a _ => ?_) (fun _ _ => rfl)).symm
  · have h' : 8 * p.1.val + p.2.val = 8 * q.1.val + q.2.val := congrArg Fin.val h
    have := p.2.isLt; have := q.2.isLt
    exact Prod.ext (Fin.ext (by omega)) (Fin.ext (by omega))
  · have := a.isLt
    exact ⟨(⟨a.val / 8, by omega⟩, ⟨a.val % 8, by omega⟩), Finset.mem_univ _, Fin.ext (by show 8 * (a.val / 8) + a.val % 8 = a.val; omega)⟩

/-- Scaling the queries is scaling the scores. -/
theorem score_eq (xr : Fin 1024 → Fin 1024 → ℝ) (qr : Fin 1024 → Fin 4096 → ℝ) (kr : Fin 1024 → Fin 32 → Fin 128 → ℝ) (krd : Fin 1024 → Fin 1024 → ℝ)
    (d : Fin 4) (hk : ∀ j h t, krd j (col h t) = kr j (dhead d h) t) (R : Fin 1024) (h : Fin 8) :
    score xr (fun i a => qr i (dcol d a)) krd R h = gscore xr qr kr (dhead d h) R := by
  funext j
  unfold score gscore
  rw [Finset.sum_mul]
  refine Finset.sum_congr rfl fun t _ => ?_
  rw [hk, ← dcol_col]
  ring

theorem value_eq (X : Fin 4 → Ins Ideal) (x : FVec Ideal Cert.ReferenceIdeal.S1x1024x1024 .bf16) (wq : FVec Ideal Cert.ReferenceIdeal.S1024x4096 .bf16)
    (k v : FVec Ideal Cert.ReferenceIdeal.S1x1024x32x128 .bf16) (wo : FVec Ideal Cert.ReferenceIdeal.S4096x1024 .bf16)
    (hx : ∀ d R i, ((X d).x (ix2 R i) : EReal) = x (ix3 (0 : Fin 1) R i)) (hq : ∀ d i a, ((X d).wq (ix2 i a) : EReal) = wq (ix2 i (dcol d a)))
    (hk : ∀ d j h t, ((X d).k (ix2 j (col h t)) : EReal) = k (ix4 (0 : Fin 1) j (dhead d h) t))
    (hv : ∀ d j h t, ((X d).v (ix2 j (col h t)) : EReal) = v (ix4 (0 : Fin 1) j (dhead d h) t))
    (ho : ∀ d a n, ((X d).wo (ix2 a n) : EReal) = wo (ix2 (dcol d a) n))
    (xr : Fin 1024 → Fin 1024 → ℝ) (qr : Fin 1024 → Fin 4096 → ℝ) (kr : Fin 1024 → Fin 32 → Fin 128 → ℝ)
    (fx : ∀ R i, (x (ix3 (0 : Fin 1) R i) : EReal) = xr R i) (fq : ∀ i n, (wq (ix2 i n) : EReal) = qr i n)
    (fk : ∀ j H t, (k (ix4 (0 : Fin 1) j H t) : EReal) = kr j H t) (c : Fin 4) (R n : Fin 1024) :
    (outC (F := Ideal) X c (ix3 (0 : Fin 1) R n) : EReal) = outR x wq k v wo (ix3 (0 : Fin 1) R n) := by
  have hcol : ∀ a : Fin 1024, a = col ⟨a.val / 128, by have := a.isLt; omega⟩ ⟨a.val % 128, by omega⟩ := fun a =>
    Fin.ext (by show a.val = 128 * (a.val / 128) + a.val % 128; omega)
  let krd : Fin 4 → Fin 1024 → Fin 1024 → ℝ := fun d j a => kr j (dhead d ⟨a.val / 128, by have := a.isLt; omega⟩) ⟨a.val % 128, by omega⟩
  have hkrd : ∀ d j h t, krd d j (col h t) = kr j (dhead d h) t := fun d j h t => by
    have := t.isLt
    refine congrArg₂ (fun a b => kr j (dhead d a) b) (Fin.ext ?_) (Fin.ext ?_)
    · show (128 * h.val + t.val) / 128 = h.val; omega
    · show (128 * h.val + t.val) % 128 = t.val; omega
  refine (outC_apply X xr (fun d i a => qr i (dcol d a)) krd (fun d R i => (hx d R i).trans (fx R i)) (fun d i a => (hq d i a).trans (fq i _))
    (fun d j a => ?_) c R n).trans ?_
  · rw [hcol a, hk, fk, hkrd]
  · rw [outR_apply x wq k v wo xr qr kr fx fq fk, sum_heads]
    refine Finset.sum_congr rfl fun d _ => Finset.sum_congr rfl fun h _ => Finset.sum_congr rfl fun t _ => ?_
    refine congrArg₂ (· * ·) ?_ ?_
    · unfold ctxv gctx
      rw [score_eq xr qr kr (krd d) d (hkrd d)]
      exact congrArg (attn (keep R) _) (funext fun j => hv d j h t)
    · rw [ho, dcol_col]

end Cert.Proof.Equation

end
-- ==== Proof.Agree.lean ====
/-
  From the precondition and from what the devices' arguments hold of the reference's, the kernel's result on every
  device is the reference's result.
-/
module

public import proofs.«01_k».proof.Defs
public import proofs.«01_k».proof.Proof.Equation

@[expose] public section

noncomputable section

open scoped BigOperators

namespace Cert.Proof.Agree

open Idealize.ShloMosaic Idealize.ShloMosaic.ValueIdx Idealize.SL.Sem
open Cert.Proof.Equation Cert.KernelIdeal.Own Cert.ReferenceIdeal.Own

instance preK : Cert.Pre_finite_scores_KernelIdeal.Facts where
  bitsLt_bf16_f32 := by decide
  bcast_S_S1x1024x1024 := by decide
  bcast_S_S1024x4096 := by decide
  bcast_S_S1x1024x8x128 := by decide

instance preR : Cert.Pre_finite_scores_ReferenceIdeal.Facts where
  bitsLt_bf16_f32 := by decide
  bcast_S_S1x1024x1024 := by decide
  bcast_S_S1024x4096 := by decide
  bcast_S_S1x1024x32x128 := by decide

theorem ofBits_inf : Ideal.ofBits .f32 0x7F800000#32 = ⊤ := by simp [Ideal.ofBits, Ideal.ieee]

/-- An extended real whose absolute value is below plus infinity is real. -/
theorem real_of_abs {x : EReal} (h : FloatOps.cmpf (F := Ideal) (φ := .f32) .olt (FloatOps.hostAbsf (F := Ideal) (φ := .f32) x) (Ideal.ofBits .f32 0x7F800000#32) = 1#1) :
    x = ((x.toReal : ℝ) : EReal) := by
  rw [ofBits_inf] at h
  induction x with
  | bot => simp [Ideal.cmp, FloatOps.cmpf, FloatOps.hostAbsf, FloatOps.absf] at h
  | top => simp [Ideal.cmp, FloatOps.cmpf, FloatOps.hostAbsf, FloatOps.absf] at h
  | coe r => rw [EReal.toReal_coe]

/-- Device `d`'s heads of the whole array. -/
theorem block_heads {α : Type} (v : (⟨4, ![1, 1024, 32, 128]⟩ : Shape).Idx → α) (d : Fin 4) (j : Fin 1024) (h : Fin 8) (t : Fin 128) :
    Layout.block ⟨4, ![1, 1024, 8, 128]⟩ ⟨4, ![1, 1024, 32, 128]⟩ 2 4 d v (by decide) (ix4 (0 : Fin 1) j h t) = v (ix4 (0 : Fin 1) j (dhead d h) t) := by
  rw [Layout.block_apply]
  refine congrArg v (funext fun b => Fin.ext ?_)
  match b with
  | ⟨0, _⟩ => rfl
  | ⟨1, _⟩ => rfl
  | ⟨2, _⟩ => show d.val * 8 + h.val = 8 * d.val + h.val; omega
  | ⟨3, _⟩ => rfl

open Cert.KernelIdeal in
theorem agree (m : (ℓ : Loc nD τ sig) → Buf (Elt Ideal) ℓ) (hpre : Cert.Pre_KernelIdeal_finite_scores_KernelIdeal m)
    (x : FVec Ideal Cert.ReferenceIdeal.S1x1024x1024 .bf16) (wq : FVec Ideal Cert.ReferenceIdeal.S1024x4096 .bf16)
    (k v : FVec Ideal Cert.ReferenceIdeal.S1x1024x32x128 .bf16) (wo : FVec Ideal Cert.ReferenceIdeal.S4096x1024 .bf16)
    (hx : ∀ d : Dev nD, m ((d.tc : Thread nD τ).loc main_arg0) = x) (hq : ∀ d : Dev nD, m ((d.tc : Thread nD τ).loc main_arg1) = wq)
    (hk : ∀ d : Dev nD, m ((d.tc : Thread nD τ).loc main_arg2) = Layout.block ⟨4, ![1, 1024, 8, 128]⟩ ⟨4, ![1, 1024, 32, 128]⟩ 2 4 d k)
    (hv : ∀ d : Dev nD, m ((d.tc : Thread nD τ).loc main_arg3) = Layout.block ⟨4, ![1, 1024, 8, 128]⟩ ⟨4, ![1, 1024, 32, 128]⟩ 2 4 d v)
    (ho : ∀ d : Dev nD, m ((d.tc : Thread nD τ).loc main_arg4) = wo) (c : Dev nD) :
    (outC (F := Ideal) (insOf m) c : Cert.ReferenceIdeal.S1x1024x1024.Idx → EReal) = outR x wq k v wo := by
  funext i
  obtain ⟨a, R, n, rfl⟩ : ∃ (a : Fin 1) (R n : Fin 1024), i = ix3 a R n := ⟨_, _, _, eq_ix3 i⟩
  obtain rfl : a = 0 := Subsingleton.elim _ _
  have hkd : ∀ (d : Fin 4) j h t, m ((Dev.tc d : Thread nD τ).loc main_arg2) (ix4 (0 : Fin 1) j h t) = k (ix4 (0 : Fin 1) j (dhead d h) t) := fun d j h t =>
    (congrFun (hk d) _).trans (block_heads k d j h t)
  refine value_eq (insOf m) x wq k v wo (fun d R i => (in_x m d R i).trans (congrFun (hx d) _)) (fun d i a => (in_wq m d i a).trans (congrFun (hq d) _))
    (fun d j h t => (in_k m d j h t _ rfl).trans (hkd d j h t))
    (fun d j h t => (in_v m d j h t _ rfl).trans ((congrFun (hv d) _).trans (block_heads v d j h t)))
    (fun d a n => (in_wo m d a n).trans (congrFun (ho d) _))
    (fun R i => (x (ix3 (0 : Fin 1) R i) : EReal).toReal) (fun i n => (wq (ix2 i n) : EReal).toReal) (fun j H t => (k (ix4 (0 : Fin 1) j H t) : EReal).toReal)
    (fun R i => ?_) (fun i n => ?_) (fun j H t => ?_) c R n
  · rw [← hx 0]; exact real_of_abs (congrFun (hpre 0).1 (ix3 (0 : Fin 1) R i))
  · rw [← hq 0]; exact real_of_abs (congrFun (hpre 0).2.1 (ix2 i n))
  · have e : H = dhead ⟨H.val / 8, by have := H.isLt; omega⟩ ⟨H.val % 8, by omega⟩ := Fin.ext (by show H.val = 8 * (H.val / 8) + H.val % 8; omega)
    rw [e, ← hkd]
    exact real_of_abs (congrFun (hpre _).2.2 (ix4 (0 : Fin 1) j _ t))

theorem algebraic : Cert.algebraic_KernelIdeal_ReferenceIdeal_pre_finite_scores_KernelIdeal := by
  intro m ρ m' ρ' hpre hagree
  refine ⟨Cert.ReferenceIdeal.Value.res_main_v38 (F := Ideal) m' 0, (θ_run Cert.KernelIdeal.defs _ _).mono (fun r h c => ⟨(h.1 c).2.trans ?_, (h.1 c).1⟩)
    (Cert.KernelIdeal.Own.run_main (F := Ideal) m ρ), (θ_run Cert.ReferenceIdeal.defs _ _).mono (fun _ h => h 0) (Cert.ReferenceIdeal.Value.run (F := Ideal) m' ρ')⟩
  rw [res_eq]
  exact agree m hpre _ _ _ _ _ (fun d => (hagree d).1) (fun d => (hagree d).2.1) (fun d => (hagree d).2.2.1) (fun d => (hagree d).2.2.2.1)
    (fun d => (hagree d).2.2.2.2) c

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to its end, leaves its arguments alone and has no semaphore to leave raised. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Agree.preK, Agree.preR,
  Frames.frame_p, Frames.frame_pi, fun m ρ _ => Frames.frame_pi m ρ trivial, frame_ri, fun m ρ _ => frame_ri m ρ trivial, Frames.preserves,
  Agree.algebraic⟩

end Cert.Proof

end
